-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_KernelIdeal [hPre_finite_router_KernelIdeal : Cert.Pre_finite_router_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_ReferenceIdeal [hPre_finite_router_ReferenceIdeal : Cert.Pre_finite_router_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router_KernelIdeal [hKernelIdeal : Cert.KernelIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router_ReferenceIdeal [hReferenceIdeal : Cert.ReferenceIdeal.Facts] [hPre_finite_router_ReferenceIdeal : Cert.Pre_finite_router_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router_KernelIdeal [hKernelIdeal : Cert.KernelIdeal.Facts] [hReferenceIdeal : Cert.ReferenceIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router_KernelIdeal : Cert.Pre_finite_router_KernelIdeal.Facts) (hPre_finite_router_ReferenceIdeal : Cert.Pre_finite_router_ReferenceIdeal.Facts),
    quiescent_Kernel (hKernel := hKernel)
    ∧ quiescent_KernelIdeal (hKernelIdeal := hKernelIdeal)
    ∧ quiescent_KernelIdeal_pre_finite_router_KernelIdeal (hKernelIdeal := hKernelIdeal) (hPre_finite_router_KernelIdeal := hPre_finite_router_KernelIdeal)
    ∧ quiescent_ReferenceIdeal (hReferenceIdeal := hReferenceIdeal)
    ∧ quiescent_ReferenceIdeal_pre_finite_router_ReferenceIdeal (hReferenceIdeal := hReferenceIdeal) (hPre_finite_router_ReferenceIdeal := hPre_finite_router_ReferenceIdeal)
    ∧ preserves_Kernel_KernelIdeal
    ∧ algebraic_KernelIdeal_ReferenceIdeal_pre_finite_router_KernelIdeal (hKernelIdeal := hKernelIdeal) (hReferenceIdeal := hReferenceIdeal) (hPre_finite_router_KernelIdeal := hPre_finite_router_KernelIdeal)
-- ==== Pre_finite_router_KernelIdeal.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S2048x512 .f32) (main_arg1 : FVec F S512x32 .f32) (main_arg2 : IVec S2048x1 32) (main_arg3 : FVec F S4x512x1024 .f32) (main_arg4 : FVec F S512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  main_v8
-- ==== Pre_finite_router_ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S512x1024 : Shape := ⟨2, ![512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S2048x512 .f32) (main_arg1 : FVec F S512x32 .f32) (main_arg2 : IVec S2048x1 32) (main_arg3 : FVec F S32x512x1024 .f32) (main_arg4 : FVec F S512x1024 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  main_v8
-- ==== Kernel.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S4x2048x512 : Shape := ⟨3, ![4, 2048, 512]⟩
abbrev S12x7x64x384 : Shape := ⟨4, ![12, 7, 64, 384]⟩
abbrev S12x7 : Shape := ⟨2, ![12, 7]⟩
abbrev S2048x32 : Shape := ⟨2, ![2048, 32]⟩
abbrev S2048 : Shape := ⟨1, ![2048]⟩
abbrev S1x2048x512 : Shape := ⟨3, ![1, 2048, 512]⟩
abbrev S_ : Shape := ⟨0, ![]⟩
abbrev S2048x384 : Shape := ⟨2, ![2048, 384]⟩
abbrev S1x512x1024 : Shape := ⟨3, ![1, 512, 1024]⟩
abbrev S512x384 : Shape := ⟨2, ![512, 384]⟩
abbrev S1x1 : Shape := ⟨2, ![1, 1]⟩
abbrev S1x1x64x384 : Shape := ⟨4, ![1, 1, 64, 384]⟩
abbrev S64x384 : Shape := ⟨2, ![64, 384]⟩
abbrev S2048x256 : Shape := ⟨2, ![2048, 256]⟩
abbrev S512x256 : Shape := ⟨2, ![512, 256]⟩
abbrev S1x1x64x256 : Shape := ⟨4, ![1, 1, 64, 256]⟩
abbrev S64x256 : Shape := ⟨2, ![64, 256]⟩
abbrev S256x512 : Shape := ⟨2, ![256, 512]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S4x512x1024, .f32⟩
  | .hbm, ⟨4, _⟩ => ⟨S512x1024, .f32⟩
  | .hbm, ⟨5, _⟩ => ⟨S2048x1024, .bf16⟩
  | .local _ .vmem, ⟨0, _⟩ => ⟨S2048x512, .f32⟩
  | .local _ .vmem, ⟨1, _⟩ => ⟨S512x32, .f32⟩
  | .local _ .vmem, ⟨2, _⟩ => ⟨S2048x1, .i32⟩
  | .local _ .vmem, ⟨3, _⟩ => ⟨S4x512x1024, .f32⟩
  | .local _ .vmem, ⟨4, _⟩ => ⟨S512x1024, .f32⟩
  | .local _ .vmem, ⟨5, _⟩ => ⟨S2048x1024, .bf16⟩
  | .local _ .vmem, ⟨6, _⟩ => ⟨S2048x1024, .bf16⟩
  | .local _ .vmem, ⟨7, _⟩ => ⟨S4x2048x512, .bf16⟩
  | .local _ .vmem, ⟨8, _⟩ => ⟨S12x7x64x384, .bf16⟩
  | _, _ => ⟨S2048x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 342 → Bool
  | ⟨i, _⟩ => dmaSemScopedAt i

abbrev sig : RefSig :=
  (ofTc nBuf bufTy 1 342 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_30 : BitVec 32 := 1#32
  let v82 : BitVec 32 := Scalar.xori v8 c1_i32_30
  let c4_i32_31 : BitVec 32 := 4#32
  let v83 : BitVec 32 := Scalar.andi v82 c4_i32_31
  let c3_i32_32 : BitVec 32 := 3#32
  let v84 : BitVec 32 := Scalar.andi v82 c3_i32_32
  let c3_i32_33 : BitVec 32 := 3#32
  let v85 : BitVec 32 := Scalar.andi v82 c3_i32_33
  let c1_i32_34 : BitVec 32 := 1#32
  let v86 : BitVec 32 := Scalar.shrsi v85 c1_i32_34
  let v87 : BitVec 32 := Scalar.xori v84 v86
  let v88 : BitVec 32 := Scalar.ori v83 v87
  let c1_i32_36 : BitVec 32 := 1#32
  let v89 : BitVec 32 := Scalar.muli v88 c1_i32_36
  let v90 : BitVec 32 := Scalar.addi c0_i32_37 v89
  v90.toNat
def k0_dev2 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_38 : BitVec 32 := 2#32
  let v91 : BitVec 32 := Scalar.xori v8 c2_i32_38
  let c4_i32_39 : BitVec 32 := 4#32
  let v92 : BitVec 32 := Scalar.andi v91 c4_i32_39
  let c3_i32_40 : BitVec 32 := 3#32
  let v93 : BitVec 32 := Scalar.andi v91 c3_i32_40
  let c3_i32_41 : BitVec 32 := 3#32
  let v94 : BitVec 32 := Scalar.andi v91 c3_i32_41
  let c1_i32_42 : BitVec 32 := 1#32
  let v95 : BitVec 32 := Scalar.shrsi v94 c1_i32_42
  let v96 : BitVec 32 := Scalar.xori v93 v95
  let v97 : BitVec 32 := Scalar.ori v92 v96
  let c1_i32_44 : BitVec 32 := 1#32
  let v98 : BitVec 32 := Scalar.muli v97 c1_i32_44
  let v99 : BitVec 32 := Scalar.addi c0_i32_45 v98
  v99.toNat
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_46 : BitVec 32 := 4#32
  let v100 : BitVec 32 := Scalar.xori v8 c4_i32_46
  let c4_i32_47 : BitVec 32 := 4#32
  let v101 : BitVec 32 := Scalar.andi v100 c4_i32_47
  let c3_i32_48 : BitVec 32 := 3#32
  let v102 : BitVec 32 := Scalar.andi v100 c3_i32_48
  let c3_i32_49 : BitVec 32 := 3#32
  let v103 : BitVec 32 := Scalar.andi v100 c3_i32_49
  let c1_i32_50 : BitVec 32 := 1#32
  let v104 : BitVec 32 := Scalar.shrsi v103 c1_i32_50
  let v105 : BitVec 32 := Scalar.xori v102 v104
  let v106 : BitVec 32 := Scalar.ori v101 v105
  let c1_i32_52 : BitVec 32 := 1#32
  let v107 : BitVec 32 := Scalar.muli v106 c1_i32_52
  let v108 : BitVec 32 := Scalar.addi c0_i32_53 v107
  v108.toNat
def k0_off1 (d0 : Dev nD) (c1_i32_91 : BitVec 32) (c1_i32_92 : BitVec 32) (c0_i32_93 : BitVec 32) (c0_i32_94 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let v153 : BitVec 32 := Scalar.xori v8 c1_i32_91
  let v154 : BitVec 32 := Scalar.andi v153 c1_i32_92
  let v155 : BitVec 32 := Scalar.ori v154 c0_i32_93
  let c256_i32 : BitVec 32 := 256#32
  let v156 : BitVec 32 := Scalar.muli v155 c256_i32
  let v157 : BitVec 32 := Scalar.addi v156 c0_i32_94
  let c0_i32_105 : BitVec 32 := 0#32
  ![v157.toNat, 0]
def k0_off1_at (r : Fin 28) : BitVec 32 × BitVec 32 × BitVec 32 × BitVec 32 :=
  if r.val < 14 then
    if r.val < 7 then
      if r.val < 3 then
        if r.val < 1 then
          (1#32, 1#32, 0#32, 0#32)
        else
          if r.val < 2 then
            (1#32, 1#32, 2#32, 0#32)
          else
            (1#32, 1#32, 4#32, 0#32)
      else
        if r.val < 5 then
          if r.val < 4 then
            (1#32, 1#32, 6#32, 0#32)
          else
            (1#32, 1#32, 0#32, 64#32)
        else
          if r.val < 6 then
            (1#32, 1#32, 2#32, 64#32)
          else
            (1#32, 1#32, 4#32, 64#32)
    else
      if r.val < 10 then
        if r.val < 8 then
          (1#32, 1#32, 6#32, 64#32)
        else
          if r.val < 9 then
            (1#32, 1#32, 0#32, 128#32)
          else
            (1#32, 1#32, 2#32, 128#32)
      else
        if r.val < 12 then
          if r.val < 11 then
            (1#32, 1#32, 4#32, 128#32)
          else
            (1#32, 1#32, 6#32, 128#32)
        else
          if r.val < 13 then
            (1#32, 1#32, 0#32, 192#32)
          else
            (1#32, 1#32, 2#32, 192#32)
  else
    if r.val < 21 then
      if r.val < 17 then
        if r.val < 15 then
          (1#32, 1#32, 4#32, 192#32)
        else
          if r.val < 16 then
            (1#32, 1#32, 6#32, 192#32)
          else
            (2#32, 3#32, 0#32, 0#32)
      else
        if r.val < 19 then
          if r.val < 18 then
            (2#32, 3#32, 4#32, 0#32)
          else
            (2#32, 3#32, 0#32, 64#32)
        else
          if r.val < 20 then
            (2#32, 3#32, 4#32, 64#32)
          else
            (2#32, 3#32, 0#32, 128#32)
    else
      if r.val < 24 then
        if r.val < 22 then
          (2#32, 3#32, 4#32, 128#32)
        else
          if r.val < 23 then
            (2#32, 3#32, 0#32, 192#32)
          else
            (2#32, 3#32, 4#32, 192#32)
      else
        if r.val < 26 then
          if r.val < 25 then
            (4#32, 7#32, 0#32, 0#32)
          else
            (4#32, 7#32, 0#32, 64#32)
        else
          if r.val < 27 then
            (4#32, 7#32, 0#32, 128#32)
          else
            (4#32, 7#32, 0#32, 192#32)
def k0_dev4 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_86 : BitVec 32 := 1#32
  let v146 : BitVec 32 := Scalar.xori v8 c1_i32_86
  let c4_i32_87 : BitVec 32 := 4#32
  let v147 : BitVec 32 := Scalar.andi v146 c4_i32_87
  let c3_i32_88 : BitVec 32 := 3#32
  let v148 : BitVec 32 := Scalar.andi v146 c3_i32_88
  let c3_i32_89 : BitVec 32 := 3#32
  let v149 : BitVec 32 := Scalar.andi v146 c3_i32_89
  let c1_i32_90 : BitVec 32 := 1#32
  let v150 : BitVec 32 := Scalar.shrsi v149 c1_i32_90
  let v151 : BitVec 32 := Scalar.xori v148 v150
  let v152 : BitVec 32 := Scalar.ori v147 v151
  let c1_i32_101 : BitVec 32 := 1#32
  let v158 : BitVec 32 := Scalar.muli v152 c1_i32_101
  let v159 : BitVec 32 := Scalar.addi c0_i32_102 v158
  v159.toNat
def k0_dev5 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_86 : BitVec 32 := 1#32
  let v146 : BitVec 32 := Scalar.xori v8 c1_i32_86
  let c4_i32_87 : BitVec 32 := 4#32
  let v147 : BitVec 32 := Scalar.andi v146 c4_i32_87
  let c3_i32_88 : BitVec 32 := 3#32
  let v148 : BitVec 32 := Scalar.andi v146 c3_i32_88
  let c3_i32_89 : BitVec 32 := 3#32
  let v149 : BitVec 32 := Scalar.andi v146 c3_i32_89
  let c1_i32_90 : BitVec 32 := 1#32
  let v150 : BitVec 32 := Scalar.shrsi v149 c1_i32_90
  let v151 : BitVec 32 := Scalar.xori v148 v150
  let v152 : BitVec 32 := Scalar.ori v147 v151
  let c1_i32_119 : BitVec 32 := 1#32
  let v174 : BitVec 32 := Scalar.muli v152 c1_i32_119
  let v175 : BitVec 32 := Scalar.addi c0_i32_120 v174
  v175.toNat
def k0_dev6 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_86 : BitVec 32 := 1#32
  let v146 : BitVec 32 := Scalar.xori v8 c1_i32_86
  let c4_i32_87 : BitVec 32 := 4#32
  let v147 : BitVec 32 := Scalar.andi v146 c4_i32_87
  let c3_i32_88 : BitVec 32 := 3#32
  let v148 : BitVec 32 := Scalar.andi v146 c3_i32_88
  let c3_i32_89 : BitVec 32 := 3#32
  let v149 : BitVec 32 := Scalar.andi v146 c3_i32_89
  let c1_i32_90 : BitVec 32 := 1#32
  let v150 : BitVec 32 := Scalar.shrsi v149 c1_i32_90
  let v151 : BitVec 32 := Scalar.xori v148 v150
  let v152 : BitVec 32 := Scalar.ori v147 v151
  let c1_i32_137 : BitVec 32 := 1#32
  let v190 : BitVec 32 := Scalar.muli v152 c1_i32_137
  let v191 : BitVec 32 := Scalar.addi c0_i32_138 v190
  v191.toNat
def k0_dev7 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_86 : BitVec 32 := 1#32
  let v146 : BitVec 32 := Scalar.xori v8 c1_i32_86
  let c4_i32_87 : BitVec 32 := 4#32
  let v147 : BitVec 32 := Scalar.andi v146 c4_i32_87
  let c3_i32_88 : BitVec 32 := 3#32
  let v148 : BitVec 32 := Scalar.andi v146 c3_i32_88
  let c3_i32_89 : BitVec 32 := 3#32
  let v149 : BitVec 32 := Scalar.andi v146 c3_i32_89
  let c1_i32_90 : BitVec 32 := 1#32
  let v150 : BitVec 32 := Scalar.shrsi v149 c1_i32_90
  let v151 : BitVec 32 := Scalar.xori v148 v150
  let v152 : BitVec 32 := Scalar.ori v147 v151
  let c1_i32_154 : BitVec 32 := 1#32
  let v206 : BitVec 32 := Scalar.muli v152 c1_i32_154
  let v207 : BitVec 32 := Scalar.addi c0_i32_155 v206
  v207.toNat
def k0_dev8 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_161 : BitVec 32 := 1#32
  let v217 : BitVec 32 := Scalar.xori v8 c1_i32_161
  let c4_i32_162 : BitVec 32 := 4#32
  let v218 : BitVec 32 := Scalar.andi v217 c4_i32_162
  let c3_i32_163 : BitVec 32 := 3#32
  let v219 : BitVec 32 := Scalar.andi v217 c3_i32_163
  let c3_i32_164 : BitVec 32 := 3#32
  let v220 : BitVec 32 := Scalar.andi v217 c3_i32_164
  let c1_i32_165 : BitVec 32 := 1#32
  let v221 : BitVec 32 := Scalar.shrsi v220 c1_i32_165
  let v222 : BitVec 32 := Scalar.xori v219 v221
  let v223 : BitVec 32 := Scalar.ori v218 v222
  let c1_i32_176 : BitVec 32 := 1#32
  let v229 : BitVec 32 := Scalar.muli v223 c1_i32_176
  let v230 : BitVec 32 := Scalar.addi c0_i32_177 v229
  v230.toNat
def k0_dev9 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_161 : BitVec 32 := 1#32
  let v217 : BitVec 32 := Scalar.xori v8 c1_i32_161
  let c4_i32_162 : BitVec 32 := 4#32
  let v218 : BitVec 32 := Scalar.andi v217 c4_i32_162
  let c3_i32_163 : BitVec 32 := 3#32
  let v219 : BitVec 32 := Scalar.andi v217 c3_i32_163
  let c3_i32_164 : BitVec 32 := 3#32
  let v220 : BitVec 32 := Scalar.andi v217 c3_i32_164
  let c1_i32_165 : BitVec 32 := 1#32
  let v221 : BitVec 32 := Scalar.shrsi v220 c1_i32_165
  let v222 : BitVec 32 := Scalar.xori v219 v221
  let v223 : BitVec 32 := Scalar.ori v218 v222
  let c1_i32_194 : BitVec 32 := 1#32
  let v245 : BitVec 32 := Scalar.muli v223 c1_i32_194
  let v246 : BitVec 32 := Scalar.addi c0_i32_195 v245
  v246.toNat
def k0_dev10 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_161 : BitVec 32 := 1#32
  let v217 : BitVec 32 := Scalar.xori v8 c1_i32_161
  let c4_i32_162 : BitVec 32 := 4#32
  let v218 : BitVec 32 := Scalar.andi v217 c4_i32_162
  let c3_i32_163 : BitVec 32 := 3#32
  let v219 : BitVec 32 := Scalar.andi v217 c3_i32_163
  let c3_i32_164 : BitVec 32 := 3#32
  let v220 : BitVec 32 := Scalar.andi v217 c3_i32_164
  let c1_i32_165 : BitVec 32 := 1#32
  let v221 : BitVec 32 := Scalar.shrsi v220 c1_i32_165
  let v222 : BitVec 32 := Scalar.xori v219 v221
  let v223 : BitVec 32 := Scalar.ori v218 v222
  let c1_i32_212 : BitVec 32 := 1#32
  let v261 : BitVec 32 := Scalar.muli v223 c1_i32_212
  let v262 : BitVec 32 := Scalar.addi c0_i32_213 v261
  v262.toNat
def k0_dev11 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_161 : BitVec 32 := 1#32
  let v217 : BitVec 32 := Scalar.xori v8 c1_i32_161
  let c4_i32_162 : BitVec 32 := 4#32
  let v218 : BitVec 32 := Scalar.andi v217 c4_i32_162
  let c3_i32_163 : BitVec 32 := 3#32
  let v219 : BitVec 32 := Scalar.andi v217 c3_i32_163
  let c3_i32_164 : BitVec 32 := 3#32
  let v220 : BitVec 32 := Scalar.andi v217 c3_i32_164
  let c1_i32_165 : BitVec 32 := 1#32
  let v221 : BitVec 32 := Scalar.shrsi v220 c1_i32_165
  let v222 : BitVec 32 := Scalar.xori v219 v221
  let v223 : BitVec 32 := Scalar.ori v218 v222
  let c1_i32_230 : BitVec 32 := 1#32
  let v277 : BitVec 32 := Scalar.muli v223 c1_i32_230
  let v278 : BitVec 32 := Scalar.addi c0_i32_231 v277
  v278.toNat
def k0_dev12 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_237 : BitVec 32 := 1#32
  let v288 : BitVec 32 := Scalar.xori v8 c1_i32_237
  let c4_i32_238 : BitVec 32 := 4#32
  let v289 : BitVec 32 := Scalar.andi v288 c4_i32_238
  let c3_i32_239 : BitVec 32 := 3#32
  let v290 : BitVec 32 := Scalar.andi v288 c3_i32_239
  let c3_i32_240 : BitVec 32 := 3#32
  let v291 : BitVec 32 := Scalar.andi v288 c3_i32_240
  let c1_i32_241 : BitVec 32 := 1#32
  let v292 : BitVec 32 := Scalar.shrsi v291 c1_i32_241
  let v293 : BitVec 32 := Scalar.xori v290 v292
  let v294 : BitVec 32 := Scalar.ori v289 v293
  let c1_i32_252 : BitVec 32 := 1#32
  let v300 : BitVec 32 := Scalar.muli v294 c1_i32_252
  let v301 : BitVec 32 := Scalar.addi c0_i32_253 v300
  v301.toNat
def k0_dev13 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_237 : BitVec 32 := 1#32
  let v288 : BitVec 32 := Scalar.xori v8 c1_i32_237
  let c4_i32_238 : BitVec 32 := 4#32
  let v289 : BitVec 32 := Scalar.andi v288 c4_i32_238
  let c3_i32_239 : BitVec 32 := 3#32
  let v290 : BitVec 32 := Scalar.andi v288 c3_i32_239
  let c3_i32_240 : BitVec 32 := 3#32
  let v291 : BitVec 32 := Scalar.andi v288 c3_i32_240
  let c1_i32_241 : BitVec 32 := 1#32
  let v292 : BitVec 32 := Scalar.shrsi v291 c1_i32_241
  let v293 : BitVec 32 := Scalar.xori v290 v292
  let v294 : BitVec 32 := Scalar.ori v289 v293
  let c1_i32_270 : BitVec 32 := 1#32
  let v316 : BitVec 32 := Scalar.muli v294 c1_i32_270
  let v317 : BitVec 32 := Scalar.addi c0_i32_271 v316
  v317.toNat
def k0_dev14 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_237 : BitVec 32 := 1#32
  let v288 : BitVec 32 := Scalar.xori v8 c1_i32_237
  let c4_i32_238 : BitVec 32 := 4#32
  let v289 : BitVec 32 := Scalar.andi v288 c4_i32_238
  let c3_i32_239 : BitVec 32 := 3#32
  let v290 : BitVec 32 := Scalar.andi v288 c3_i32_239
  let c3_i32_240 : BitVec 32 := 3#32
  let v291 : BitVec 32 := Scalar.andi v288 c3_i32_240
  let c1_i32_241 : BitVec 32 := 1#32
  let v292 : BitVec 32 := Scalar.shrsi v291 c1_i32_241
  let v293 : BitVec 32 := Scalar.xori v290 v292
  let v294 : BitVec 32 := Scalar.ori v289 v293
  let c1_i32_288 : BitVec 32 := 1#32
  let v332 : BitVec 32 := Scalar.muli v294 c1_i32_288
  let v333 : BitVec 32 := Scalar.addi c0_i32_289 v332
  v333.toNat
def k0_dev15 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_237 : BitVec 32 := 1#32
  let v288 : BitVec 32 := Scalar.xori v8 c1_i32_237
  let c4_i32_238 : BitVec 32 := 4#32
  let v289 : BitVec 32 := Scalar.andi v288 c4_i32_238
  let c3_i32_239 : BitVec 32 := 3#32
  let v290 : BitVec 32 := Scalar.andi v288 c3_i32_239
  let c3_i32_240 : BitVec 32 := 3#32
  let v291 : BitVec 32 := Scalar.andi v288 c3_i32_240
  let c1_i32_241 : BitVec 32 := 1#32
  let v292 : BitVec 32 := Scalar.shrsi v291 c1_i32_241
  let v293 : BitVec 32 := Scalar.xori v290 v292
  let v294 : BitVec 32 := Scalar.ori v289 v293
  let c1_i32_306 : BitVec 32 := 1#32
  let v348 : BitVec 32 := Scalar.muli v294 c1_i32_306
  let v349 : BitVec 32 := Scalar.addi c0_i32_307 v348
  v349.toNat
def k0_dev16 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_313 : BitVec 32 := 1#32
  let v359 : BitVec 32 := Scalar.xori v8 c1_i32_313
  let c4_i32_314 : BitVec 32 := 4#32
  let v360 : BitVec 32 := Scalar.andi v359 c4_i32_314
  let c3_i32_315 : BitVec 32 := 3#32
  let v361 : BitVec 32 := Scalar.andi v359 c3_i32_315
  let c3_i32_316 : BitVec 32 := 3#32
  let v362 : BitVec 32 := Scalar.andi v359 c3_i32_316
  let c1_i32_317 : BitVec 32 := 1#32
  let v363 : BitVec 32 := Scalar.shrsi v362 c1_i32_317
  let v364 : BitVec 32 := Scalar.xori v361 v363
  let v365 : BitVec 32 := Scalar.ori v360 v364
  let c1_i32_328 : BitVec 32 := 1#32
  let v371 : BitVec 32 := Scalar.muli v365 c1_i32_328
  let v372 : BitVec 32 := Scalar.addi c0_i32_329 v371
  v372.toNat
def k0_dev17 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_313 : BitVec 32 := 1#32
  let v359 : BitVec 32 := Scalar.xori v8 c1_i32_313
  let c4_i32_314 : BitVec 32 := 4#32
  let v360 : BitVec 32 := Scalar.andi v359 c4_i32_314
  let c3_i32_315 : BitVec 32 := 3#32
  let v361 : BitVec 32 := Scalar.andi v359 c3_i32_315
  let c3_i32_316 : BitVec 32 := 3#32
  let v362 : BitVec 32 := Scalar.andi v359 c3_i32_316
  let c1_i32_317 : BitVec 32 := 1#32
  let v363 : BitVec 32 := Scalar.shrsi v362 c1_i32_317
  let v364 : BitVec 32 := Scalar.xori v361 v363
  let v365 : BitVec 32 := Scalar.ori v360 v364
  let c1_i32_346 : BitVec 32 := 1#32
  let v387 : BitVec 32 := Scalar.muli v365 c1_i32_346
  let v388 : BitVec 32 := Scalar.addi c0_i32_347 v387
  v388.toNat
def k0_dev18 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_313 : BitVec 32 := 1#32
  let v359 : BitVec 32 := Scalar.xori v8 c1_i32_313
  let c4_i32_314 : BitVec 32 := 4#32
  let v360 : BitVec 32 := Scalar.andi v359 c4_i32_314
  let c3_i32_315 : BitVec 32 := 3#32
  let v361 : BitVec 32 := Scalar.andi v359 c3_i32_315
  let c3_i32_316 : BitVec 32 := 3#32
  let v362 : BitVec 32 := Scalar.andi v359 c3_i32_316
  let c1_i32_317 : BitVec 32 := 1#32
  let v363 : BitVec 32 := Scalar.shrsi v362 c1_i32_317
  let v364 : BitVec 32 := Scalar.xori v361 v363
  let v365 : BitVec 32 := Scalar.ori v360 v364
  let c1_i32_364 : BitVec 32 := 1#32
  let v403 : BitVec 32 := Scalar.muli v365 c1_i32_364
  let v404 : BitVec 32 := Scalar.addi c0_i32_365 v403
  v404.toNat
def k0_dev19 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_313 : BitVec 32 := 1#32
  let v359 : BitVec 32 := Scalar.xori v8 c1_i32_313
  let c4_i32_314 : BitVec 32 := 4#32
  let v360 : BitVec 32 := Scalar.andi v359 c4_i32_314
  let c3_i32_315 : BitVec 32 := 3#32
  let v361 : BitVec 32 := Scalar.andi v359 c3_i32_315
  let c3_i32_316 : BitVec 32 := 3#32
  let v362 : BitVec 32 := Scalar.andi v359 c3_i32_316
  let c1_i32_317 : BitVec 32 := 1#32
  let v363 : BitVec 32 := Scalar.shrsi v362 c1_i32_317
  let v364 : BitVec 32 := Scalar.xori v361 v363
  let v365 : BitVec 32 := Scalar.ori v360 v364
  let c1_i32_382 : BitVec 32 := 1#32
  let v419 : BitVec 32 := Scalar.muli v365 c1_i32_382
  let v420 : BitVec 32 := Scalar.addi c0_i32_383 v419
  v420.toNat
def k0_off2 (d0 : Dev nD) (c2_i32_424 : BitVec 32) (c2_i32_425 : BitVec 32) (c0_i32_426 : BitVec 32) (c0_i32_428 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let v474 : BitVec 32 := Scalar.xori v8 c2_i32_424
  let v475 : BitVec 32 := Scalar.andi v474 c2_i32_425
  let v476 : BitVec 32 := Scalar.ori v475 c0_i32_426
  let c256_i32_427 : BitVec 32 := 256#32
  let v477 : BitVec 32 := Scalar.muli v476 c256_i32_427
  let v478 : BitVec 32 := Scalar.addi v477 c0_i32_428
  let c384_i32 : BitVec 32 := 384#32
  ![v478.toNat, 384]
def k0_off2_at (r : Fin 28) : BitVec 32 × BitVec 32 × BitVec 32 × BitVec 32 :=
  if r.val < 14 then
    if r.val < 7 then
      if r.val < 3 then
        if r.val < 1 then
          (2#32, 2#32, 0#32, 0#32)
        else
          if r.val < 2 then
            (2#32, 2#32, 4#32, 0#32)
          else
            (2#32, 2#32, 1#32, 0#32)
      else
        if r.val < 5 then
          if r.val < 4 then
            (2#32, 2#32, 5#32, 0#32)
          else
            (2#32, 2#32, 0#32, 64#32)
        else
          if r.val < 6 then
            (2#32, 2#32, 4#32, 64#32)
          else
            (2#32, 2#32, 1#32, 64#32)
    else
      if r.val < 10 then
        if r.val < 8 then
          (2#32, 2#32, 5#32, 64#32)
        else
          if r.val < 9 then
            (2#32, 2#32, 0#32, 128#32)
          else
            (2#32, 2#32, 4#32, 128#32)
      else
        if r.val < 12 then
          if r.val < 11 then
            (2#32, 2#32, 1#32, 128#32)
          else
            (2#32, 2#32, 5#32, 128#32)
        else
          if r.val < 13 then
            (2#32, 2#32, 0#32, 192#32)
          else
            (2#32, 2#32, 4#32, 192#32)
  else
    if r.val < 21 then
      if r.val < 17 then
        if r.val < 15 then
          (2#32, 2#32, 1#32, 192#32)
        else
          if r.val < 16 then
            (2#32, 2#32, 5#32, 192#32)
          else
            (4#32, 6#32, 0#32, 0#32)
      else
        if r.val < 19 then
          if r.val < 18 then
            (4#32, 6#32, 1#32, 0#32)
          else
            (4#32, 6#32, 0#32, 64#32)
        else
          if r.val < 20 then
            (4#32, 6#32, 1#32, 64#32)
          else
            (4#32, 6#32, 0#32, 128#32)
    else
      if r.val < 24 then
        if r.val < 22 then
          (4#32, 6#32, 1#32, 128#32)
        else
          if r.val < 23 then
            (4#32, 6#32, 0#32, 192#32)
          else
            (4#32, 6#32, 1#32, 192#32)
      else
        if r.val < 26 then
          if r.val < 25 then
            (1#32, 7#32, 0#32, 0#32)
          else
            (1#32, 7#32, 0#32, 64#32)
        else
          if r.val < 27 then
            (1#32, 7#32, 0#32, 128#32)
          else
            (1#32, 7#32, 0#32, 192#32)
def k0_dev20 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_419 : BitVec 32 := 2#32
  let v467 : BitVec 32 := Scalar.xori v8 c2_i32_419
  let c4_i32_420 : BitVec 32 := 4#32
  let v468 : BitVec 32 := Scalar.andi v467 c4_i32_420
  let c3_i32_421 : BitVec 32 := 3#32
  let v469 : BitVec 32 := Scalar.andi v467 c3_i32_421
  let c3_i32_422 : BitVec 32 := 3#32
  let v470 : BitVec 32 := Scalar.andi v467 c3_i32_422
  let c1_i32_423 : BitVec 32 := 1#32
  let v471 : BitVec 32 := Scalar.shrsi v470 c1_i32_423
  let v472 : BitVec 32 := Scalar.xori v469 v471
  let v473 : BitVec 32 := Scalar.ori v468 v472
  let c1_i32_435 : BitVec 32 := 1#32
  let v479 : BitVec 32 := Scalar.muli v473 c1_i32_435
  let v480 : BitVec 32 := Scalar.addi c0_i32_436 v479
  v480.toNat
def k0_dev21 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_419 : BitVec 32 := 2#32
  let v467 : BitVec 32 := Scalar.xori v8 c2_i32_419
  let c4_i32_420 : BitVec 32 := 4#32
  let v468 : BitVec 32 := Scalar.andi v467 c4_i32_420
  let c3_i32_421 : BitVec 32 := 3#32
  let v469 : BitVec 32 := Scalar.andi v467 c3_i32_421
  let c3_i32_422 : BitVec 32 := 3#32
  let v470 : BitVec 32 := Scalar.andi v467 c3_i32_422
  let c1_i32_423 : BitVec 32 := 1#32
  let v471 : BitVec 32 := Scalar.shrsi v470 c1_i32_423
  let v472 : BitVec 32 := Scalar.xori v469 v471
  let v473 : BitVec 32 := Scalar.ori v468 v472
  let c1_i32_452 : BitVec 32 := 1#32
  let v495 : BitVec 32 := Scalar.muli v473 c1_i32_452
  let v496 : BitVec 32 := Scalar.addi c0_i32_453 v495
  v496.toNat
def k0_dev22 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_419 : BitVec 32 := 2#32
  let v467 : BitVec 32 := Scalar.xori v8 c2_i32_419
  let c4_i32_420 : BitVec 32 := 4#32
  let v468 : BitVec 32 := Scalar.andi v467 c4_i32_420
  let c3_i32_421 : BitVec 32 := 3#32
  let v469 : BitVec 32 := Scalar.andi v467 c3_i32_421
  let c3_i32_422 : BitVec 32 := 3#32
  let v470 : BitVec 32 := Scalar.andi v467 c3_i32_422
  let c1_i32_423 : BitVec 32 := 1#32
  let v471 : BitVec 32 := Scalar.shrsi v470 c1_i32_423
  let v472 : BitVec 32 := Scalar.xori v469 v471
  let v473 : BitVec 32 := Scalar.ori v468 v472
  let c1_i32_470 : BitVec 32 := 1#32
  let v511 : BitVec 32 := Scalar.muli v473 c1_i32_470
  let v512 : BitVec 32 := Scalar.addi c0_i32_471 v511
  v512.toNat
def k0_dev23 (d0 : Dev nD) : Nat :=
  let c0_i32_488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_419 : BitVec 32 := 2#32
  let v467 : BitVec 32 := Scalar.xori v8 c2_i32_419
  let c4_i32_420 : BitVec 32 := 4#32
  let v468 : BitVec 32 := Scalar.andi v467 c4_i32_420
  let c3_i32_421 : BitVec 32 := 3#32
  let v469 : BitVec 32 := Scalar.andi v467 c3_i32_421
  let c3_i32_422 : BitVec 32 := 3#32
  let v470 : BitVec 32 := Scalar.andi v467 c3_i32_422
  let c1_i32_423 : BitVec 32 := 1#32
  let v471 : BitVec 32 := Scalar.shrsi v470 c1_i32_423
  let v472 : BitVec 32 := Scalar.xori v469 v471
  let v473 : BitVec 32 := Scalar.ori v468 v472
  let c1_i32_487 : BitVec 32 := 1#32
  let v527 : BitVec 32 := Scalar.muli v473 c1_i32_487
  let v528 : BitVec 32 := Scalar.addi c0_i32_488 v527
  v528.toNat
def k0_dev24 (d0 : Dev nD) : Nat :=
  let c0_i32_511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_494 : BitVec 32 := 2#32
  let v538 : BitVec 32 := Scalar.xori v8 c2_i32_494
  let c4_i32_495 : BitVec 32 := 4#32
  let v539 : BitVec 32 := Scalar.andi v538 c4_i32_495
  let c3_i32_496 : BitVec 32 := 3#32
  let v540 : BitVec 32 := Scalar.andi v538 c3_i32_496
  let c3_i32_497 : BitVec 32 := 3#32
  let v541 : BitVec 32 := Scalar.andi v538 c3_i32_497
  let c1_i32_498 : BitVec 32 := 1#32
  let v542 : BitVec 32 := Scalar.shrsi v541 c1_i32_498
  let v543 : BitVec 32 := Scalar.xori v540 v542
  let v544 : BitVec 32 := Scalar.ori v539 v543
  let c1_i32_510 : BitVec 32 := 1#32
  let v550 : BitVec 32 := Scalar.muli v544 c1_i32_510
  let v551 : BitVec 32 := Scalar.addi c0_i32_511 v550
  v551.toNat
def k0_dev25 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_494 : BitVec 32 := 2#32
  let v538 : BitVec 32 := Scalar.xori v8 c2_i32_494
  let c4_i32_495 : BitVec 32 := 4#32
  let v539 : BitVec 32 := Scalar.andi v538 c4_i32_495
  let c3_i32_496 : BitVec 32 := 3#32
  let v540 : BitVec 32 := Scalar.andi v538 c3_i32_496
  let c3_i32_497 : BitVec 32 := 3#32
  let v541 : BitVec 32 := Scalar.andi v538 c3_i32_497
  let c1_i32_498 : BitVec 32 := 1#32
  let v542 : BitVec 32 := Scalar.shrsi v541 c1_i32_498
  let v543 : BitVec 32 := Scalar.xori v540 v542
  let v544 : BitVec 32 := Scalar.ori v539 v543
  let c1_i32_528 : BitVec 32 := 1#32
  let v566 : BitVec 32 := Scalar.muli v544 c1_i32_528
  let v567 : BitVec 32 := Scalar.addi c0_i32_529 v566
  v567.toNat
def k0_dev26 (d0 : Dev nD) : Nat :=
  let c0_i32_547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_494 : BitVec 32 := 2#32
  let v538 : BitVec 32 := Scalar.xori v8 c2_i32_494
  let c4_i32_495 : BitVec 32 := 4#32
  let v539 : BitVec 32 := Scalar.andi v538 c4_i32_495
  let c3_i32_496 : BitVec 32 := 3#32
  let v540 : BitVec 32 := Scalar.andi v538 c3_i32_496
  let c3_i32_497 : BitVec 32 := 3#32
  let v541 : BitVec 32 := Scalar.andi v538 c3_i32_497
  let c1_i32_498 : BitVec 32 := 1#32
  let v542 : BitVec 32 := Scalar.shrsi v541 c1_i32_498
  let v543 : BitVec 32 := Scalar.xori v540 v542
  let v544 : BitVec 32 := Scalar.ori v539 v543
  let c1_i32_546 : BitVec 32 := 1#32
  let v582 : BitVec 32 := Scalar.muli v544 c1_i32_546
  let v583 : BitVec 32 := Scalar.addi c0_i32_547 v582
  v583.toNat
def k0_dev27 (d0 : Dev nD) : Nat :=
  let c0_i32_565 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_494 : BitVec 32 := 2#32
  let v538 : BitVec 32 := Scalar.xori v8 c2_i32_494
  let c4_i32_495 : BitVec 32 := 4#32
  let v539 : BitVec 32 := Scalar.andi v538 c4_i32_495
  let c3_i32_496 : BitVec 32 := 3#32
  let v540 : BitVec 32 := Scalar.andi v538 c3_i32_496
  let c3_i32_497 : BitVec 32 := 3#32
  let v541 : BitVec 32 := Scalar.andi v538 c3_i32_497
  let c1_i32_498 : BitVec 32 := 1#32
  let v542 : BitVec 32 := Scalar.shrsi v541 c1_i32_498
  let v543 : BitVec 32 := Scalar.xori v540 v542
  let v544 : BitVec 32 := Scalar.ori v539 v543
  let c1_i32_564 : BitVec 32 := 1#32
  let v598 : BitVec 32 := Scalar.muli v544 c1_i32_564
  let v599 : BitVec 32 := Scalar.addi c0_i32_565 v598
  v599.toNat
def k0_dev28 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_571 : BitVec 32 := 2#32
  let v609 : BitVec 32 := Scalar.xori v8 c2_i32_571
  let c4_i32_572 : BitVec 32 := 4#32
  let v610 : BitVec 32 := Scalar.andi v609 c4_i32_572
  let c3_i32_573 : BitVec 32 := 3#32
  let v611 : BitVec 32 := Scalar.andi v609 c3_i32_573
  let c3_i32_574 : BitVec 32 := 3#32
  let v612 : BitVec 32 := Scalar.andi v609 c3_i32_574
  let c1_i32_575 : BitVec 32 := 1#32
  let v613 : BitVec 32 := Scalar.shrsi v612 c1_i32_575
  let v614 : BitVec 32 := Scalar.xori v611 v613
  let v615 : BitVec 32 := Scalar.ori v610 v614
  let c1_i32_587 : BitVec 32 := 1#32
  let v621 : BitVec 32 := Scalar.muli v615 c1_i32_587
  let v622 : BitVec 32 := Scalar.addi c0_i32_588 v621
  v622.toNat
def k0_dev29 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_571 : BitVec 32 := 2#32
  let v609 : BitVec 32 := Scalar.xori v8 c2_i32_571
  let c4_i32_572 : BitVec 32 := 4#32
  let v610 : BitVec 32 := Scalar.andi v609 c4_i32_572
  let c3_i32_573 : BitVec 32 := 3#32
  let v611 : BitVec 32 := Scalar.andi v609 c3_i32_573
  let c3_i32_574 : BitVec 32 := 3#32
  let v612 : BitVec 32 := Scalar.andi v609 c3_i32_574
  let c1_i32_575 : BitVec 32 := 1#32
  let v613 : BitVec 32 := Scalar.shrsi v612 c1_i32_575
  let v614 : BitVec 32 := Scalar.xori v611 v613
  let v615 : BitVec 32 := Scalar.ori v610 v614
  let c1_i32_605 : BitVec 32 := 1#32
  let v637 : BitVec 32 := Scalar.muli v615 c1_i32_605
  let v638 : BitVec 32 := Scalar.addi c0_i32_606 v637
  v638.toNat
def k0_dev30 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_571 : BitVec 32 := 2#32
  let v609 : BitVec 32 := Scalar.xori v8 c2_i32_571
  let c4_i32_572 : BitVec 32 := 4#32
  let v610 : BitVec 32 := Scalar.andi v609 c4_i32_572
  let c3_i32_573 : BitVec 32 := 3#32
  let v611 : BitVec 32 := Scalar.andi v609 c3_i32_573
  let c3_i32_574 : BitVec 32 := 3#32
  let v612 : BitVec 32 := Scalar.andi v609 c3_i32_574
  let c1_i32_575 : BitVec 32 := 1#32
  let v613 : BitVec 32 := Scalar.shrsi v612 c1_i32_575
  let v614 : BitVec 32 := Scalar.xori v611 v613
  let v615 : BitVec 32 := Scalar.ori v610 v614
  let c1_i32_623 : BitVec 32 := 1#32
  let v653 : BitVec 32 := Scalar.muli v615 c1_i32_623
  let v654 : BitVec 32 := Scalar.addi c0_i32_624 v653
  v654.toNat
def k0_dev31 (d0 : Dev nD) : Nat :=
  let c0_i32_642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_571 : BitVec 32 := 2#32
  let v609 : BitVec 32 := Scalar.xori v8 c2_i32_571
  let c4_i32_572 : BitVec 32 := 4#32
  let v610 : BitVec 32 := Scalar.andi v609 c4_i32_572
  let c3_i32_573 : BitVec 32 := 3#32
  let v611 : BitVec 32 := Scalar.andi v609 c3_i32_573
  let c3_i32_574 : BitVec 32 := 3#32
  let v612 : BitVec 32 := Scalar.andi v609 c3_i32_574
  let c1_i32_575 : BitVec 32 := 1#32
  let v613 : BitVec 32 := Scalar.shrsi v612 c1_i32_575
  let v614 : BitVec 32 := Scalar.xori v611 v613
  let v615 : BitVec 32 := Scalar.ori v610 v614
  let c1_i32_641 : BitVec 32 := 1#32
  let v669 : BitVec 32 := Scalar.muli v615 c1_i32_641
  let v670 : BitVec 32 := Scalar.addi c0_i32_642 v669
  v670.toNat
def k0_dev32 (d0 : Dev nD) : Nat :=
  let c0_i32_664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_648 : BitVec 32 := 2#32
  let v680 : BitVec 32 := Scalar.xori v8 c2_i32_648
  let c4_i32_649 : BitVec 32 := 4#32
  let v681 : BitVec 32 := Scalar.andi v680 c4_i32_649
  let c3_i32_650 : BitVec 32 := 3#32
  let v682 : BitVec 32 := Scalar.andi v680 c3_i32_650
  let c3_i32_651 : BitVec 32 := 3#32
  let v683 : BitVec 32 := Scalar.andi v680 c3_i32_651
  let c1_i32_652 : BitVec 32 := 1#32
  let v684 : BitVec 32 := Scalar.shrsi v683 c1_i32_652
  let v685 : BitVec 32 := Scalar.xori v682 v684
  let v686 : BitVec 32 := Scalar.ori v681 v685
  let c1_i32_663 : BitVec 32 := 1#32
  let v692 : BitVec 32 := Scalar.muli v686 c1_i32_663
  let v693 : BitVec 32 := Scalar.addi c0_i32_664 v692
  v693.toNat
def k0_dev33 (d0 : Dev nD) : Nat :=
  let c0_i32_682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_648 : BitVec 32 := 2#32
  let v680 : BitVec 32 := Scalar.xori v8 c2_i32_648
  let c4_i32_649 : BitVec 32 := 4#32
  let v681 : BitVec 32 := Scalar.andi v680 c4_i32_649
  let c3_i32_650 : BitVec 32 := 3#32
  let v682 : BitVec 32 := Scalar.andi v680 c3_i32_650
  let c3_i32_651 : BitVec 32 := 3#32
  let v683 : BitVec 32 := Scalar.andi v680 c3_i32_651
  let c1_i32_652 : BitVec 32 := 1#32
  let v684 : BitVec 32 := Scalar.shrsi v683 c1_i32_652
  let v685 : BitVec 32 := Scalar.xori v682 v684
  let v686 : BitVec 32 := Scalar.ori v681 v685
  let c1_i32_681 : BitVec 32 := 1#32
  let v708 : BitVec 32 := Scalar.muli v686 c1_i32_681
  let v709 : BitVec 32 := Scalar.addi c0_i32_682 v708
  v709.toNat
def k0_dev34 (d0 : Dev nD) : Nat :=
  let c0_i32_700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_648 : BitVec 32 := 2#32
  let v680 : BitVec 32 := Scalar.xori v8 c2_i32_648
  let c4_i32_649 : BitVec 32 := 4#32
  let v681 : BitVec 32 := Scalar.andi v680 c4_i32_649
  let c3_i32_650 : BitVec 32 := 3#32
  let v682 : BitVec 32 := Scalar.andi v680 c3_i32_650
  let c3_i32_651 : BitVec 32 := 3#32
  let v683 : BitVec 32 := Scalar.andi v680 c3_i32_651
  let c1_i32_652 : BitVec 32 := 1#32
  let v684 : BitVec 32 := Scalar.shrsi v683 c1_i32_652
  let v685 : BitVec 32 := Scalar.xori v682 v684
  let v686 : BitVec 32 := Scalar.ori v681 v685
  let c1_i32_699 : BitVec 32 := 1#32
  let v724 : BitVec 32 := Scalar.muli v686 c1_i32_699
  let v725 : BitVec 32 := Scalar.addi c0_i32_700 v724
  v725.toNat
def k0_dev35 (d0 : Dev nD) : Nat :=
  let c0_i32_718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_648 : BitVec 32 := 2#32
  let v680 : BitVec 32 := Scalar.xori v8 c2_i32_648
  let c4_i32_649 : BitVec 32 := 4#32
  let v681 : BitVec 32 := Scalar.andi v680 c4_i32_649
  let c3_i32_650 : BitVec 32 := 3#32
  let v682 : BitVec 32 := Scalar.andi v680 c3_i32_650
  let c3_i32_651 : BitVec 32 := 3#32
  let v683 : BitVec 32 := Scalar.andi v680 c3_i32_651
  let c1_i32_652 : BitVec 32 := 1#32
  let v684 : BitVec 32 := Scalar.shrsi v683 c1_i32_652
  let v685 : BitVec 32 := Scalar.xori v682 v684
  let v686 : BitVec 32 := Scalar.ori v681 v685
  let c1_i32_717 : BitVec 32 := 1#32
  let v740 : BitVec 32 := Scalar.muli v686 c1_i32_717
  let v741 : BitVec 32 := Scalar.addi c0_i32_718 v740
  v741.toNat
def k0_off3 (d0 : Dev nD) (c4_i32_759 : BitVec 32) (c4_i32_760 : BitVec 32) (c0_i32_761 : BitVec 32) (c0_i32_763 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let v795 : BitVec 32 := Scalar.xori v8 c4_i32_759
  let v796 : BitVec 32 := Scalar.andi v795 c4_i32_760
  let v797 : BitVec 32 := Scalar.ori v796 c0_i32_761
  let c256_i32_762 : BitVec 32 := 256#32
  let v798 : BitVec 32 := Scalar.muli v797 c256_i32_762
  let v799 : BitVec 32 := Scalar.addi v798 c0_i32_763
  let c768_i32 : BitVec 32 := 768#32
  ![v799.toNat, 768]
def k0_off3_at (r : Fin 28) : BitVec 32 × BitVec 32 × BitVec 32 × BitVec 32 :=
  if r.val < 14 then
    if r.val < 7 then
      if r.val < 3 then
        if r.val < 1 then
          (4#32, 4#32, 0#32, 0#32)
        else
          if r.val < 2 then
            (4#32, 4#32, 1#32, 0#32)
          else
            (4#32, 4#32, 2#32, 0#32)
      else
        if r.val < 5 then
          if r.val < 4 then
            (4#32, 4#32, 3#32, 0#32)
          else
            (4#32, 4#32, 0#32, 64#32)
        else
          if r.val < 6 then
            (4#32, 4#32, 1#32, 64#32)
          else
            (4#32, 4#32, 2#32, 64#32)
    else
      if r.val < 10 then
        if r.val < 8 then
          (4#32, 4#32, 3#32, 64#32)
        else
          if r.val < 9 then
            (4#32, 4#32, 0#32, 128#32)
          else
            (4#32, 4#32, 1#32, 128#32)
      else
        if r.val < 12 then
          if r.val < 11 then
            (4#32, 4#32, 2#32, 128#32)
          else
            (4#32, 4#32, 3#32, 128#32)
        else
          if r.val < 13 then
            (4#32, 4#32, 0#32, 192#32)
          else
            (4#32, 4#32, 1#32, 192#32)
  else
    if r.val < 21 then
      if r.val < 17 then
        if r.val < 15 then
          (4#32, 4#32, 2#32, 192#32)
        else
          if r.val < 16 then
            (4#32, 4#32, 3#32, 192#32)
          else
            (1#32, 5#32, 0#32, 0#32)
      else
        if r.val < 19 then
          if r.val < 18 then
            (1#32, 5#32, 2#32, 0#32)
          else
            (1#32, 5#32, 0#32, 64#32)
        else
          if r.val < 20 then
            (1#32, 5#32, 2#32, 64#32)
          else
            (1#32, 5#32, 0#32, 128#32)
    else
      if r.val < 24 then
        if r.val < 22 then
          (1#32, 5#32, 2#32, 128#32)
        else
          if r.val < 23 then
            (1#32, 5#32, 0#32, 192#32)
          else
            (1#32, 5#32, 2#32, 192#32)
      else
        if r.val < 26 then
          if r.val < 25 then
            (2#32, 7#32, 0#32, 0#32)
          else
            (2#32, 7#32, 0#32, 64#32)
        else
          if r.val < 27 then
            (2#32, 7#32, 0#32, 128#32)
          else
            (2#32, 7#32, 0#32, 192#32)
def k0_dev36 (d0 : Dev nD) : Nat :=
  let c0_i32_771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_754 : BitVec 32 := 4#32
  let v788 : BitVec 32 := Scalar.xori v8 c4_i32_754
  let c4_i32_755 : BitVec 32 := 4#32
  let v789 : BitVec 32 := Scalar.andi v788 c4_i32_755
  let c3_i32_756 : BitVec 32 := 3#32
  let v790 : BitVec 32 := Scalar.andi v788 c3_i32_756
  let c3_i32_757 : BitVec 32 := 3#32
  let v791 : BitVec 32 := Scalar.andi v788 c3_i32_757
  let c1_i32_758 : BitVec 32 := 1#32
  let v792 : BitVec 32 := Scalar.shrsi v791 c1_i32_758
  let v793 : BitVec 32 := Scalar.xori v790 v792
  let v794 : BitVec 32 := Scalar.ori v789 v793
  let c1_i32_770 : BitVec 32 := 1#32
  let v800 : BitVec 32 := Scalar.muli v794 c1_i32_770
  let v801 : BitVec 32 := Scalar.addi c0_i32_771 v800
  v801.toNat
def k0_dev37 (d0 : Dev nD) : Nat :=
  let c0_i32_788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_754 : BitVec 32 := 4#32
  let v788 : BitVec 32 := Scalar.xori v8 c4_i32_754
  let c4_i32_755 : BitVec 32 := 4#32
  let v789 : BitVec 32 := Scalar.andi v788 c4_i32_755
  let c3_i32_756 : BitVec 32 := 3#32
  let v790 : BitVec 32 := Scalar.andi v788 c3_i32_756
  let c3_i32_757 : BitVec 32 := 3#32
  let v791 : BitVec 32 := Scalar.andi v788 c3_i32_757
  let c1_i32_758 : BitVec 32 := 1#32
  let v792 : BitVec 32 := Scalar.shrsi v791 c1_i32_758
  let v793 : BitVec 32 := Scalar.xori v790 v792
  let v794 : BitVec 32 := Scalar.ori v789 v793
  let c1_i32_787 : BitVec 32 := 1#32
  let v816 : BitVec 32 := Scalar.muli v794 c1_i32_787
  let v817 : BitVec 32 := Scalar.addi c0_i32_788 v816
  v817.toNat
def k0_dev38 (d0 : Dev nD) : Nat :=
  let c0_i32_806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_754 : BitVec 32 := 4#32
  let v788 : BitVec 32 := Scalar.xori v8 c4_i32_754
  let c4_i32_755 : BitVec 32 := 4#32
  let v789 : BitVec 32 := Scalar.andi v788 c4_i32_755
  let c3_i32_756 : BitVec 32 := 3#32
  let v790 : BitVec 32 := Scalar.andi v788 c3_i32_756
  let c3_i32_757 : BitVec 32 := 3#32
  let v791 : BitVec 32 := Scalar.andi v788 c3_i32_757
  let c1_i32_758 : BitVec 32 := 1#32
  let v792 : BitVec 32 := Scalar.shrsi v791 c1_i32_758
  let v793 : BitVec 32 := Scalar.xori v790 v792
  let v794 : BitVec 32 := Scalar.ori v789 v793
  let c1_i32_805 : BitVec 32 := 1#32
  let v832 : BitVec 32 := Scalar.muli v794 c1_i32_805
  let v833 : BitVec 32 := Scalar.addi c0_i32_806 v832
  v833.toNat
def k0_dev39 (d0 : Dev nD) : Nat :=
  let c0_i32_824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_754 : BitVec 32 := 4#32
  let v788 : BitVec 32 := Scalar.xori v8 c4_i32_754
  let c4_i32_755 : BitVec 32 := 4#32
  let v789 : BitVec 32 := Scalar.andi v788 c4_i32_755
  let c3_i32_756 : BitVec 32 := 3#32
  let v790 : BitVec 32 := Scalar.andi v788 c3_i32_756
  let c3_i32_757 : BitVec 32 := 3#32
  let v791 : BitVec 32 := Scalar.andi v788 c3_i32_757
  let c1_i32_758 : BitVec 32 := 1#32
  let v792 : BitVec 32 := Scalar.shrsi v791 c1_i32_758
  let v793 : BitVec 32 := Scalar.xori v790 v792
  let v794 : BitVec 32 := Scalar.ori v789 v793
  let c1_i32_823 : BitVec 32 := 1#32
  let v848 : BitVec 32 := Scalar.muli v794 c1_i32_823
  let v849 : BitVec 32 := Scalar.addi c0_i32_824 v848
  v849.toNat
def k0_dev40 (d0 : Dev nD) : Nat :=
  let c0_i32_846 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_830 : BitVec 32 := 4#32
  let v859 : BitVec 32 := Scalar.xori v8 c4_i32_830
  let c4_i32_831 : BitVec 32 := 4#32
  let v860 : BitVec 32 := Scalar.andi v859 c4_i32_831
  let c3_i32_832 : BitVec 32 := 3#32
  let v861 : BitVec 32 := Scalar.andi v859 c3_i32_832
  let c3_i32_833 : BitVec 32 := 3#32
  let v862 : BitVec 32 := Scalar.andi v859 c3_i32_833
  let c1_i32_834 : BitVec 32 := 1#32
  let v863 : BitVec 32 := Scalar.shrsi v862 c1_i32_834
  let v864 : BitVec 32 := Scalar.xori v861 v863
  let v865 : BitVec 32 := Scalar.ori v860 v864
  let c1_i32_845 : BitVec 32 := 1#32
  let v871 : BitVec 32 := Scalar.muli v865 c1_i32_845
  let v872 : BitVec 32 := Scalar.addi c0_i32_846 v871
  v872.toNat
def k0_dev41 (d0 : Dev nD) : Nat :=
  let c0_i32_864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_830 : BitVec 32 := 4#32
  let v859 : BitVec 32 := Scalar.xori v8 c4_i32_830
  let c4_i32_831 : BitVec 32 := 4#32
  let v860 : BitVec 32 := Scalar.andi v859 c4_i32_831
  let c3_i32_832 : BitVec 32 := 3#32
  let v861 : BitVec 32 := Scalar.andi v859 c3_i32_832
  let c3_i32_833 : BitVec 32 := 3#32
  let v862 : BitVec 32 := Scalar.andi v859 c3_i32_833
  let c1_i32_834 : BitVec 32 := 1#32
  let v863 : BitVec 32 := Scalar.shrsi v862 c1_i32_834
  let v864 : BitVec 32 := Scalar.xori v861 v863
  let v865 : BitVec 32 := Scalar.ori v860 v864
  let c1_i32_863 : BitVec 32 := 1#32
  let v887 : BitVec 32 := Scalar.muli v865 c1_i32_863
  let v888 : BitVec 32 := Scalar.addi c0_i32_864 v887
  v888.toNat
def k0_dev42 (d0 : Dev nD) : Nat :=
  let c0_i32_882 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_830 : BitVec 32 := 4#32
  let v859 : BitVec 32 := Scalar.xori v8 c4_i32_830
  let c4_i32_831 : BitVec 32 := 4#32
  let v860 : BitVec 32 := Scalar.andi v859 c4_i32_831
  let c3_i32_832 : BitVec 32 := 3#32
  let v861 : BitVec 32 := Scalar.andi v859 c3_i32_832
  let c3_i32_833 : BitVec 32 := 3#32
  let v862 : BitVec 32 := Scalar.andi v859 c3_i32_833
  let c1_i32_834 : BitVec 32 := 1#32
  let v863 : BitVec 32 := Scalar.shrsi v862 c1_i32_834
  let v864 : BitVec 32 := Scalar.xori v861 v863
  let v865 : BitVec 32 := Scalar.ori v860 v864
  let c1_i32_881 : BitVec 32 := 1#32
  let v903 : BitVec 32 := Scalar.muli v865 c1_i32_881
  let v904 : BitVec 32 := Scalar.addi c0_i32_882 v903
  v904.toNat
def k0_dev43 (d0 : Dev nD) : Nat :=
  let c0_i32_900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_830 : BitVec 32 := 4#32
  let v859 : BitVec 32 := Scalar.xori v8 c4_i32_830
  let c4_i32_831 : BitVec 32 := 4#32
  let v860 : BitVec 32 := Scalar.andi v859 c4_i32_831
  let c3_i32_832 : BitVec 32 := 3#32
  let v861 : BitVec 32 := Scalar.andi v859 c3_i32_832
  let c3_i32_833 : BitVec 32 := 3#32
  let v862 : BitVec 32 := Scalar.andi v859 c3_i32_833
  let c1_i32_834 : BitVec 32 := 1#32
  let v863 : BitVec 32 := Scalar.shrsi v862 c1_i32_834
  let v864 : BitVec 32 := Scalar.xori v861 v863
  let v865 : BitVec 32 := Scalar.ori v860 v864
  let c1_i32_899 : BitVec 32 := 1#32
  let v919 : BitVec 32 := Scalar.muli v865 c1_i32_899
  let v920 : BitVec 32 := Scalar.addi c0_i32_900 v919
  v920.toNat
def k0_dev44 (d0 : Dev nD) : Nat :=
  let c0_i32_922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_906 : BitVec 32 := 4#32
  let v930 : BitVec 32 := Scalar.xori v8 c4_i32_906
  let c4_i32_907 : BitVec 32 := 4#32
  let v931 : BitVec 32 := Scalar.andi v930 c4_i32_907
  let c3_i32_908 : BitVec 32 := 3#32
  let v932 : BitVec 32 := Scalar.andi v930 c3_i32_908
  let c3_i32_909 : BitVec 32 := 3#32
  let v933 : BitVec 32 := Scalar.andi v930 c3_i32_909
  let c1_i32_910 : BitVec 32 := 1#32
  let v934 : BitVec 32 := Scalar.shrsi v933 c1_i32_910
  let v935 : BitVec 32 := Scalar.xori v932 v934
  let v936 : BitVec 32 := Scalar.ori v931 v935
  let c1_i32_921 : BitVec 32 := 1#32
  let v942 : BitVec 32 := Scalar.muli v936 c1_i32_921
  let v943 : BitVec 32 := Scalar.addi c0_i32_922 v942
  v943.toNat
def k0_dev45 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_906 : BitVec 32 := 4#32
  let v930 : BitVec 32 := Scalar.xori v8 c4_i32_906
  let c4_i32_907 : BitVec 32 := 4#32
  let v931 : BitVec 32 := Scalar.andi v930 c4_i32_907
  let c3_i32_908 : BitVec 32 := 3#32
  let v932 : BitVec 32 := Scalar.andi v930 c3_i32_908
  let c3_i32_909 : BitVec 32 := 3#32
  let v933 : BitVec 32 := Scalar.andi v930 c3_i32_909
  let c1_i32_910 : BitVec 32 := 1#32
  let v934 : BitVec 32 := Scalar.shrsi v933 c1_i32_910
  let v935 : BitVec 32 := Scalar.xori v932 v934
  let v936 : BitVec 32 := Scalar.ori v931 v935
  let c1_i32_939 : BitVec 32 := 1#32
  let v958 : BitVec 32 := Scalar.muli v936 c1_i32_939
  let v959 : BitVec 32 := Scalar.addi c0_i32_940 v958
  v959.toNat
def k0_dev46 (d0 : Dev nD) : Nat :=
  let c0_i32_958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_906 : BitVec 32 := 4#32
  let v930 : BitVec 32 := Scalar.xori v8 c4_i32_906
  let c4_i32_907 : BitVec 32 := 4#32
  let v931 : BitVec 32 := Scalar.andi v930 c4_i32_907
  let c3_i32_908 : BitVec 32 := 3#32
  let v932 : BitVec 32 := Scalar.andi v930 c3_i32_908
  let c3_i32_909 : BitVec 32 := 3#32
  let v933 : BitVec 32 := Scalar.andi v930 c3_i32_909
  let c1_i32_910 : BitVec 32 := 1#32
  let v934 : BitVec 32 := Scalar.shrsi v933 c1_i32_910
  let v935 : BitVec 32 := Scalar.xori v932 v934
  let v936 : BitVec 32 := Scalar.ori v931 v935
  let c1_i32_957 : BitVec 32 := 1#32
  let v974 : BitVec 32 := Scalar.muli v936 c1_i32_957
  let v975 : BitVec 32 := Scalar.addi c0_i32_958 v974
  v975.toNat
def k0_dev47 (d0 : Dev nD) : Nat :=
  let c0_i32_976 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_906 : BitVec 32 := 4#32
  let v930 : BitVec 32 := Scalar.xori v8 c4_i32_906
  let c4_i32_907 : BitVec 32 := 4#32
  let v931 : BitVec 32 := Scalar.andi v930 c4_i32_907
  let c3_i32_908 : BitVec 32 := 3#32
  let v932 : BitVec 32 := Scalar.andi v930 c3_i32_908
  let c3_i32_909 : BitVec 32 := 3#32
  let v933 : BitVec 32 := Scalar.andi v930 c3_i32_909
  let c1_i32_910 : BitVec 32 := 1#32
  let v934 : BitVec 32 := Scalar.shrsi v933 c1_i32_910
  let v935 : BitVec 32 := Scalar.xori v932 v934
  let v936 : BitVec 32 := Scalar.ori v931 v935
  let c1_i32_975 : BitVec 32 := 1#32
  let v990 : BitVec 32 := Scalar.muli v936 c1_i32_975
  let v991 : BitVec 32 := Scalar.addi c0_i32_976 v990
  v991.toNat
def k0_dev48 (d0 : Dev nD) : Nat :=
  let c0_i32_998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_982 : BitVec 32 := 4#32
  let v1001 : BitVec 32 := Scalar.xori v8 c4_i32_982
  let c4_i32_983 : BitVec 32 := 4#32
  let v1002 : BitVec 32 := Scalar.andi v1001 c4_i32_983
  let c3_i32_984 : BitVec 32 := 3#32
  let v1003 : BitVec 32 := Scalar.andi v1001 c3_i32_984
  let c3_i32_985 : BitVec 32 := 3#32
  let v1004 : BitVec 32 := Scalar.andi v1001 c3_i32_985
  let c1_i32_986 : BitVec 32 := 1#32
  let v1005 : BitVec 32 := Scalar.shrsi v1004 c1_i32_986
  let v1006 : BitVec 32 := Scalar.xori v1003 v1005
  let v1007 : BitVec 32 := Scalar.ori v1002 v1006
  let c1_i32_997 : BitVec 32 := 1#32
  let v1013 : BitVec 32 := Scalar.muli v1007 c1_i32_997
  let v1014 : BitVec 32 := Scalar.addi c0_i32_998 v1013
  v1014.toNat
def k0_dev49 (d0 : Dev nD) : Nat :=
  let c0_i32_1016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_982 : BitVec 32 := 4#32
  let v1001 : BitVec 32 := Scalar.xori v8 c4_i32_982
  let c4_i32_983 : BitVec 32 := 4#32
  let v1002 : BitVec 32 := Scalar.andi v1001 c4_i32_983
  let c3_i32_984 : BitVec 32 := 3#32
  let v1003 : BitVec 32 := Scalar.andi v1001 c3_i32_984
  let c3_i32_985 : BitVec 32 := 3#32
  let v1004 : BitVec 32 := Scalar.andi v1001 c3_i32_985
  let c1_i32_986 : BitVec 32 := 1#32
  let v1005 : BitVec 32 := Scalar.shrsi v1004 c1_i32_986
  let v1006 : BitVec 32 := Scalar.xori v1003 v1005
  let v1007 : BitVec 32 := Scalar.ori v1002 v1006
  let c1_i32_1015 : BitVec 32 := 1#32
  let v1029 : BitVec 32 := Scalar.muli v1007 c1_i32_1015
  let v1030 : BitVec 32 := Scalar.addi c0_i32_1016 v1029
  v1030.toNat
def k0_dev50 (d0 : Dev nD) : Nat :=
  let c0_i32_1034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_982 : BitVec 32 := 4#32
  let v1001 : BitVec 32 := Scalar.xori v8 c4_i32_982
  let c4_i32_983 : BitVec 32 := 4#32
  let v1002 : BitVec 32 := Scalar.andi v1001 c4_i32_983
  let c3_i32_984 : BitVec 32 := 3#32
  let v1003 : BitVec 32 := Scalar.andi v1001 c3_i32_984
  let c3_i32_985 : BitVec 32 := 3#32
  let v1004 : BitVec 32 := Scalar.andi v1001 c3_i32_985
  let c1_i32_986 : BitVec 32 := 1#32
  let v1005 : BitVec 32 := Scalar.shrsi v1004 c1_i32_986
  let v1006 : BitVec 32 := Scalar.xori v1003 v1005
  let v1007 : BitVec 32 := Scalar.ori v1002 v1006
  let c1_i32_1033 : BitVec 32 := 1#32
  let v1045 : BitVec 32 := Scalar.muli v1007 c1_i32_1033
  let v1046 : BitVec 32 := Scalar.addi c0_i32_1034 v1045
  v1046.toNat
def k0_dev51 (d0 : Dev nD) : Nat :=
  let c0_i32_1052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_982 : BitVec 32 := 4#32
  let v1001 : BitVec 32 := Scalar.xori v8 c4_i32_982
  let c4_i32_983 : BitVec 32 := 4#32
  let v1002 : BitVec 32 := Scalar.andi v1001 c4_i32_983
  let c3_i32_984 : BitVec 32 := 3#32
  let v1003 : BitVec 32 := Scalar.andi v1001 c3_i32_984
  let c3_i32_985 : BitVec 32 := 3#32
  let v1004 : BitVec 32 := Scalar.andi v1001 c3_i32_985
  let c1_i32_986 : BitVec 32 := 1#32
  let v1005 : BitVec 32 := Scalar.shrsi v1004 c1_i32_986
  let v1006 : BitVec 32 := Scalar.xori v1003 v1005
  let v1007 : BitVec 32 := Scalar.ori v1002 v1006
  let c1_i32_1051 : BitVec 32 := 1#32
  let v1061 : BitVec 32 := Scalar.muli v1007 c1_i32_1051
  let v1062 : BitVec 32 := Scalar.addi c0_i32_1052 v1061
  v1062.toNat
def k0_off4 (d0 : Dev nD) (c1_i32_106 : BitVec 32) (c0_i32_107 : BitVec 32) (c0_i32_1080 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let v167 : BitVec 32 := Scalar.andi v8 c1_i32_106
  let v168 : BitVec 32 := Scalar.ori v167 c0_i32_107
  let c256_i32_1079 : BitVec 32 := 256#32
  let v1084 : BitVec 32 := Scalar.muli v168 c256_i32_1079
  let v1085 : BitVec 32 := Scalar.addi v1084 c0_i32_1080
  let v1086 : Index := Scalar.indexCast v1085
  let c0_1081 : Index := 0#32
  ![v1086.toNat, 0]
def k0_off4_at (r : Fin 28) : BitVec 32 × BitVec 32 × BitVec 32 :=
  if r.val < 14 then
    if r.val < 7 then
      if r.val < 3 then
        if r.val < 1 then
          (1#32, 0#32, 0#32)
        else
          if r.val < 2 then
            (1#32, 2#32, 0#32)
          else
            (1#32, 4#32, 0#32)
      else
        if r.val < 5 then
          if r.val < 4 then
            (1#32, 6#32, 0#32)
          else
            (1#32, 0#32, 64#32)
        else
          if r.val < 6 then
            (1#32, 2#32, 64#32)
          else
            (1#32, 4#32, 64#32)
    else
      if r.val < 10 then
        if r.val < 8 then
          (1#32, 6#32, 64#32)
        else
          if r.val < 9 then
            (1#32, 0#32, 128#32)
          else
            (1#32, 2#32, 128#32)
      else
        if r.val < 12 then
          if r.val < 11 then
            (1#32, 4#32, 128#32)
          else
            (1#32, 6#32, 128#32)
        else
          if r.val < 13 then
            (1#32, 0#32, 192#32)
          else
            (1#32, 2#32, 192#32)
  else
    if r.val < 21 then
      if r.val < 17 then
        if r.val < 15 then
          (1#32, 4#32, 192#32)
        else
          if r.val < 16 then
            (1#32, 6#32, 192#32)
          else
            (3#32, 0#32, 0#32)
      else
        if r.val < 19 then
          if r.val < 18 then
            (3#32, 4#32, 0#32)
          else
            (3#32, 0#32, 64#32)
        else
          if r.val < 20 then
            (3#32, 4#32, 64#32)
          else
            (3#32, 0#32, 128#32)
    else
      if r.val < 24 then
        if r.val < 22 then
          (3#32, 4#32, 128#32)
        else
          if r.val < 23 then
            (3#32, 0#32, 192#32)
          else
            (3#32, 4#32, 192#32)
      else
        if r.val < 26 then
          if r.val < 25 then
            (7#32, 0#32, 0#32)
          else
            (7#32, 0#32, 64#32)
        else
          if r.val < 27 then
            (7#32, 0#32, 128#32)
          else
            (7#32, 0#32, 192#32)
def k0_dev52 (d0 : Dev nD) : Nat :=
  let c0_i32_1191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_1174 : BitVec 32 := 2#32
  let v1164 : BitVec 32 := Scalar.xori v8 c2_i32_1174
  let c4_i32_1175 : BitVec 32 := 4#32
  let v1165 : BitVec 32 := Scalar.andi v1164 c4_i32_1175
  let c3_i32_1176 : BitVec 32 := 3#32
  let v1166 : BitVec 32 := Scalar.andi v1164 c3_i32_1176
  let c3_i32_1177 : BitVec 32 := 3#32
  let v1167 : BitVec 32 := Scalar.andi v1164 c3_i32_1177
  let c1_i32_1178 : BitVec 32 := 1#32
  let v1168 : BitVec 32 := Scalar.shrsi v1167 c1_i32_1178
  let v1169 : BitVec 32 := Scalar.xori v1166 v1168
  let v1170 : BitVec 32 := Scalar.ori v1165 v1169
  let c1_i32_1190 : BitVec 32 := 1#32
  let v1176 : BitVec 32 := Scalar.muli v1170 c1_i32_1190
  let v1177 : BitVec 32 := Scalar.addi c0_i32_1191 v1176
  v1177.toNat
def k0_dev53 (d0 : Dev nD) : Nat :=
  let c0_i32_1209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_1174 : BitVec 32 := 2#32
  let v1164 : BitVec 32 := Scalar.xori v8 c2_i32_1174
  let c4_i32_1175 : BitVec 32 := 4#32
  let v1165 : BitVec 32 := Scalar.andi v1164 c4_i32_1175
  let c3_i32_1176 : BitVec 32 := 3#32
  let v1166 : BitVec 32 := Scalar.andi v1164 c3_i32_1176
  let c3_i32_1177 : BitVec 32 := 3#32
  let v1167 : BitVec 32 := Scalar.andi v1164 c3_i32_1177
  let c1_i32_1178 : BitVec 32 := 1#32
  let v1168 : BitVec 32 := Scalar.shrsi v1167 c1_i32_1178
  let v1169 : BitVec 32 := Scalar.xori v1166 v1168
  let v1170 : BitVec 32 := Scalar.ori v1165 v1169
  let c1_i32_1208 : BitVec 32 := 1#32
  let v1192 : BitVec 32 := Scalar.muli v1170 c1_i32_1208
  let v1193 : BitVec 32 := Scalar.addi c0_i32_1209 v1192
  v1193.toNat
def k0_off5 (d0 : Dev nD) (c2_i32_439 : BitVec 32) (c0_i32_440 : BitVec 32) (c0_i32_1237 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let v488 : BitVec 32 := Scalar.andi v8 c2_i32_439
  let v489 : BitVec 32 := Scalar.ori v488 c0_i32_440
  let c256_i32_1236 : BitVec 32 := 256#32
  let v1215 : BitVec 32 := Scalar.muli v489 c256_i32_1236
  let v1216 : BitVec 32 := Scalar.addi v1215 c0_i32_1237
  let v1217 : Index := Scalar.indexCast v1216
  let c384_1238 : Index := 384#32
  ![v1217.toNat, 384]
def k0_off5_at (r : Fin 28) : BitVec 32 × BitVec 32 × BitVec 32 :=
  if r.val < 14 then
    if r.val < 7 then
      if r.val < 3 then
        if r.val < 1 then
          (2#32, 0#32, 0#32)
        else
          if r.val < 2 then
            (2#32, 4#32, 0#32)
          else
            (2#32, 1#32, 0#32)
      else
        if r.val < 5 then
          if r.val < 4 then
            (2#32, 5#32, 0#32)
          else
            (2#32, 0#32, 64#32)
        else
          if r.val < 6 then
            (2#32, 4#32, 64#32)
          else
            (2#32, 1#32, 64#32)
    else
      if r.val < 10 then
        if r.val < 8 then
          (2#32, 5#32, 64#32)
        else
          if r.val < 9 then
            (2#32, 0#32, 128#32)
          else
            (2#32, 4#32, 128#32)
      else
        if r.val < 12 then
          if r.val < 11 then
            (2#32, 1#32, 128#32)
          else
            (2#32, 5#32, 128#32)
        else
          if r.val < 13 then
            (2#32, 0#32, 192#32)
          else
            (2#32, 4#32, 192#32)
  else
    if r.val < 21 then
      if r.val < 17 then
        if r.val < 15 then
          (2#32, 1#32, 192#32)
        else
          if r.val < 16 then
            (2#32, 5#32, 192#32)
          else
            (6#32, 0#32, 0#32)
      else
        if r.val < 19 then
          if r.val < 18 then
            (6#32, 1#32, 0#32)
          else
            (6#32, 0#32, 64#32)
        else
          if r.val < 20 then
            (6#32, 1#32, 64#32)
          else
            (6#32, 0#32, 128#32)
    else
      if r.val < 24 then
        if r.val < 22 then
          (6#32, 1#32, 128#32)
        else
          if r.val < 23 then
            (6#32, 0#32, 192#32)
          else
            (6#32, 1#32, 192#32)
      else
        if r.val < 26 then
          if r.val < 25 then
            (7#32, 0#32, 0#32)
          else
            (7#32, 0#32, 64#32)
        else
          if r.val < 27 then
            (7#32, 0#32, 128#32)
          else
            (7#32, 0#32, 192#32)
def k0_dev54 (d0 : Dev nD) : Nat :=
  let c0_i32_1347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_1330 : BitVec 32 := 4#32
  let v1295 : BitVec 32 := Scalar.xori v8 c4_i32_1330
  let c4_i32_1331 : BitVec 32 := 4#32
  let v1296 : BitVec 32 := Scalar.andi v1295 c4_i32_1331
  let c3_i32_1332 : BitVec 32 := 3#32
  let v1297 : BitVec 32 := Scalar.andi v1295 c3_i32_1332
  let c3_i32_1333 : BitVec 32 := 3#32
  let v1298 : BitVec 32 := Scalar.andi v1295 c3_i32_1333
  let c1_i32_1334 : BitVec 32 := 1#32
  let v1299 : BitVec 32 := Scalar.shrsi v1298 c1_i32_1334
  let v1300 : BitVec 32 := Scalar.xori v1297 v1299
  let v1301 : BitVec 32 := Scalar.ori v1296 v1300
  let c1_i32_1346 : BitVec 32 := 1#32
  let v1307 : BitVec 32 := Scalar.muli v1301 c1_i32_1346
  let v1308 : BitVec 32 := Scalar.addi c0_i32_1347 v1307
  v1308.toNat
def k0_dev55 (d0 : Dev nD) : Nat :=
  let c0_i32_1365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_1330 : BitVec 32 := 4#32
  let v1295 : BitVec 32 := Scalar.xori v8 c4_i32_1330
  let c4_i32_1331 : BitVec 32 := 4#32
  let v1296 : BitVec 32 := Scalar.andi v1295 c4_i32_1331
  let c3_i32_1332 : BitVec 32 := 3#32
  let v1297 : BitVec 32 := Scalar.andi v1295 c3_i32_1332
  let c3_i32_1333 : BitVec 32 := 3#32
  let v1298 : BitVec 32 := Scalar.andi v1295 c3_i32_1333
  let c1_i32_1334 : BitVec 32 := 1#32
  let v1299 : BitVec 32 := Scalar.shrsi v1298 c1_i32_1334
  let v1300 : BitVec 32 := Scalar.xori v1297 v1299
  let v1301 : BitVec 32 := Scalar.ori v1296 v1300
  let c1_i32_1364 : BitVec 32 := 1#32
  let v1323 : BitVec 32 := Scalar.muli v1301 c1_i32_1364
  let v1324 : BitVec 32 := Scalar.addi c0_i32_1365 v1323
  v1324.toNat
def k0_off6 (d0 : Dev nD) (c4_i32_774 : BitVec 32) (c0_i32_775 : BitVec 32) (c0_i32_1393 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let v809 : BitVec 32 := Scalar.andi v8 c4_i32_774
  let v810 : BitVec 32 := Scalar.ori v809 c0_i32_775
  let c256_i32_1392 : BitVec 32 := 256#32
  let v1346 : BitVec 32 := Scalar.muli v810 c256_i32_1392
  let v1347 : BitVec 32 := Scalar.addi v1346 c0_i32_1393
  let v1348 : Index := Scalar.indexCast v1347
  let c768_1394 : Index := 768#32
  ![v1348.toNat, 768]
def k0_off6_at (r : Fin 28) : BitVec 32 × BitVec 32 × BitVec 32 :=
  if r.val < 14 then
    if r.val < 7 then
      if r.val < 3 then
        if r.val < 1 then
          (4#32, 0#32, 0#32)
        else
          if r.val < 2 then
            (4#32, 1#32, 0#32)
          else
            (4#32, 2#32, 0#32)
      else
        if r.val < 5 then
          if r.val < 4 then
            (4#32, 3#32, 0#32)
          else
            (4#32, 0#32, 64#32)
        else
          if r.val < 6 then
            (4#32, 1#32, 64#32)
          else
            (4#32, 2#32, 64#32)
    else
      if r.val < 10 then
        if r.val < 8 then
          (4#32, 3#32, 64#32)
        else
          if r.val < 9 then
            (4#32, 0#32, 128#32)
          else
            (4#32, 1#32, 128#32)
      else
        if r.val < 12 then
          if r.val < 11 then
            (4#32, 2#32, 128#32)
          else
            (4#32, 3#32, 128#32)
        else
          if r.val < 13 then
            (4#32, 0#32, 192#32)
          else
            (4#32, 1#32, 192#32)
  else
    if r.val < 21 then
      if r.val < 17 then
        if r.val < 15 then
          (4#32, 2#32, 192#32)
        else
          if r.val < 16 then
            (4#32, 3#32, 192#32)
          else
            (5#32, 0#32, 0#32)
      else
        if r.val < 19 then
          if r.val < 18 then
            (5#32, 2#32, 0#32)
          else
            (5#32, 0#32, 64#32)
        else
          if r.val < 20 then
            (5#32, 2#32, 64#32)
          else
            (5#32, 0#32, 128#32)
    else
      if r.val < 24 then
        if r.val < 22 then
          (5#32, 2#32, 128#32)
        else
          if r.val < 23 then
            (5#32, 0#32, 192#32)
          else
            (5#32, 2#32, 192#32)
      else
        if r.val < 26 then
          if r.val < 25 then
            (7#32, 0#32, 0#32)
          else
            (7#32, 0#32, 64#32)
        else
          if r.val < 27 then
            (7#32, 0#32, 128#32)
          else
            (7#32, 0#32, 192#32)
def k0_dev56 (d0 : Dev nD) : Nat :=
  let c0_i32_1503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_1486 : BitVec 32 := 1#32
  let v1426 : BitVec 32 := Scalar.xori v8 c1_i32_1486
  let c4_i32_1487 : BitVec 32 := 4#32
  let v1427 : BitVec 32 := Scalar.andi v1426 c4_i32_1487
  let c3_i32_1488 : BitVec 32 := 3#32
  let v1428 : BitVec 32 := Scalar.andi v1426 c3_i32_1488
  let c3_i32_1489 : BitVec 32 := 3#32
  let v1429 : BitVec 32 := Scalar.andi v1426 c3_i32_1489
  let c1_i32_1490 : BitVec 32 := 1#32
  let v1430 : BitVec 32 := Scalar.shrsi v1429 c1_i32_1490
  let v1431 : BitVec 32 := Scalar.xori v1428 v1430
  let v1432 : BitVec 32 := Scalar.ori v1427 v1431
  let c1_i32_1502 : BitVec 32 := 1#32
  let v1438 : BitVec 32 := Scalar.muli v1432 c1_i32_1502
  let v1439 : BitVec 32 := Scalar.addi c0_i32_1503 v1438
  v1439.toNat
def k0_dev57 (d0 : Dev nD) : Nat :=
  let c0_i32_1521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_1486 : BitVec 32 := 1#32
  let v1426 : BitVec 32 := Scalar.xori v8 c1_i32_1486
  let c4_i32_1487 : BitVec 32 := 4#32
  let v1427 : BitVec 32 := Scalar.andi v1426 c4_i32_1487
  let c3_i32_1488 : BitVec 32 := 3#32
  let v1428 : BitVec 32 := Scalar.andi v1426 c3_i32_1488
  let c3_i32_1489 : BitVec 32 := 3#32
  let v1429 : BitVec 32 := Scalar.andi v1426 c3_i32_1489
  let c1_i32_1490 : BitVec 32 := 1#32
  let v1430 : BitVec 32 := Scalar.shrsi v1429 c1_i32_1490
  let v1431 : BitVec 32 := Scalar.xori v1428 v1430
  let v1432 : BitVec 32 := Scalar.ori v1427 v1431
  let c1_i32_1520 : BitVec 32 := 1#32
  let v1454 : BitVec 32 := Scalar.muli v1432 c1_i32_1520
  let v1455 : BitVec 32 := Scalar.addi c0_i32_1521 v1454
  v1455.toNat
def k0_dev58 (d0 : Dev nD) : Nat :=
  let c0_i32_1660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_1643 : BitVec 32 := 2#32
  let v1557 : BitVec 32 := Scalar.xori v8 c2_i32_1643
  let c4_i32_1644 : BitVec 32 := 4#32
  let v1558 : BitVec 32 := Scalar.andi v1557 c4_i32_1644
  let c3_i32_1645 : BitVec 32 := 3#32
  let v1559 : BitVec 32 := Scalar.andi v1557 c3_i32_1645
  let c3_i32_1646 : BitVec 32 := 3#32
  let v1560 : BitVec 32 := Scalar.andi v1557 c3_i32_1646
  let c1_i32_1647 : BitVec 32 := 1#32
  let v1561 : BitVec 32 := Scalar.shrsi v1560 c1_i32_1647
  let v1562 : BitVec 32 := Scalar.xori v1559 v1561
  let v1563 : BitVec 32 := Scalar.ori v1558 v1562
  let c1_i32_1659 : BitVec 32 := 1#32
  let v1569 : BitVec 32 := Scalar.muli v1563 c1_i32_1659
  let v1570 : BitVec 32 := Scalar.addi c0_i32_1660 v1569
  v1570.toNat
def k0_dev59 (d0 : Dev nD) : Nat :=
  let c0_i32_1678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_1643 : BitVec 32 := 2#32
  let v1557 : BitVec 32 := Scalar.xori v8 c2_i32_1643
  let c4_i32_1644 : BitVec 32 := 4#32
  let v1558 : BitVec 32 := Scalar.andi v1557 c4_i32_1644
  let c3_i32_1645 : BitVec 32 := 3#32
  let v1559 : BitVec 32 := Scalar.andi v1557 c3_i32_1645
  let c3_i32_1646 : BitVec 32 := 3#32
  let v1560 : BitVec 32 := Scalar.andi v1557 c3_i32_1646
  let c1_i32_1647 : BitVec 32 := 1#32
  let v1561 : BitVec 32 := Scalar.shrsi v1560 c1_i32_1647
  let v1562 : BitVec 32 := Scalar.xori v1559 v1561
  let v1563 : BitVec 32 := Scalar.ori v1558 v1562
  let c1_i32_1677 : BitVec 32 := 1#32
  let v1585 : BitVec 32 := Scalar.muli v1563 c1_i32_1677
  let v1586 : BitVec 32 := Scalar.addi c0_i32_1678 v1585
  v1586.toNat
def k0_dev60 (d0 : Dev nD) : Nat :=
  let c0_i32_1816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_1799 : BitVec 32 := 4#32
  let v1688 : BitVec 32 := Scalar.xori v8 c4_i32_1799
  let c4_i32_1800 : BitVec 32 := 4#32
  let v1689 : BitVec 32 := Scalar.andi v1688 c4_i32_1800
  let c3_i32_1801 : BitVec 32 := 3#32
  let v1690 : BitVec 32 := Scalar.andi v1688 c3_i32_1801
  let c3_i32_1802 : BitVec 32 := 3#32
  let v1691 : BitVec 32 := Scalar.andi v1688 c3_i32_1802
  let c1_i32_1803 : BitVec 32 := 1#32
  let v1692 : BitVec 32 := Scalar.shrsi v1691 c1_i32_1803
  let v1693 : BitVec 32 := Scalar.xori v1690 v1692
  let v1694 : BitVec 32 := Scalar.ori v1689 v1693
  let c1_i32_1815 : BitVec 32 := 1#32
  let v1700 : BitVec 32 := Scalar.muli v1694 c1_i32_1815
  let v1701 : BitVec 32 := Scalar.addi c0_i32_1816 v1700
  v1701.toNat
def k0_dev61 (d0 : Dev nD) : Nat :=
  let c0_i32_1834 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_1799 : BitVec 32 := 4#32
  let v1688 : BitVec 32 := Scalar.xori v8 c4_i32_1799
  let c4_i32_1800 : BitVec 32 := 4#32
  let v1689 : BitVec 32 := Scalar.andi v1688 c4_i32_1800
  let c3_i32_1801 : BitVec 32 := 3#32
  let v1690 : BitVec 32 := Scalar.andi v1688 c3_i32_1801
  let c3_i32_1802 : BitVec 32 := 3#32
  let v1691 : BitVec 32 := Scalar.andi v1688 c3_i32_1802
  let c1_i32_1803 : BitVec 32 := 1#32
  let v1692 : BitVec 32 := Scalar.shrsi v1691 c1_i32_1803
  let v1693 : BitVec 32 := Scalar.xori v1690 v1692
  let v1694 : BitVec 32 := Scalar.ori v1689 v1693
  let c1_i32_1833 : BitVec 32 := 1#32
  let v1716 : BitVec 32 := Scalar.muli v1694 c1_i32_1833
  let v1717 : BitVec 32 := Scalar.addi c0_i32_1834 v1716
  v1717.toNat
def k0_dev62 (d0 : Dev nD) : Nat :=
  let c0_i32_1972 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_1955 : BitVec 32 := 1#32
  let v1819 : BitVec 32 := Scalar.xori v8 c1_i32_1955
  let c4_i32_1956 : BitVec 32 := 4#32
  let v1820 : BitVec 32 := Scalar.andi v1819 c4_i32_1956
  let c3_i32_1957 : BitVec 32 := 3#32
  let v1821 : BitVec 32 := Scalar.andi v1819 c3_i32_1957
  let c3_i32_1958 : BitVec 32 := 3#32
  let v1822 : BitVec 32 := Scalar.andi v1819 c3_i32_1958
  let c1_i32_1959 : BitVec 32 := 1#32
  let v1823 : BitVec 32 := Scalar.shrsi v1822 c1_i32_1959
  let v1824 : BitVec 32 := Scalar.xori v1821 v1823
  let v1825 : BitVec 32 := Scalar.ori v1820 v1824
  let c1_i32_1971 : BitVec 32 := 1#32
  let v1831 : BitVec 32 := Scalar.muli v1825 c1_i32_1971
  let v1832 : BitVec 32 := Scalar.addi c0_i32_1972 v1831
  v1832.toNat
def k0_dev63 (d0 : Dev nD) : Nat :=
  let c0_i32_1990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_1955 : BitVec 32 := 1#32
  let v1819 : BitVec 32 := Scalar.xori v8 c1_i32_1955
  let c4_i32_1956 : BitVec 32 := 4#32
  let v1820 : BitVec 32 := Scalar.andi v1819 c4_i32_1956
  let c3_i32_1957 : BitVec 32 := 3#32
  let v1821 : BitVec 32 := Scalar.andi v1819 c3_i32_1957
  let c3_i32_1958 : BitVec 32 := 3#32
  let v1822 : BitVec 32 := Scalar.andi v1819 c3_i32_1958
  let c1_i32_1959 : BitVec 32 := 1#32
  let v1823 : BitVec 32 := Scalar.shrsi v1822 c1_i32_1959
  let v1824 : BitVec 32 := Scalar.xori v1821 v1823
  let v1825 : BitVec 32 := Scalar.ori v1820 v1824
  let c1_i32_1989 : BitVec 32 := 1#32
  let v1847 : BitVec 32 := Scalar.muli v1825 c1_i32_1989
  let v1848 : BitVec 32 := Scalar.addi c0_i32_1990 v1847
  v1848.toNat
def k0_dev64 (d0 : Dev nD) : Nat :=
  let c0_i32_2129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_2112 : BitVec 32 := 2#32
  let v1950 : BitVec 32 := Scalar.xori v8 c2_i32_2112
  let c4_i32_2113 : BitVec 32 := 4#32
  let v1951 : BitVec 32 := Scalar.andi v1950 c4_i32_2113
  let c3_i32_2114 : BitVec 32 := 3#32
  let v1952 : BitVec 32 := Scalar.andi v1950 c3_i32_2114
  let c3_i32_2115 : BitVec 32 := 3#32
  let v1953 : BitVec 32 := Scalar.andi v1950 c3_i32_2115
  let c1_i32_2116 : BitVec 32 := 1#32
  let v1954 : BitVec 32 := Scalar.shrsi v1953 c1_i32_2116
  let v1955 : BitVec 32 := Scalar.xori v1952 v1954
  let v1956 : BitVec 32 := Scalar.ori v1951 v1955
  let c1_i32_2128 : BitVec 32 := 1#32
  let v1962 : BitVec 32 := Scalar.muli v1956 c1_i32_2128
  let v1963 : BitVec 32 := Scalar.addi c0_i32_2129 v1962
  v1963.toNat
def k0_dev65 (d0 : Dev nD) : Nat :=
  let c0_i32_2147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_2112 : BitVec 32 := 2#32
  let v1950 : BitVec 32 := Scalar.xori v8 c2_i32_2112
  let c4_i32_2113 : BitVec 32 := 4#32
  let v1951 : BitVec 32 := Scalar.andi v1950 c4_i32_2113
  let c3_i32_2114 : BitVec 32 := 3#32
  let v1952 : BitVec 32 := Scalar.andi v1950 c3_i32_2114
  let c3_i32_2115 : BitVec 32 := 3#32
  let v1953 : BitVec 32 := Scalar.andi v1950 c3_i32_2115
  let c1_i32_2116 : BitVec 32 := 1#32
  let v1954 : BitVec 32 := Scalar.shrsi v1953 c1_i32_2116
  let v1955 : BitVec 32 := Scalar.xori v1952 v1954
  let v1956 : BitVec 32 := Scalar.ori v1951 v1955
  let c1_i32_2146 : BitVec 32 := 1#32
  let v1978 : BitVec 32 := Scalar.muli v1956 c1_i32_2146
  let v1979 : BitVec 32 := Scalar.addi c0_i32_2147 v1978
  v1979.toNat
def k0_dev66 (d0 : Dev nD) : Nat :=
  let c0_i32_2285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_2268 : BitVec 32 := 4#32
  let v2081 : BitVec 32 := Scalar.xori v8 c4_i32_2268
  let c4_i32_2269 : BitVec 32 := 4#32
  let v2082 : BitVec 32 := Scalar.andi v2081 c4_i32_2269
  let c3_i32_2270 : BitVec 32 := 3#32
  let v2083 : BitVec 32 := Scalar.andi v2081 c3_i32_2270
  let c3_i32_2271 : BitVec 32 := 3#32
  let v2084 : BitVec 32 := Scalar.andi v2081 c3_i32_2271
  let c1_i32_2272 : BitVec 32 := 1#32
  let v2085 : BitVec 32 := Scalar.shrsi v2084 c1_i32_2272
  let v2086 : BitVec 32 := Scalar.xori v2083 v2085
  let v2087 : BitVec 32 := Scalar.ori v2082 v2086
  let c1_i32_2284 : BitVec 32 := 1#32
  let v2093 : BitVec 32 := Scalar.muli v2087 c1_i32_2284
  let v2094 : BitVec 32 := Scalar.addi c0_i32_2285 v2093
  v2094.toNat
def k0_dev67 (d0 : Dev nD) : Nat :=
  let c0_i32_2303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_2268 : BitVec 32 := 4#32
  let v2081 : BitVec 32 := Scalar.xori v8 c4_i32_2268
  let c4_i32_2269 : BitVec 32 := 4#32
  let v2082 : BitVec 32 := Scalar.andi v2081 c4_i32_2269
  let c3_i32_2270 : BitVec 32 := 3#32
  let v2083 : BitVec 32 := Scalar.andi v2081 c3_i32_2270
  let c3_i32_2271 : BitVec 32 := 3#32
  let v2084 : BitVec 32 := Scalar.andi v2081 c3_i32_2271
  let c1_i32_2272 : BitVec 32 := 1#32
  let v2085 : BitVec 32 := Scalar.shrsi v2084 c1_i32_2272
  let v2086 : BitVec 32 := Scalar.xori v2083 v2085
  let v2087 : BitVec 32 := Scalar.ori v2082 v2086
  let c1_i32_2302 : BitVec 32 := 1#32
  let v2109 : BitVec 32 := Scalar.muli v2087 c1_i32_2302
  let v2110 : BitVec 32 := Scalar.addi c0_i32_2303 v2109
  v2110.toNat
def k0_dev68 (d0 : Dev nD) : Nat :=
  let c0_i32_2441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_2424 : BitVec 32 := 1#32
  let v2212 : BitVec 32 := Scalar.xori v8 c1_i32_2424
  let c4_i32_2425 : BitVec 32 := 4#32
  let v2213 : BitVec 32 := Scalar.andi v2212 c4_i32_2425
  let c3_i32_2426 : BitVec 32 := 3#32
  let v2214 : BitVec 32 := Scalar.andi v2212 c3_i32_2426
  let c3_i32_2427 : BitVec 32 := 3#32
  let v2215 : BitVec 32 := Scalar.andi v2212 c3_i32_2427
  let c1_i32_2428 : BitVec 32 := 1#32
  let v2216 : BitVec 32 := Scalar.shrsi v2215 c1_i32_2428
  let v2217 : BitVec 32 := Scalar.xori v2214 v2216
  let v2218 : BitVec 32 := Scalar.ori v2213 v2217
  let c1_i32_2440 : BitVec 32 := 1#32
  let v2224 : BitVec 32 := Scalar.muli v2218 c1_i32_2440
  let v2225 : BitVec 32 := Scalar.addi c0_i32_2441 v2224
  v2225.toNat
def k0_dev69 (d0 : Dev nD) : Nat :=
  let c0_i32_2459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_2424 : BitVec 32 := 1#32
  let v2212 : BitVec 32 := Scalar.xori v8 c1_i32_2424
  let c4_i32_2425 : BitVec 32 := 4#32
  let v2213 : BitVec 32 := Scalar.andi v2212 c4_i32_2425
  let c3_i32_2426 : BitVec 32 := 3#32
  let v2214 : BitVec 32 := Scalar.andi v2212 c3_i32_2426
  let c3_i32_2427 : BitVec 32 := 3#32
  let v2215 : BitVec 32 := Scalar.andi v2212 c3_i32_2427
  let c1_i32_2428 : BitVec 32 := 1#32
  let v2216 : BitVec 32 := Scalar.shrsi v2215 c1_i32_2428
  let v2217 : BitVec 32 := Scalar.xori v2214 v2216
  let v2218 : BitVec 32 := Scalar.ori v2213 v2217
  let c1_i32_2458 : BitVec 32 := 1#32
  let v2240 : BitVec 32 := Scalar.muli v2218 c1_i32_2458
  let v2241 : BitVec 32 := Scalar.addi c0_i32_2459 v2240
  v2241.toNat
def k0_dev70 (d0 : Dev nD) : Nat :=
  let c0_i32_2598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_2581 : BitVec 32 := 2#32
  let v2343 : BitVec 32 := Scalar.xori v8 c2_i32_2581
  let c4_i32_2582 : BitVec 32 := 4#32
  let v2344 : BitVec 32 := Scalar.andi v2343 c4_i32_2582
  let c3_i32_2583 : BitVec 32 := 3#32
  let v2345 : BitVec 32 := Scalar.andi v2343 c3_i32_2583
  let c3_i32_2584 : BitVec 32 := 3#32
  let v2346 : BitVec 32 := Scalar.andi v2343 c3_i32_2584
  let c1_i32_2585 : BitVec 32 := 1#32
  let v2347 : BitVec 32 := Scalar.shrsi v2346 c1_i32_2585
  let v2348 : BitVec 32 := Scalar.xori v2345 v2347
  let v2349 : BitVec 32 := Scalar.ori v2344 v2348
  let c1_i32_2597 : BitVec 32 := 1#32
  let v2355 : BitVec 32 := Scalar.muli v2349 c1_i32_2597
  let v2356 : BitVec 32 := Scalar.addi c0_i32_2598 v2355
  v2356.toNat
def k0_dev71 (d0 : Dev nD) : Nat :=
  let c0_i32_2616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_2581 : BitVec 32 := 2#32
  let v2343 : BitVec 32 := Scalar.xori v8 c2_i32_2581
  let c4_i32_2582 : BitVec 32 := 4#32
  let v2344 : BitVec 32 := Scalar.andi v2343 c4_i32_2582
  let c3_i32_2583 : BitVec 32 := 3#32
  let v2345 : BitVec 32 := Scalar.andi v2343 c3_i32_2583
  let c3_i32_2584 : BitVec 32 := 3#32
  let v2346 : BitVec 32 := Scalar.andi v2343 c3_i32_2584
  let c1_i32_2585 : BitVec 32 := 1#32
  let v2347 : BitVec 32 := Scalar.shrsi v2346 c1_i32_2585
  let v2348 : BitVec 32 := Scalar.xori v2345 v2347
  let v2349 : BitVec 32 := Scalar.ori v2344 v2348
  let c1_i32_2615 : BitVec 32 := 1#32
  let v2371 : BitVec 32 := Scalar.muli v2349 c1_i32_2615
  let v2372 : BitVec 32 := Scalar.addi c0_i32_2616 v2371
  v2372.toNat
def k0_dev72 (d0 : Dev nD) : Nat :=
  let c0_i32_2754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_2737 : BitVec 32 := 4#32
  let v2474 : BitVec 32 := Scalar.xori v8 c4_i32_2737
  let c4_i32_2738 : BitVec 32 := 4#32
  let v2475 : BitVec 32 := Scalar.andi v2474 c4_i32_2738
  let c3_i32_2739 : BitVec 32 := 3#32
  let v2476 : BitVec 32 := Scalar.andi v2474 c3_i32_2739
  let c3_i32_2740 : BitVec 32 := 3#32
  let v2477 : BitVec 32 := Scalar.andi v2474 c3_i32_2740
  let c1_i32_2741 : BitVec 32 := 1#32
  let v2478 : BitVec 32 := Scalar.shrsi v2477 c1_i32_2741
  let v2479 : BitVec 32 := Scalar.xori v2476 v2478
  let v2480 : BitVec 32 := Scalar.ori v2475 v2479
  let c1_i32_2753 : BitVec 32 := 1#32
  let v2486 : BitVec 32 := Scalar.muli v2480 c1_i32_2753
  let v2487 : BitVec 32 := Scalar.addi c0_i32_2754 v2486
  v2487.toNat
def k0_dev73 (d0 : Dev nD) : Nat :=
  let c0_i32_2772 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_2737 : BitVec 32 := 4#32
  let v2474 : BitVec 32 := Scalar.xori v8 c4_i32_2737
  let c4_i32_2738 : BitVec 32 := 4#32
  let v2475 : BitVec 32 := Scalar.andi v2474 c4_i32_2738
  let c3_i32_2739 : BitVec 32 := 3#32
  let v2476 : BitVec 32 := Scalar.andi v2474 c3_i32_2739
  let c3_i32_2740 : BitVec 32 := 3#32
  let v2477 : BitVec 32 := Scalar.andi v2474 c3_i32_2740
  let c1_i32_2741 : BitVec 32 := 1#32
  let v2478 : BitVec 32 := Scalar.shrsi v2477 c1_i32_2741
  let v2479 : BitVec 32 := Scalar.xori v2476 v2478
  let v2480 : BitVec 32 := Scalar.ori v2475 v2479
  let c1_i32_2771 : BitVec 32 := 1#32
  let v2502 : BitVec 32 := Scalar.muli v2480 c1_i32_2771
  let v2503 : BitVec 32 := Scalar.addi c0_i32_2772 v2502
  v2503.toNat
def k0_dev74 (d0 : Dev nD) : Nat :=
  let c0_i32_2910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_2893 : BitVec 32 := 1#32
  let v2605 : BitVec 32 := Scalar.xori v8 c1_i32_2893
  let c4_i32_2894 : BitVec 32 := 4#32
  let v2606 : BitVec 32 := Scalar.andi v2605 c4_i32_2894
  let c3_i32_2895 : BitVec 32 := 3#32
  let v2607 : BitVec 32 := Scalar.andi v2605 c3_i32_2895
  let c3_i32_2896 : BitVec 32 := 3#32
  let v2608 : BitVec 32 := Scalar.andi v2605 c3_i32_2896
  let c1_i32_2897 : BitVec 32 := 1#32
  let v2609 : BitVec 32 := Scalar.shrsi v2608 c1_i32_2897
  let v2610 : BitVec 32 := Scalar.xori v2607 v2609
  let v2611 : BitVec 32 := Scalar.ori v2606 v2610
  let c1_i32_2909 : BitVec 32 := 1#32
  let v2617 : BitVec 32 := Scalar.muli v2611 c1_i32_2909
  let v2618 : BitVec 32 := Scalar.addi c0_i32_2910 v2617
  v2618.toNat
def k0_dev75 (d0 : Dev nD) : Nat :=
  let c0_i32_2928 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_2893 : BitVec 32 := 1#32
  let v2605 : BitVec 32 := Scalar.xori v8 c1_i32_2893
  let c4_i32_2894 : BitVec 32 := 4#32
  let v2606 : BitVec 32 := Scalar.andi v2605 c4_i32_2894
  let c3_i32_2895 : BitVec 32 := 3#32
  let v2607 : BitVec 32 := Scalar.andi v2605 c3_i32_2895
  let c3_i32_2896 : BitVec 32 := 3#32
  let v2608 : BitVec 32 := Scalar.andi v2605 c3_i32_2896
  let c1_i32_2897 : BitVec 32 := 1#32
  let v2609 : BitVec 32 := Scalar.shrsi v2608 c1_i32_2897
  let v2610 : BitVec 32 := Scalar.xori v2607 v2609
  let v2611 : BitVec 32 := Scalar.ori v2606 v2610
  let c1_i32_2927 : BitVec 32 := 1#32
  let v2633 : BitVec 32 := Scalar.muli v2611 c1_i32_2927
  let v2634 : BitVec 32 := Scalar.addi c0_i32_2928 v2633
  v2634.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c256_i32_2934 : BitVec 32 := 256#32
  let v2644 : BitVec 32 := Scalar.muli v8 c256_i32_2934
  let v2645 : Index := Scalar.indexCast v2644
  let c0_2935 : Index := 0#32
  ![v2645.toNat, 0]
def k0_dev76 (d0 : Dev nD) : Nat :=
  let c0_i32_3014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_2997 : BitVec 32 := 4#32
  let v2697 : BitVec 32 := Scalar.xori v8 c4_i32_2997
  let c4_i32_2998 : BitVec 32 := 4#32
  let v2698 : BitVec 32 := Scalar.andi v2697 c4_i32_2998
  let c3_i32_2999 : BitVec 32 := 3#32
  let v2699 : BitVec 32 := Scalar.andi v2697 c3_i32_2999
  let c3_i32_3000 : BitVec 32 := 3#32
  let v2700 : BitVec 32 := Scalar.andi v2697 c3_i32_3000
  let c1_i32_3001 : BitVec 32 := 1#32
  let v2701 : BitVec 32 := Scalar.shrsi v2700 c1_i32_3001
  let v2702 : BitVec 32 := Scalar.xori v2699 v2701
  let v2703 : BitVec 32 := Scalar.ori v2698 v2702
  let c1_i32_3013 : BitVec 32 := 1#32
  let v2709 : BitVec 32 := Scalar.muli v2703 c1_i32_3013
  let v2710 : BitVec 32 := Scalar.addi c0_i32_3014 v2709
  v2710.toNat
def k0_dev77 (d0 : Dev nD) : Nat :=
  let c0_i32_3095 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_3078 : BitVec 32 := 1#32
  let v2766 : BitVec 32 := Scalar.xori v8 c1_i32_3078
  let c4_i32_3079 : BitVec 32 := 4#32
  let v2767 : BitVec 32 := Scalar.andi v2766 c4_i32_3079
  let c3_i32_3080 : BitVec 32 := 3#32
  let v2768 : BitVec 32 := Scalar.andi v2766 c3_i32_3080
  let c3_i32_3081 : BitVec 32 := 3#32
  let v2769 : BitVec 32 := Scalar.andi v2766 c3_i32_3081
  let c1_i32_3082 : BitVec 32 := 1#32
  let v2770 : BitVec 32 := Scalar.shrsi v2769 c1_i32_3082
  let v2771 : BitVec 32 := Scalar.xori v2768 v2770
  let v2772 : BitVec 32 := Scalar.ori v2767 v2771
  let c1_i32_3094 : BitVec 32 := 1#32
  let v2778 : BitVec 32 := Scalar.muli v2772 c1_i32_3094
  let v2779 : BitVec 32 := Scalar.addi c0_i32_3095 v2778
  v2779.toNat
def k0_dev78 (d0 : Dev nD) : Nat :=
  let c0_i32_3176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_3159 : BitVec 32 := 2#32
  let v2835 : BitVec 32 := Scalar.xori v8 c2_i32_3159
  let c4_i32_3160 : BitVec 32 := 4#32
  let v2836 : BitVec 32 := Scalar.andi v2835 c4_i32_3160
  let c3_i32_3161 : BitVec 32 := 3#32
  let v2837 : BitVec 32 := Scalar.andi v2835 c3_i32_3161
  let c3_i32_3162 : BitVec 32 := 3#32
  let v2838 : BitVec 32 := Scalar.andi v2835 c3_i32_3162
  let c1_i32_3163 : BitVec 32 := 1#32
  let v2839 : BitVec 32 := Scalar.shrsi v2838 c1_i32_3163
  let v2840 : BitVec 32 := Scalar.xori v2837 v2839
  let v2841 : BitVec 32 := Scalar.ori v2836 v2840
  let c1_i32_3175 : BitVec 32 := 1#32
  let v2847 : BitVec 32 := Scalar.muli v2841 c1_i32_3175
  let v2848 : BitVec 32 := Scalar.addi c0_i32_3176 v2847
  v2848.toNat
def k0_dev79 (d0 : Dev nD) : Nat :=
  let c0_i32_3257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_3240 : BitVec 32 := 4#32
  let v2904 : BitVec 32 := Scalar.xori v8 c4_i32_3240
  let c4_i32_3241 : BitVec 32 := 4#32
  let v2905 : BitVec 32 := Scalar.andi v2904 c4_i32_3241
  let c3_i32_3242 : BitVec 32 := 3#32
  let v2906 : BitVec 32 := Scalar.andi v2904 c3_i32_3242
  let c3_i32_3243 : BitVec 32 := 3#32
  let v2907 : BitVec 32 := Scalar.andi v2904 c3_i32_3243
  let c1_i32_3244 : BitVec 32 := 1#32
  let v2908 : BitVec 32 := Scalar.shrsi v2907 c1_i32_3244
  let v2909 : BitVec 32 := Scalar.xori v2906 v2908
  let v2910 : BitVec 32 := Scalar.ori v2905 v2909
  let c1_i32_3256 : BitVec 32 := 1#32
  let v2916 : BitVec 32 := Scalar.muli v2910 c1_i32_3256
  let v2917 : BitVec 32 := Scalar.addi c0_i32_3257 v2916
  v2917.toNat
def k0_dev80 (d0 : Dev nD) : Nat :=
  let c0_i32_3338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_3321 : BitVec 32 := 1#32
  let v2973 : BitVec 32 := Scalar.xori v8 c1_i32_3321
  let c4_i32_3322 : BitVec 32 := 4#32
  let v2974 : BitVec 32 := Scalar.andi v2973 c4_i32_3322
  let c3_i32_3323 : BitVec 32 := 3#32
  let v2975 : BitVec 32 := Scalar.andi v2973 c3_i32_3323
  let c3_i32_3324 : BitVec 32 := 3#32
  let v2976 : BitVec 32 := Scalar.andi v2973 c3_i32_3324
  let c1_i32_3325 : BitVec 32 := 1#32
  let v2977 : BitVec 32 := Scalar.shrsi v2976 c1_i32_3325
  let v2978 : BitVec 32 := Scalar.xori v2975 v2977
  let v2979 : BitVec 32 := Scalar.ori v2974 v2978
  let c1_i32_3337 : BitVec 32 := 1#32
  let v2985 : BitVec 32 := Scalar.muli v2979 c1_i32_3337
  let v2986 : BitVec 32 := Scalar.addi c0_i32_3338 v2985
  v2986.toNat
def k0_dev81 (d0 : Dev nD) : Nat :=
  let c0_i32_3419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_3402 : BitVec 32 := 2#32
  let v3042 : BitVec 32 := Scalar.xori v8 c2_i32_3402
  let c4_i32_3403 : BitVec 32 := 4#32
  let v3043 : BitVec 32 := Scalar.andi v3042 c4_i32_3403
  let c3_i32_3404 : BitVec 32 := 3#32
  let v3044 : BitVec 32 := Scalar.andi v3042 c3_i32_3404
  let c3_i32_3405 : BitVec 32 := 3#32
  let v3045 : BitVec 32 := Scalar.andi v3042 c3_i32_3405
  let c1_i32_3406 : BitVec 32 := 1#32
  let v3046 : BitVec 32 := Scalar.shrsi v3045 c1_i32_3406
  let v3047 : BitVec 32 := Scalar.xori v3044 v3046
  let v3048 : BitVec 32 := Scalar.ori v3043 v3047
  let c1_i32_3418 : BitVec 32 := 1#32
  let v3054 : BitVec 32 := Scalar.muli v3048 c1_i32_3418
  let v3055 : BitVec 32 := Scalar.addi c0_i32_3419 v3054
  v3055.toNat
def k0_dev82 (d0 : Dev nD) : Nat :=
  let c0_i32_3500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_3483 : BitVec 32 := 4#32
  let v3111 : BitVec 32 := Scalar.xori v8 c4_i32_3483
  let c4_i32_3484 : BitVec 32 := 4#32
  let v3112 : BitVec 32 := Scalar.andi v3111 c4_i32_3484
  let c3_i32_3485 : BitVec 32 := 3#32
  let v3113 : BitVec 32 := Scalar.andi v3111 c3_i32_3485
  let c3_i32_3486 : BitVec 32 := 3#32
  let v3114 : BitVec 32 := Scalar.andi v3111 c3_i32_3486
  let c1_i32_3487 : BitVec 32 := 1#32
  let v3115 : BitVec 32 := Scalar.shrsi v3114 c1_i32_3487
  let v3116 : BitVec 32 := Scalar.xori v3113 v3115
  let v3117 : BitVec 32 := Scalar.ori v3112 v3116
  let c1_i32_3499 : BitVec 32 := 1#32
  let v3123 : BitVec 32 := Scalar.muli v3117 c1_i32_3499
  let v3124 : BitVec 32 := Scalar.addi c0_i32_3500 v3123
  v3124.toNat
def k0_dev83 (d0 : Dev nD) : Nat :=
  let c0_i32_3581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_3564 : BitVec 32 := 1#32
  let v3180 : BitVec 32 := Scalar.xori v8 c1_i32_3564
  let c4_i32_3565 : BitVec 32 := 4#32
  let v3181 : BitVec 32 := Scalar.andi v3180 c4_i32_3565
  let c3_i32_3566 : BitVec 32 := 3#32
  let v3182 : BitVec 32 := Scalar.andi v3180 c3_i32_3566
  let c3_i32_3567 : BitVec 32 := 3#32
  let v3183 : BitVec 32 := Scalar.andi v3180 c3_i32_3567
  let c1_i32_3568 : BitVec 32 := 1#32
  let v3184 : BitVec 32 := Scalar.shrsi v3183 c1_i32_3568
  let v3185 : BitVec 32 := Scalar.xori v3182 v3184
  let v3186 : BitVec 32 := Scalar.ori v3181 v3185
  let c1_i32_3580 : BitVec 32 := 1#32
  let v3192 : BitVec 32 := Scalar.muli v3186 c1_i32_3580
  let v3193 : BitVec 32 := Scalar.addi c0_i32_3581 v3192
  v3193.toNat
def k0_dev84 (d0 : Dev nD) : Nat :=
  let c0_i32_3662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_3645 : BitVec 32 := 2#32
  let v3249 : BitVec 32 := Scalar.xori v8 c2_i32_3645
  let c4_i32_3646 : BitVec 32 := 4#32
  let v3250 : BitVec 32 := Scalar.andi v3249 c4_i32_3646
  let c3_i32_3647 : BitVec 32 := 3#32
  let v3251 : BitVec 32 := Scalar.andi v3249 c3_i32_3647
  let c3_i32_3648 : BitVec 32 := 3#32
  let v3252 : BitVec 32 := Scalar.andi v3249 c3_i32_3648
  let c1_i32_3649 : BitVec 32 := 1#32
  let v3253 : BitVec 32 := Scalar.shrsi v3252 c1_i32_3649
  let v3254 : BitVec 32 := Scalar.xori v3251 v3253
  let v3255 : BitVec 32 := Scalar.ori v3250 v3254
  let c1_i32_3661 : BitVec 32 := 1#32
  let v3261 : BitVec 32 := Scalar.muli v3255 c1_i32_3661
  let v3262 : BitVec 32 := Scalar.addi c0_i32_3662 v3261
  v3262.toNat
def k0_dev85 (d0 : Dev nD) : Nat :=
  let c0_i32_3743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_3726 : BitVec 32 := 4#32
  let v3318 : BitVec 32 := Scalar.xori v8 c4_i32_3726
  let c4_i32_3727 : BitVec 32 := 4#32
  let v3319 : BitVec 32 := Scalar.andi v3318 c4_i32_3727
  let c3_i32_3728 : BitVec 32 := 3#32
  let v3320 : BitVec 32 := Scalar.andi v3318 c3_i32_3728
  let c3_i32_3729 : BitVec 32 := 3#32
  let v3321 : BitVec 32 := Scalar.andi v3318 c3_i32_3729
  let c1_i32_3730 : BitVec 32 := 1#32
  let v3322 : BitVec 32 := Scalar.shrsi v3321 c1_i32_3730
  let v3323 : BitVec 32 := Scalar.xori v3320 v3322
  let v3324 : BitVec 32 := Scalar.ori v3319 v3323
  let c1_i32_3742 : BitVec 32 := 1#32
  let v3330 : BitVec 32 := Scalar.muli v3324 c1_i32_3742
  let v3331 : BitVec 32 := Scalar.addi c0_i32_3743 v3330
  v3331.toNat
def k0_dev86 (d0 : Dev nD) : Nat :=
  let c0_i32_3824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_3807 : BitVec 32 := 1#32
  let v3387 : BitVec 32 := Scalar.xori v8 c1_i32_3807
  let c4_i32_3808 : BitVec 32 := 4#32
  let v3388 : BitVec 32 := Scalar.andi v3387 c4_i32_3808
  let c3_i32_3809 : BitVec 32 := 3#32
  let v3389 : BitVec 32 := Scalar.andi v3387 c3_i32_3809
  let c3_i32_3810 : BitVec 32 := 3#32
  let v3390 : BitVec 32 := Scalar.andi v3387 c3_i32_3810
  let c1_i32_3811 : BitVec 32 := 1#32
  let v3391 : BitVec 32 := Scalar.shrsi v3390 c1_i32_3811
  let v3392 : BitVec 32 := Scalar.xori v3389 v3391
  let v3393 : BitVec 32 := Scalar.ori v3388 v3392
  let c1_i32_3823 : BitVec 32 := 1#32
  let v3399 : BitVec 32 := Scalar.muli v3393 c1_i32_3823
  let v3400 : BitVec 32 := Scalar.addi c0_i32_3824 v3399
  v3400.toNat
def k0_dev87 (d0 : Dev nD) : Nat :=
  let c0_i32_3905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_3888 : BitVec 32 := 2#32
  let v3456 : BitVec 32 := Scalar.xori v8 c2_i32_3888
  let c4_i32_3889 : BitVec 32 := 4#32
  let v3457 : BitVec 32 := Scalar.andi v3456 c4_i32_3889
  let c3_i32_3890 : BitVec 32 := 3#32
  let v3458 : BitVec 32 := Scalar.andi v3456 c3_i32_3890
  let c3_i32_3891 : BitVec 32 := 3#32
  let v3459 : BitVec 32 := Scalar.andi v3456 c3_i32_3891
  let c1_i32_3892 : BitVec 32 := 1#32
  let v3460 : BitVec 32 := Scalar.shrsi v3459 c1_i32_3892
  let v3461 : BitVec 32 := Scalar.xori v3458 v3460
  let v3462 : BitVec 32 := Scalar.ori v3457 v3461
  let c1_i32_3904 : BitVec 32 := 1#32
  let v3468 : BitVec 32 := Scalar.muli v3462 c1_i32_3904
  let v3469 : BitVec 32 := Scalar.addi c0_i32_3905 v3468
  v3469.toNat
def k0_off8 (d0 : Dev nD) (c0_i32_3941 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c256_i32_3940 : BitVec 32 := 256#32
  let v3502 : BitVec 32 := Scalar.muli v8 c256_i32_3940
  let v3503 : BitVec 32 := Scalar.addi v3502 c0_i32_3941
  let v3504 : Index := Scalar.indexCast v3503
  let c0_3942 : Index := 0#32
  ![v3504.toNat, 0]
def k0_off9 (d0 : Dev nD) (c0_i32_3949 : BitVec 32) (c0_i32_3951 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let v3519 : BitVec 32 := Scalar.xori v8 c0_i32_3949
  let c256_i32_3950 : BitVec 32 := 256#32
  let v3520 : BitVec 32 := Scalar.muli v3519 c256_i32_3950
  let v3521 : BitVec 32 := Scalar.addi v3520 c0_i32_3951
  let c0_i32_3958 : BitVec 32 := 0#32
  ![v3521.toNat, 0]
def k0_dev88 (d0 : Dev nD) : Nat :=
  let c0_i32_3957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_3944 : BitVec 32 := 4#32
  let v3512 : BitVec 32 := Scalar.xori v8 c4_i32_3944
  let c4_i32_3945 : BitVec 32 := 4#32
  let v3513 : BitVec 32 := Scalar.andi v3512 c4_i32_3945
  let c3_i32_3946 : BitVec 32 := 3#32
  let v3514 : BitVec 32 := Scalar.andi v3512 c3_i32_3946
  let c3_i32_3947 : BitVec 32 := 3#32
  let v3515 : BitVec 32 := Scalar.andi v3512 c3_i32_3947
  let c1_i32_3948 : BitVec 32 := 1#32
  let v3516 : BitVec 32 := Scalar.shrsi v3515 c1_i32_3948
  let v3517 : BitVec 32 := Scalar.xori v3514 v3516
  let v3518 : BitVec 32 := Scalar.ori v3513 v3517
  let c1_i32_3956 : BitVec 32 := 1#32
  let v3522 : BitVec 32 := Scalar.muli v3518 c1_i32_3956
  let v3523 : BitVec 32 := Scalar.addi c0_i32_3957 v3522
  v3523.toNat
def k0_off10 (d0 : Dev nD) (c0_i32_3990 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c256_i32_3989 : BitVec 32 := 256#32
  let v3553 : BitVec 32 := Scalar.muli v8 c256_i32_3989
  let v3554 : BitVec 32 := Scalar.addi v3553 c0_i32_3990
  let v3555 : Index := Scalar.indexCast v3554
  let c384_3991 : Index := 384#32
  ![v3555.toNat, 384]
def k0_off11 (d0 : Dev nD) (c0_i32_3998 : BitVec 32) (c0_i32_4000 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let v3570 : BitVec 32 := Scalar.xori v8 c0_i32_3998
  let c256_i32_3999 : BitVec 32 := 256#32
  let v3571 : BitVec 32 := Scalar.muli v3570 c256_i32_3999
  let v3572 : BitVec 32 := Scalar.addi v3571 c0_i32_4000
  let c384_i32_4007 : BitVec 32 := 384#32
  ![v3572.toNat, 384]
def k0_off11_at (r : Fin 16) : BitVec 32 × BitVec 32 :=
  if r.val < 8 then
    if r.val < 4 then
      if r.val < 2 then
        if r.val < 1 then
          (0#32, 0#32)
        else
          (0#32, 64#32)
      else
        if r.val < 3 then
          (0#32, 128#32)
        else
          (0#32, 192#32)
    else
      if r.val < 6 then
        if r.val < 5 then
          (1#32, 0#32)
        else
          (1#32, 64#32)
      else
        if r.val < 7 then
          (1#32, 128#32)
        else
          (1#32, 192#32)
  else
    if r.val < 12 then
      if r.val < 10 then
        if r.val < 9 then
          (4#32, 0#32)
        else
          (5#32, 0#32)
      else
        if r.val < 11 then
          (4#32, 64#32)
        else
          (5#32, 64#32)
    else
      if r.val < 14 then
        if r.val < 13 then
          (4#32, 128#32)
        else
          (5#32, 128#32)
      else
        if r.val < 15 then
          (4#32, 192#32)
        else
          (5#32, 192#32)
def k0_dev89 (d0 : Dev nD) : Nat :=
  let c0_i32_4006 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_3993 : BitVec 32 := 1#32
  let v3563 : BitVec 32 := Scalar.xori v8 c1_i32_3993
  let c4_i32_3994 : BitVec 32 := 4#32
  let v3564 : BitVec 32 := Scalar.andi v3563 c4_i32_3994
  let c3_i32_3995 : BitVec 32 := 3#32
  let v3565 : BitVec 32 := Scalar.andi v3563 c3_i32_3995
  let c3_i32_3996 : BitVec 32 := 3#32
  let v3566 : BitVec 32 := Scalar.andi v3563 c3_i32_3996
  let c1_i32_3997 : BitVec 32 := 1#32
  let v3567 : BitVec 32 := Scalar.shrsi v3566 c1_i32_3997
  let v3568 : BitVec 32 := Scalar.xori v3565 v3567
  let v3569 : BitVec 32 := Scalar.ori v3564 v3568
  let c1_i32_4005 : BitVec 32 := 1#32
  let v3573 : BitVec 32 := Scalar.muli v3569 c1_i32_4005
  let v3574 : BitVec 32 := Scalar.addi c0_i32_4006 v3573
  v3574.toNat
def k0_off12 (d0 : Dev nD) (c0_i32_4039 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c256_i32_4038 : BitVec 32 := 256#32
  let v3604 : BitVec 32 := Scalar.muli v8 c256_i32_4038
  let v3605 : BitVec 32 := Scalar.addi v3604 c0_i32_4039
  let v3606 : Index := Scalar.indexCast v3605
  let c768_4040 : Index := 768#32
  ![v3606.toNat, 768]
def k0_off13 (d0 : Dev nD) (c0_i32_4047 : BitVec 32) (c0_i32_4049 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let v3621 : BitVec 32 := Scalar.xori v8 c0_i32_4047
  let c256_i32_4048 : BitVec 32 := 256#32
  let v3622 : BitVec 32 := Scalar.muli v3621 c256_i32_4048
  let v3623 : BitVec 32 := Scalar.addi v3622 c0_i32_4049
  let c768_i32_4056 : BitVec 32 := 768#32
  ![v3623.toNat, 768]
def k0_dev90 (d0 : Dev nD) : Nat :=
  let c0_i32_4055 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_4042 : BitVec 32 := 2#32
  let v3614 : BitVec 32 := Scalar.xori v8 c2_i32_4042
  let c4_i32_4043 : BitVec 32 := 4#32
  let v3615 : BitVec 32 := Scalar.andi v3614 c4_i32_4043
  let c3_i32_4044 : BitVec 32 := 3#32
  let v3616 : BitVec 32 := Scalar.andi v3614 c3_i32_4044
  let c3_i32_4045 : BitVec 32 := 3#32
  let v3617 : BitVec 32 := Scalar.andi v3614 c3_i32_4045
  let c1_i32_4046 : BitVec 32 := 1#32
  let v3618 : BitVec 32 := Scalar.shrsi v3617 c1_i32_4046
  let v3619 : BitVec 32 := Scalar.xori v3616 v3618
  let v3620 : BitVec 32 := Scalar.ori v3615 v3619
  let c1_i32_4054 : BitVec 32 := 1#32
  let v3624 : BitVec 32 := Scalar.muli v3620 c1_i32_4054
  let v3625 : BitVec 32 := Scalar.addi c0_i32_4055 v3624
  v3625.toNat
def k0_dev91 (d0 : Dev nD) : Nat :=
  let c0_i32_4104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_4091 : BitVec 32 := 4#32
  let v3665 : BitVec 32 := Scalar.xori v8 c4_i32_4091
  let c4_i32_4092 : BitVec 32 := 4#32
  let v3666 : BitVec 32 := Scalar.andi v3665 c4_i32_4092
  let c3_i32_4093 : BitVec 32 := 3#32
  let v3667 : BitVec 32 := Scalar.andi v3665 c3_i32_4093
  let c3_i32_4094 : BitVec 32 := 3#32
  let v3668 : BitVec 32 := Scalar.andi v3665 c3_i32_4094
  let c1_i32_4095 : BitVec 32 := 1#32
  let v3669 : BitVec 32 := Scalar.shrsi v3668 c1_i32_4095
  let v3670 : BitVec 32 := Scalar.xori v3667 v3669
  let v3671 : BitVec 32 := Scalar.ori v3666 v3670
  let c1_i32_4103 : BitVec 32 := 1#32
  let v3675 : BitVec 32 := Scalar.muli v3671 c1_i32_4103
  let v3676 : BitVec 32 := Scalar.addi c0_i32_4104 v3675
  v3676.toNat
def k0_dev92 (d0 : Dev nD) : Nat :=
  let c0_i32_4153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_4140 : BitVec 32 := 1#32
  let v3716 : BitVec 32 := Scalar.xori v8 c1_i32_4140
  let c4_i32_4141 : BitVec 32 := 4#32
  let v3717 : BitVec 32 := Scalar.andi v3716 c4_i32_4141
  let c3_i32_4142 : BitVec 32 := 3#32
  let v3718 : BitVec 32 := Scalar.andi v3716 c3_i32_4142
  let c3_i32_4143 : BitVec 32 := 3#32
  let v3719 : BitVec 32 := Scalar.andi v3716 c3_i32_4143
  let c1_i32_4144 : BitVec 32 := 1#32
  let v3720 : BitVec 32 := Scalar.shrsi v3719 c1_i32_4144
  let v3721 : BitVec 32 := Scalar.xori v3718 v3720
  let v3722 : BitVec 32 := Scalar.ori v3717 v3721
  let c1_i32_4152 : BitVec 32 := 1#32
  let v3726 : BitVec 32 := Scalar.muli v3722 c1_i32_4152
  let v3727 : BitVec 32 := Scalar.addi c0_i32_4153 v3726
  v3727.toNat
def k0_dev93 (d0 : Dev nD) : Nat :=
  let c0_i32_4202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_4189 : BitVec 32 := 2#32
  let v3767 : BitVec 32 := Scalar.xori v8 c2_i32_4189
  let c4_i32_4190 : BitVec 32 := 4#32
  let v3768 : BitVec 32 := Scalar.andi v3767 c4_i32_4190
  let c3_i32_4191 : BitVec 32 := 3#32
  let v3769 : BitVec 32 := Scalar.andi v3767 c3_i32_4191
  let c3_i32_4192 : BitVec 32 := 3#32
  let v3770 : BitVec 32 := Scalar.andi v3767 c3_i32_4192
  let c1_i32_4193 : BitVec 32 := 1#32
  let v3771 : BitVec 32 := Scalar.shrsi v3770 c1_i32_4193
  let v3772 : BitVec 32 := Scalar.xori v3769 v3771
  let v3773 : BitVec 32 := Scalar.ori v3768 v3772
  let c1_i32_4201 : BitVec 32 := 1#32
  let v3777 : BitVec 32 := Scalar.muli v3773 c1_i32_4201
  let v3778 : BitVec 32 := Scalar.addi c0_i32_4202 v3777
  v3778.toNat
def k0_dev94 (d0 : Dev nD) : Nat :=
  let c0_i32_4251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_4238 : BitVec 32 := 4#32
  let v3818 : BitVec 32 := Scalar.xori v8 c4_i32_4238
  let c4_i32_4239 : BitVec 32 := 4#32
  let v3819 : BitVec 32 := Scalar.andi v3818 c4_i32_4239
  let c3_i32_4240 : BitVec 32 := 3#32
  let v3820 : BitVec 32 := Scalar.andi v3818 c3_i32_4240
  let c3_i32_4241 : BitVec 32 := 3#32
  let v3821 : BitVec 32 := Scalar.andi v3818 c3_i32_4241
  let c1_i32_4242 : BitVec 32 := 1#32
  let v3822 : BitVec 32 := Scalar.shrsi v3821 c1_i32_4242
  let v3823 : BitVec 32 := Scalar.xori v3820 v3822
  let v3824 : BitVec 32 := Scalar.ori v3819 v3823
  let c1_i32_4250 : BitVec 32 := 1#32
  let v3828 : BitVec 32 := Scalar.muli v3824 c1_i32_4250
  let v3829 : BitVec 32 := Scalar.addi c0_i32_4251 v3828
  v3829.toNat
def k0_dev95 (d0 : Dev nD) : Nat :=
  let c0_i32_4300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_4287 : BitVec 32 := 1#32
  let v3869 : BitVec 32 := Scalar.xori v8 c1_i32_4287
  let c4_i32_4288 : BitVec 32 := 4#32
  let v3870 : BitVec 32 := Scalar.andi v3869 c4_i32_4288
  let c3_i32_4289 : BitVec 32 := 3#32
  let v3871 : BitVec 32 := Scalar.andi v3869 c3_i32_4289
  let c3_i32_4290 : BitVec 32 := 3#32
  let v3872 : BitVec 32 := Scalar.andi v3869 c3_i32_4290
  let c1_i32_4291 : BitVec 32 := 1#32
  let v3873 : BitVec 32 := Scalar.shrsi v3872 c1_i32_4291
  let v3874 : BitVec 32 := Scalar.xori v3871 v3873
  let v3875 : BitVec 32 := Scalar.ori v3870 v3874
  let c1_i32_4299 : BitVec 32 := 1#32
  let v3879 : BitVec 32 := Scalar.muli v3875 c1_i32_4299
  let v3880 : BitVec 32 := Scalar.addi c0_i32_4300 v3879
  v3880.toNat
def k0_dev96 (d0 : Dev nD) : Nat :=
  let c0_i32_4349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_4336 : BitVec 32 := 2#32
  let v3920 : BitVec 32 := Scalar.xori v8 c2_i32_4336
  let c4_i32_4337 : BitVec 32 := 4#32
  let v3921 : BitVec 32 := Scalar.andi v3920 c4_i32_4337
  let c3_i32_4338 : BitVec 32 := 3#32
  let v3922 : BitVec 32 := Scalar.andi v3920 c3_i32_4338
  let c3_i32_4339 : BitVec 32 := 3#32
  let v3923 : BitVec 32 := Scalar.andi v3920 c3_i32_4339
  let c1_i32_4340 : BitVec 32 := 1#32
  let v3924 : BitVec 32 := Scalar.shrsi v3923 c1_i32_4340
  let v3925 : BitVec 32 := Scalar.xori v3922 v3924
  let v3926 : BitVec 32 := Scalar.ori v3921 v3925
  let c1_i32_4348 : BitVec 32 := 1#32
  let v3930 : BitVec 32 := Scalar.muli v3926 c1_i32_4348
  let v3931 : BitVec 32 := Scalar.addi c0_i32_4349 v3930
  v3931.toNat
def k0_dev97 (d0 : Dev nD) : Nat :=
  let c0_i32_4398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_4385 : BitVec 32 := 4#32
  let v3971 : BitVec 32 := Scalar.xori v8 c4_i32_4385
  let c4_i32_4386 : BitVec 32 := 4#32
  let v3972 : BitVec 32 := Scalar.andi v3971 c4_i32_4386
  let c3_i32_4387 : BitVec 32 := 3#32
  let v3973 : BitVec 32 := Scalar.andi v3971 c3_i32_4387
  let c3_i32_4388 : BitVec 32 := 3#32
  let v3974 : BitVec 32 := Scalar.andi v3971 c3_i32_4388
  let c1_i32_4389 : BitVec 32 := 1#32
  let v3975 : BitVec 32 := Scalar.shrsi v3974 c1_i32_4389
  let v3976 : BitVec 32 := Scalar.xori v3973 v3975
  let v3977 : BitVec 32 := Scalar.ori v3972 v3976
  let c1_i32_4397 : BitVec 32 := 1#32
  let v3981 : BitVec 32 := Scalar.muli v3977 c1_i32_4397
  let v3982 : BitVec 32 := Scalar.addi c0_i32_4398 v3981
  v3982.toNat
def k0_dev98 (d0 : Dev nD) : Nat :=
  let c0_i32_4447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_4434 : BitVec 32 := 1#32
  let v4022 : BitVec 32 := Scalar.xori v8 c1_i32_4434
  let c4_i32_4435 : BitVec 32 := 4#32
  let v4023 : BitVec 32 := Scalar.andi v4022 c4_i32_4435
  let c3_i32_4436 : BitVec 32 := 3#32
  let v4024 : BitVec 32 := Scalar.andi v4022 c3_i32_4436
  let c3_i32_4437 : BitVec 32 := 3#32
  let v4025 : BitVec 32 := Scalar.andi v4022 c3_i32_4437
  let c1_i32_4438 : BitVec 32 := 1#32
  let v4026 : BitVec 32 := Scalar.shrsi v4025 c1_i32_4438
  let v4027 : BitVec 32 := Scalar.xori v4024 v4026
  let v4028 : BitVec 32 := Scalar.ori v4023 v4027
  let c1_i32_4446 : BitVec 32 := 1#32
  let v4032 : BitVec 32 := Scalar.muli v4028 c1_i32_4446
  let v4033 : BitVec 32 := Scalar.addi c0_i32_4447 v4032
  v4033.toNat
def k0_dev99 (d0 : Dev nD) : Nat :=
  let c0_i32_4496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_4483 : BitVec 32 := 2#32
  let v4073 : BitVec 32 := Scalar.xori v8 c2_i32_4483
  let c4_i32_4484 : BitVec 32 := 4#32
  let v4074 : BitVec 32 := Scalar.andi v4073 c4_i32_4484
  let c3_i32_4485 : BitVec 32 := 3#32
  let v4075 : BitVec 32 := Scalar.andi v4073 c3_i32_4485
  let c3_i32_4486 : BitVec 32 := 3#32
  let v4076 : BitVec 32 := Scalar.andi v4073 c3_i32_4486
  let c1_i32_4487 : BitVec 32 := 1#32
  let v4077 : BitVec 32 := Scalar.shrsi v4076 c1_i32_4487
  let v4078 : BitVec 32 := Scalar.xori v4075 v4077
  let v4079 : BitVec 32 := Scalar.ori v4074 v4078
  let c1_i32_4495 : BitVec 32 := 1#32
  let v4083 : BitVec 32 := Scalar.muli v4079 c1_i32_4495
  let v4084 : BitVec 32 := Scalar.addi c0_i32_4496 v4083
  v4084.toNat
def k0_dev100 (d0 : Dev nD) : Nat :=
  let c0_i32_4527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_4514 : BitVec 32 := 2#32
  let v4101 : BitVec 32 := Scalar.xori v8 c2_i32_4514
  let c4_i32_4515 : BitVec 32 := 4#32
  let v4102 : BitVec 32 := Scalar.andi v4101 c4_i32_4515
  let c3_i32_4516 : BitVec 32 := 3#32
  let v4103 : BitVec 32 := Scalar.andi v4101 c3_i32_4516
  let c3_i32_4517 : BitVec 32 := 3#32
  let v4104 : BitVec 32 := Scalar.andi v4101 c3_i32_4517
  let c1_i32_4518 : BitVec 32 := 1#32
  let v4105 : BitVec 32 := Scalar.shrsi v4104 c1_i32_4518
  let v4106 : BitVec 32 := Scalar.xori v4103 v4105
  let v4107 : BitVec 32 := Scalar.ori v4102 v4106
  let c1_i32_4526 : BitVec 32 := 1#32
  let v4111 : BitVec 32 := Scalar.muli v4107 c1_i32_4526
  let v4112 : BitVec 32 := Scalar.addi c0_i32_4527 v4111
  v4112.toNat
def k0_dev101 (d0 : Dev nD) : Nat :=
  let c0_i32_4538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_4514 : BitVec 32 := 2#32
  let v4101 : BitVec 32 := Scalar.xori v8 c2_i32_4514
  let c4_i32_4515 : BitVec 32 := 4#32
  let v4102 : BitVec 32 := Scalar.andi v4101 c4_i32_4515
  let c3_i32_4516 : BitVec 32 := 3#32
  let v4103 : BitVec 32 := Scalar.andi v4101 c3_i32_4516
  let c3_i32_4517 : BitVec 32 := 3#32
  let v4104 : BitVec 32 := Scalar.andi v4101 c3_i32_4517
  let c1_i32_4518 : BitVec 32 := 1#32
  let v4105 : BitVec 32 := Scalar.shrsi v4104 c1_i32_4518
  let v4106 : BitVec 32 := Scalar.xori v4103 v4105
  let v4107 : BitVec 32 := Scalar.ori v4102 v4106
  let c1_i32_4537 : BitVec 32 := 1#32
  let v4122 : BitVec 32 := Scalar.muli v4107 c1_i32_4537
  let v4123 : BitVec 32 := Scalar.addi c0_i32_4538 v4122
  v4123.toNat
def k0_dev102 (d0 : Dev nD) : Nat :=
  let c0_i32_4569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_4556 : BitVec 32 := 4#32
  let v4140 : BitVec 32 := Scalar.xori v8 c4_i32_4556
  let c4_i32_4557 : BitVec 32 := 4#32
  let v4141 : BitVec 32 := Scalar.andi v4140 c4_i32_4557
  let c3_i32_4558 : BitVec 32 := 3#32
  let v4142 : BitVec 32 := Scalar.andi v4140 c3_i32_4558
  let c3_i32_4559 : BitVec 32 := 3#32
  let v4143 : BitVec 32 := Scalar.andi v4140 c3_i32_4559
  let c1_i32_4560 : BitVec 32 := 1#32
  let v4144 : BitVec 32 := Scalar.shrsi v4143 c1_i32_4560
  let v4145 : BitVec 32 := Scalar.xori v4142 v4144
  let v4146 : BitVec 32 := Scalar.ori v4141 v4145
  let c1_i32_4568 : BitVec 32 := 1#32
  let v4150 : BitVec 32 := Scalar.muli v4146 c1_i32_4568
  let v4151 : BitVec 32 := Scalar.addi c0_i32_4569 v4150
  v4151.toNat
def k0_dev103 (d0 : Dev nD) : Nat :=
  let c0_i32_4580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_4556 : BitVec 32 := 4#32
  let v4140 : BitVec 32 := Scalar.xori v8 c4_i32_4556
  let c4_i32_4557 : BitVec 32 := 4#32
  let v4141 : BitVec 32 := Scalar.andi v4140 c4_i32_4557
  let c3_i32_4558 : BitVec 32 := 3#32
  let v4142 : BitVec 32 := Scalar.andi v4140 c3_i32_4558
  let c3_i32_4559 : BitVec 32 := 3#32
  let v4143 : BitVec 32 := Scalar.andi v4140 c3_i32_4559
  let c1_i32_4560 : BitVec 32 := 1#32
  let v4144 : BitVec 32 := Scalar.shrsi v4143 c1_i32_4560
  let v4145 : BitVec 32 := Scalar.xori v4142 v4144
  let v4146 : BitVec 32 := Scalar.ori v4141 v4145
  let c1_i32_4579 : BitVec 32 := 1#32
  let v4161 : BitVec 32 := Scalar.muli v4146 c1_i32_4579
  let v4162 : BitVec 32 := Scalar.addi c0_i32_4580 v4161
  v4162.toNat
def k0_dev104 (d0 : Dev nD) : Nat :=
  let c0_i32_4611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_4598 : BitVec 32 := 1#32
  let v4179 : BitVec 32 := Scalar.xori v8 c1_i32_4598
  let c4_i32_4599 : BitVec 32 := 4#32
  let v4180 : BitVec 32 := Scalar.andi v4179 c4_i32_4599
  let c3_i32_4600 : BitVec 32 := 3#32
  let v4181 : BitVec 32 := Scalar.andi v4179 c3_i32_4600
  let c3_i32_4601 : BitVec 32 := 3#32
  let v4182 : BitVec 32 := Scalar.andi v4179 c3_i32_4601
  let c1_i32_4602 : BitVec 32 := 1#32
  let v4183 : BitVec 32 := Scalar.shrsi v4182 c1_i32_4602
  let v4184 : BitVec 32 := Scalar.xori v4181 v4183
  let v4185 : BitVec 32 := Scalar.ori v4180 v4184
  let c1_i32_4610 : BitVec 32 := 1#32
  let v4189 : BitVec 32 := Scalar.muli v4185 c1_i32_4610
  let v4190 : BitVec 32 := Scalar.addi c0_i32_4611 v4189
  v4190.toNat
def k0_dev105 (d0 : Dev nD) : Nat :=
  let c0_i32_4622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_4598 : BitVec 32 := 1#32
  let v4179 : BitVec 32 := Scalar.xori v8 c1_i32_4598
  let c4_i32_4599 : BitVec 32 := 4#32
  let v4180 : BitVec 32 := Scalar.andi v4179 c4_i32_4599
  let c3_i32_4600 : BitVec 32 := 3#32
  let v4181 : BitVec 32 := Scalar.andi v4179 c3_i32_4600
  let c3_i32_4601 : BitVec 32 := 3#32
  let v4182 : BitVec 32 := Scalar.andi v4179 c3_i32_4601
  let c1_i32_4602 : BitVec 32 := 1#32
  let v4183 : BitVec 32 := Scalar.shrsi v4182 c1_i32_4602
  let v4184 : BitVec 32 := Scalar.xori v4181 v4183
  let v4185 : BitVec 32 := Scalar.ori v4180 v4184
  let c1_i32_4621 : BitVec 32 := 1#32
  let v4200 : BitVec 32 := Scalar.muli v4185 c1_i32_4621
  let v4201 : BitVec 32 := Scalar.addi c0_i32_4622 v4200
  v4201.toNat
def k0_dev106 (d0 : Dev nD) : Nat :=
  let c0_i32_4653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_4640 : BitVec 32 := 2#32
  let v4218 : BitVec 32 := Scalar.xori v8 c2_i32_4640
  let c4_i32_4641 : BitVec 32 := 4#32
  let v4219 : BitVec 32 := Scalar.andi v4218 c4_i32_4641
  let c3_i32_4642 : BitVec 32 := 3#32
  let v4220 : BitVec 32 := Scalar.andi v4218 c3_i32_4642
  let c3_i32_4643 : BitVec 32 := 3#32
  let v4221 : BitVec 32 := Scalar.andi v4218 c3_i32_4643
  let c1_i32_4644 : BitVec 32 := 1#32
  let v4222 : BitVec 32 := Scalar.shrsi v4221 c1_i32_4644
  let v4223 : BitVec 32 := Scalar.xori v4220 v4222
  let v4224 : BitVec 32 := Scalar.ori v4219 v4223
  let c1_i32_4652 : BitVec 32 := 1#32
  let v4228 : BitVec 32 := Scalar.muli v4224 c1_i32_4652
  let v4229 : BitVec 32 := Scalar.addi c0_i32_4653 v4228
  v4229.toNat
def k0_dev107 (d0 : Dev nD) : Nat :=
  let c0_i32_4664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_4640 : BitVec 32 := 2#32
  let v4218 : BitVec 32 := Scalar.xori v8 c2_i32_4640
  let c4_i32_4641 : BitVec 32 := 4#32
  let v4219 : BitVec 32 := Scalar.andi v4218 c4_i32_4641
  let c3_i32_4642 : BitVec 32 := 3#32
  let v4220 : BitVec 32 := Scalar.andi v4218 c3_i32_4642
  let c3_i32_4643 : BitVec 32 := 3#32
  let v4221 : BitVec 32 := Scalar.andi v4218 c3_i32_4643
  let c1_i32_4644 : BitVec 32 := 1#32
  let v4222 : BitVec 32 := Scalar.shrsi v4221 c1_i32_4644
  let v4223 : BitVec 32 := Scalar.xori v4220 v4222
  let v4224 : BitVec 32 := Scalar.ori v4219 v4223
  let c1_i32_4663 : BitVec 32 := 1#32
  let v4239 : BitVec 32 := Scalar.muli v4224 c1_i32_4663
  let v4240 : BitVec 32 := Scalar.addi c0_i32_4664 v4239
  v4240.toNat
def k0_dev108 (d0 : Dev nD) : Nat :=
  let c0_i32_4695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_4682 : BitVec 32 := 4#32
  let v4257 : BitVec 32 := Scalar.xori v8 c4_i32_4682
  let c4_i32_4683 : BitVec 32 := 4#32
  let v4258 : BitVec 32 := Scalar.andi v4257 c4_i32_4683
  let c3_i32_4684 : BitVec 32 := 3#32
  let v4259 : BitVec 32 := Scalar.andi v4257 c3_i32_4684
  let c3_i32_4685 : BitVec 32 := 3#32
  let v4260 : BitVec 32 := Scalar.andi v4257 c3_i32_4685
  let c1_i32_4686 : BitVec 32 := 1#32
  let v4261 : BitVec 32 := Scalar.shrsi v4260 c1_i32_4686
  let v4262 : BitVec 32 := Scalar.xori v4259 v4261
  let v4263 : BitVec 32 := Scalar.ori v4258 v4262
  let c1_i32_4694 : BitVec 32 := 1#32
  let v4267 : BitVec 32 := Scalar.muli v4263 c1_i32_4694
  let v4268 : BitVec 32 := Scalar.addi c0_i32_4695 v4267
  v4268.toNat
def k0_dev109 (d0 : Dev nD) : Nat :=
  let c0_i32_4706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_4682 : BitVec 32 := 4#32
  let v4257 : BitVec 32 := Scalar.xori v8 c4_i32_4682
  let c4_i32_4683 : BitVec 32 := 4#32
  let v4258 : BitVec 32 := Scalar.andi v4257 c4_i32_4683
  let c3_i32_4684 : BitVec 32 := 3#32
  let v4259 : BitVec 32 := Scalar.andi v4257 c3_i32_4684
  let c3_i32_4685 : BitVec 32 := 3#32
  let v4260 : BitVec 32 := Scalar.andi v4257 c3_i32_4685
  let c1_i32_4686 : BitVec 32 := 1#32
  let v4261 : BitVec 32 := Scalar.shrsi v4260 c1_i32_4686
  let v4262 : BitVec 32 := Scalar.xori v4259 v4261
  let v4263 : BitVec 32 := Scalar.ori v4258 v4262
  let c1_i32_4705 : BitVec 32 := 1#32
  let v4278 : BitVec 32 := Scalar.muli v4263 c1_i32_4705
  let v4279 : BitVec 32 := Scalar.addi c0_i32_4706 v4278
  v4279.toNat
def k0_dev110 (d0 : Dev nD) : Nat :=
  let c0_i32_4737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_4724 : BitVec 32 := 1#32
  let v4296 : BitVec 32 := Scalar.xori v8 c1_i32_4724
  let c4_i32_4725 : BitVec 32 := 4#32
  let v4297 : BitVec 32 := Scalar.andi v4296 c4_i32_4725
  let c3_i32_4726 : BitVec 32 := 3#32
  let v4298 : BitVec 32 := Scalar.andi v4296 c3_i32_4726
  let c3_i32_4727 : BitVec 32 := 3#32
  let v4299 : BitVec 32 := Scalar.andi v4296 c3_i32_4727
  let c1_i32_4728 : BitVec 32 := 1#32
  let v4300 : BitVec 32 := Scalar.shrsi v4299 c1_i32_4728
  let v4301 : BitVec 32 := Scalar.xori v4298 v4300
  let v4302 : BitVec 32 := Scalar.ori v4297 v4301
  let c1_i32_4736 : BitVec 32 := 1#32
  let v4306 : BitVec 32 := Scalar.muli v4302 c1_i32_4736
  let v4307 : BitVec 32 := Scalar.addi c0_i32_4737 v4306
  v4307.toNat
def k0_dev111 (d0 : Dev nD) : Nat :=
  let c0_i32_4748 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_4724 : BitVec 32 := 1#32
  let v4296 : BitVec 32 := Scalar.xori v8 c1_i32_4724
  let c4_i32_4725 : BitVec 32 := 4#32
  let v4297 : BitVec 32 := Scalar.andi v4296 c4_i32_4725
  let c3_i32_4726 : BitVec 32 := 3#32
  let v4298 : BitVec 32 := Scalar.andi v4296 c3_i32_4726
  let c3_i32_4727 : BitVec 32 := 3#32
  let v4299 : BitVec 32 := Scalar.andi v4296 c3_i32_4727
  let c1_i32_4728 : BitVec 32 := 1#32
  let v4300 : BitVec 32 := Scalar.shrsi v4299 c1_i32_4728
  let v4301 : BitVec 32 := Scalar.xori v4298 v4300
  let v4302 : BitVec 32 := Scalar.ori v4297 v4301
  let c1_i32_4747 : BitVec 32 := 1#32
  let v4317 : BitVec 32 := Scalar.muli v4302 c1_i32_4747
  let v4318 : BitVec 32 := Scalar.addi c0_i32_4748 v4317
  v4318.toNat
def k0_dev112 (d0 : Dev nD) : Nat :=
  let c0_i32_4779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_4766 : BitVec 32 := 2#32
  let v4335 : BitVec 32 := Scalar.xori v8 c2_i32_4766
  let c4_i32_4767 : BitVec 32 := 4#32
  let v4336 : BitVec 32 := Scalar.andi v4335 c4_i32_4767
  let c3_i32_4768 : BitVec 32 := 3#32
  let v4337 : BitVec 32 := Scalar.andi v4335 c3_i32_4768
  let c3_i32_4769 : BitVec 32 := 3#32
  let v4338 : BitVec 32 := Scalar.andi v4335 c3_i32_4769
  let c1_i32_4770 : BitVec 32 := 1#32
  let v4339 : BitVec 32 := Scalar.shrsi v4338 c1_i32_4770
  let v4340 : BitVec 32 := Scalar.xori v4337 v4339
  let v4341 : BitVec 32 := Scalar.ori v4336 v4340
  let c1_i32_4778 : BitVec 32 := 1#32
  let v4345 : BitVec 32 := Scalar.muli v4341 c1_i32_4778
  let v4346 : BitVec 32 := Scalar.addi c0_i32_4779 v4345
  v4346.toNat
def k0_dev113 (d0 : Dev nD) : Nat :=
  let c0_i32_4790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_4766 : BitVec 32 := 2#32
  let v4335 : BitVec 32 := Scalar.xori v8 c2_i32_4766
  let c4_i32_4767 : BitVec 32 := 4#32
  let v4336 : BitVec 32 := Scalar.andi v4335 c4_i32_4767
  let c3_i32_4768 : BitVec 32 := 3#32
  let v4337 : BitVec 32 := Scalar.andi v4335 c3_i32_4768
  let c3_i32_4769 : BitVec 32 := 3#32
  let v4338 : BitVec 32 := Scalar.andi v4335 c3_i32_4769
  let c1_i32_4770 : BitVec 32 := 1#32
  let v4339 : BitVec 32 := Scalar.shrsi v4338 c1_i32_4770
  let v4340 : BitVec 32 := Scalar.xori v4337 v4339
  let v4341 : BitVec 32 := Scalar.ori v4336 v4340
  let c1_i32_4789 : BitVec 32 := 1#32
  let v4356 : BitVec 32 := Scalar.muli v4341 c1_i32_4789
  let v4357 : BitVec 32 := Scalar.addi c0_i32_4790 v4356
  v4357.toNat
def k0_dev114 (d0 : Dev nD) : Nat :=
  let c0_i32_4821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_4808 : BitVec 32 := 4#32
  let v4374 : BitVec 32 := Scalar.xori v8 c4_i32_4808
  let c4_i32_4809 : BitVec 32 := 4#32
  let v4375 : BitVec 32 := Scalar.andi v4374 c4_i32_4809
  let c3_i32_4810 : BitVec 32 := 3#32
  let v4376 : BitVec 32 := Scalar.andi v4374 c3_i32_4810
  let c3_i32_4811 : BitVec 32 := 3#32
  let v4377 : BitVec 32 := Scalar.andi v4374 c3_i32_4811
  let c1_i32_4812 : BitVec 32 := 1#32
  let v4378 : BitVec 32 := Scalar.shrsi v4377 c1_i32_4812
  let v4379 : BitVec 32 := Scalar.xori v4376 v4378
  let v4380 : BitVec 32 := Scalar.ori v4375 v4379
  let c1_i32_4820 : BitVec 32 := 1#32
  let v4384 : BitVec 32 := Scalar.muli v4380 c1_i32_4820
  let v4385 : BitVec 32 := Scalar.addi c0_i32_4821 v4384
  v4385.toNat
def k0_dev115 (d0 : Dev nD) : Nat :=
  let c0_i32_4832 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_4808 : BitVec 32 := 4#32
  let v4374 : BitVec 32 := Scalar.xori v8 c4_i32_4808
  let c4_i32_4809 : BitVec 32 := 4#32
  let v4375 : BitVec 32 := Scalar.andi v4374 c4_i32_4809
  let c3_i32_4810 : BitVec 32 := 3#32
  let v4376 : BitVec 32 := Scalar.andi v4374 c3_i32_4810
  let c3_i32_4811 : BitVec 32 := 3#32
  let v4377 : BitVec 32 := Scalar.andi v4374 c3_i32_4811
  let c1_i32_4812 : BitVec 32 := 1#32
  let v4378 : BitVec 32 := Scalar.shrsi v4377 c1_i32_4812
  let v4379 : BitVec 32 := Scalar.xori v4376 v4378
  let v4380 : BitVec 32 := Scalar.ori v4375 v4379
  let c1_i32_4831 : BitVec 32 := 1#32
  let v4395 : BitVec 32 := Scalar.muli v4380 c1_i32_4831
  let v4396 : BitVec 32 := Scalar.addi c0_i32_4832 v4395
  v4396.toNat
def k0_dev116 (d0 : Dev nD) : Nat :=
  let c0_i32_4863 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_4850 : BitVec 32 := 1#32
  let v4413 : BitVec 32 := Scalar.xori v8 c1_i32_4850
  let c4_i32_4851 : BitVec 32 := 4#32
  let v4414 : BitVec 32 := Scalar.andi v4413 c4_i32_4851
  let c3_i32_4852 : BitVec 32 := 3#32
  let v4415 : BitVec 32 := Scalar.andi v4413 c3_i32_4852
  let c3_i32_4853 : BitVec 32 := 3#32
  let v4416 : BitVec 32 := Scalar.andi v4413 c3_i32_4853
  let c1_i32_4854 : BitVec 32 := 1#32
  let v4417 : BitVec 32 := Scalar.shrsi v4416 c1_i32_4854
  let v4418 : BitVec 32 := Scalar.xori v4415 v4417
  let v4419 : BitVec 32 := Scalar.ori v4414 v4418
  let c1_i32_4862 : BitVec 32 := 1#32
  let v4423 : BitVec 32 := Scalar.muli v4419 c1_i32_4862
  let v4424 : BitVec 32 := Scalar.addi c0_i32_4863 v4423
  v4424.toNat
def k0_dev117 (d0 : Dev nD) : Nat :=
  let c0_i32_4874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_4850 : BitVec 32 := 1#32
  let v4413 : BitVec 32 := Scalar.xori v8 c1_i32_4850
  let c4_i32_4851 : BitVec 32 := 4#32
  let v4414 : BitVec 32 := Scalar.andi v4413 c4_i32_4851
  let c3_i32_4852 : BitVec 32 := 3#32
  let v4415 : BitVec 32 := Scalar.andi v4413 c3_i32_4852
  let c3_i32_4853 : BitVec 32 := 3#32
  let v4416 : BitVec 32 := Scalar.andi v4413 c3_i32_4853
  let c1_i32_4854 : BitVec 32 := 1#32
  let v4417 : BitVec 32 := Scalar.shrsi v4416 c1_i32_4854
  let v4418 : BitVec 32 := Scalar.xori v4415 v4417
  let v4419 : BitVec 32 := Scalar.ori v4414 v4418
  let c1_i32_4873 : BitVec 32 := 1#32
  let v4434 : BitVec 32 := Scalar.muli v4419 c1_i32_4873
  let v4435 : BitVec 32 := Scalar.addi c0_i32_4874 v4434
  v4435.toNat
def k0_dev118 (d0 : Dev nD) : Nat :=
  let c0_i32_4905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_4892 : BitVec 32 := 2#32
  let v4452 : BitVec 32 := Scalar.xori v8 c2_i32_4892
  let c4_i32_4893 : BitVec 32 := 4#32
  let v4453 : BitVec 32 := Scalar.andi v4452 c4_i32_4893
  let c3_i32_4894 : BitVec 32 := 3#32
  let v4454 : BitVec 32 := Scalar.andi v4452 c3_i32_4894
  let c3_i32_4895 : BitVec 32 := 3#32
  let v4455 : BitVec 32 := Scalar.andi v4452 c3_i32_4895
  let c1_i32_4896 : BitVec 32 := 1#32
  let v4456 : BitVec 32 := Scalar.shrsi v4455 c1_i32_4896
  let v4457 : BitVec 32 := Scalar.xori v4454 v4456
  let v4458 : BitVec 32 := Scalar.ori v4453 v4457
  let c1_i32_4904 : BitVec 32 := 1#32
  let v4462 : BitVec 32 := Scalar.muli v4458 c1_i32_4904
  let v4463 : BitVec 32 := Scalar.addi c0_i32_4905 v4462
  v4463.toNat
def k0_dev119 (d0 : Dev nD) : Nat :=
  let c0_i32_4916 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_4892 : BitVec 32 := 2#32
  let v4452 : BitVec 32 := Scalar.xori v8 c2_i32_4892
  let c4_i32_4893 : BitVec 32 := 4#32
  let v4453 : BitVec 32 := Scalar.andi v4452 c4_i32_4893
  let c3_i32_4894 : BitVec 32 := 3#32
  let v4454 : BitVec 32 := Scalar.andi v4452 c3_i32_4894
  let c3_i32_4895 : BitVec 32 := 3#32
  let v4455 : BitVec 32 := Scalar.andi v4452 c3_i32_4895
  let c1_i32_4896 : BitVec 32 := 1#32
  let v4456 : BitVec 32 := Scalar.shrsi v4455 c1_i32_4896
  let v4457 : BitVec 32 := Scalar.xori v4454 v4456
  let v4458 : BitVec 32 := Scalar.ori v4453 v4457
  let c1_i32_4915 : BitVec 32 := 1#32
  let v4473 : BitVec 32 := Scalar.muli v4458 c1_i32_4915
  let v4474 : BitVec 32 := Scalar.addi c0_i32_4916 v4473
  v4474.toNat
def k0_dev120 (d0 : Dev nD) : Nat :=
  let c0_i32_4947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_4934 : BitVec 32 := 4#32
  let v4491 : BitVec 32 := Scalar.xori v8 c4_i32_4934
  let c4_i32_4935 : BitVec 32 := 4#32
  let v4492 : BitVec 32 := Scalar.andi v4491 c4_i32_4935
  let c3_i32_4936 : BitVec 32 := 3#32
  let v4493 : BitVec 32 := Scalar.andi v4491 c3_i32_4936
  let c3_i32_4937 : BitVec 32 := 3#32
  let v4494 : BitVec 32 := Scalar.andi v4491 c3_i32_4937
  let c1_i32_4938 : BitVec 32 := 1#32
  let v4495 : BitVec 32 := Scalar.shrsi v4494 c1_i32_4938
  let v4496 : BitVec 32 := Scalar.xori v4493 v4495
  let v4497 : BitVec 32 := Scalar.ori v4492 v4496
  let c1_i32_4946 : BitVec 32 := 1#32
  let v4501 : BitVec 32 := Scalar.muli v4497 c1_i32_4946
  let v4502 : BitVec 32 := Scalar.addi c0_i32_4947 v4501
  v4502.toNat
def k0_dev121 (d0 : Dev nD) : Nat :=
  let c0_i32_4958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_4934 : BitVec 32 := 4#32
  let v4491 : BitVec 32 := Scalar.xori v8 c4_i32_4934
  let c4_i32_4935 : BitVec 32 := 4#32
  let v4492 : BitVec 32 := Scalar.andi v4491 c4_i32_4935
  let c3_i32_4936 : BitVec 32 := 3#32
  let v4493 : BitVec 32 := Scalar.andi v4491 c3_i32_4936
  let c3_i32_4937 : BitVec 32 := 3#32
  let v4494 : BitVec 32 := Scalar.andi v4491 c3_i32_4937
  let c1_i32_4938 : BitVec 32 := 1#32
  let v4495 : BitVec 32 := Scalar.shrsi v4494 c1_i32_4938
  let v4496 : BitVec 32 := Scalar.xori v4493 v4495
  let v4497 : BitVec 32 := Scalar.ori v4492 v4496
  let c1_i32_4957 : BitVec 32 := 1#32
  let v4512 : BitVec 32 := Scalar.muli v4497 c1_i32_4957
  let v4513 : BitVec 32 := Scalar.addi c0_i32_4958 v4512
  v4513.toNat
def k0_dev122 (d0 : Dev nD) : Nat :=
  let c0_i32_4989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_4976 : BitVec 32 := 1#32
  let v4530 : BitVec 32 := Scalar.xori v8 c1_i32_4976
  let c4_i32_4977 : BitVec 32 := 4#32
  let v4531 : BitVec 32 := Scalar.andi v4530 c4_i32_4977
  let c3_i32_4978 : BitVec 32 := 3#32
  let v4532 : BitVec 32 := Scalar.andi v4530 c3_i32_4978
  let c3_i32_4979 : BitVec 32 := 3#32
  let v4533 : BitVec 32 := Scalar.andi v4530 c3_i32_4979
  let c1_i32_4980 : BitVec 32 := 1#32
  let v4534 : BitVec 32 := Scalar.shrsi v4533 c1_i32_4980
  let v4535 : BitVec 32 := Scalar.xori v4532 v4534
  let v4536 : BitVec 32 := Scalar.ori v4531 v4535
  let c1_i32_4988 : BitVec 32 := 1#32
  let v4540 : BitVec 32 := Scalar.muli v4536 c1_i32_4988
  let v4541 : BitVec 32 := Scalar.addi c0_i32_4989 v4540
  v4541.toNat
def k0_dev123 (d0 : Dev nD) : Nat :=
  let c0_i32_5000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_4976 : BitVec 32 := 1#32
  let v4530 : BitVec 32 := Scalar.xori v8 c1_i32_4976
  let c4_i32_4977 : BitVec 32 := 4#32
  let v4531 : BitVec 32 := Scalar.andi v4530 c4_i32_4977
  let c3_i32_4978 : BitVec 32 := 3#32
  let v4532 : BitVec 32 := Scalar.andi v4530 c3_i32_4978
  let c3_i32_4979 : BitVec 32 := 3#32
  let v4533 : BitVec 32 := Scalar.andi v4530 c3_i32_4979
  let c1_i32_4980 : BitVec 32 := 1#32
  let v4534 : BitVec 32 := Scalar.shrsi v4533 c1_i32_4980
  let v4535 : BitVec 32 := Scalar.xori v4532 v4534
  let v4536 : BitVec 32 := Scalar.ori v4531 v4535
  let c1_i32_4999 : BitVec 32 := 1#32
  let v4551 : BitVec 32 := Scalar.muli v4536 c1_i32_4999
  let v4552 : BitVec 32 := Scalar.addi c0_i32_5000 v4551
  v4552.toNat
def k0_dev124 (d0 : Dev nD) : Nat :=
  let c0_i32_5046 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5033 : BitVec 32 := 1#32
  let v4579 : BitVec 32 := Scalar.xori v8 c1_i32_5033
  let c4_i32_5034 : BitVec 32 := 4#32
  let v4580 : BitVec 32 := Scalar.andi v4579 c4_i32_5034
  let c3_i32_5035 : BitVec 32 := 3#32
  let v4581 : BitVec 32 := Scalar.andi v4579 c3_i32_5035
  let c3_i32_5036 : BitVec 32 := 3#32
  let v4582 : BitVec 32 := Scalar.andi v4579 c3_i32_5036
  let c1_i32_5037 : BitVec 32 := 1#32
  let v4583 : BitVec 32 := Scalar.shrsi v4582 c1_i32_5037
  let v4584 : BitVec 32 := Scalar.xori v4581 v4583
  let v4585 : BitVec 32 := Scalar.ori v4580 v4584
  let c1_i32_5045 : BitVec 32 := 1#32
  let v4589 : BitVec 32 := Scalar.muli v4585 c1_i32_5045
  let v4590 : BitVec 32 := Scalar.addi c0_i32_5046 v4589
  v4590.toNat
def k0_dev125 (d0 : Dev nD) : Nat :=
  let c0_i32_5057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5033 : BitVec 32 := 1#32
  let v4579 : BitVec 32 := Scalar.xori v8 c1_i32_5033
  let c4_i32_5034 : BitVec 32 := 4#32
  let v4580 : BitVec 32 := Scalar.andi v4579 c4_i32_5034
  let c3_i32_5035 : BitVec 32 := 3#32
  let v4581 : BitVec 32 := Scalar.andi v4579 c3_i32_5035
  let c3_i32_5036 : BitVec 32 := 3#32
  let v4582 : BitVec 32 := Scalar.andi v4579 c3_i32_5036
  let c1_i32_5037 : BitVec 32 := 1#32
  let v4583 : BitVec 32 := Scalar.shrsi v4582 c1_i32_5037
  let v4584 : BitVec 32 := Scalar.xori v4581 v4583
  let v4585 : BitVec 32 := Scalar.ori v4580 v4584
  let c1_i32_5056 : BitVec 32 := 1#32
  let v4600 : BitVec 32 := Scalar.muli v4585 c1_i32_5056
  let v4601 : BitVec 32 := Scalar.addi c0_i32_5057 v4600
  v4601.toNat
def k0_dev126 (d0 : Dev nD) : Nat :=
  let c0_i32_5068 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5033 : BitVec 32 := 1#32
  let v4579 : BitVec 32 := Scalar.xori v8 c1_i32_5033
  let c4_i32_5034 : BitVec 32 := 4#32
  let v4580 : BitVec 32 := Scalar.andi v4579 c4_i32_5034
  let c3_i32_5035 : BitVec 32 := 3#32
  let v4581 : BitVec 32 := Scalar.andi v4579 c3_i32_5035
  let c3_i32_5036 : BitVec 32 := 3#32
  let v4582 : BitVec 32 := Scalar.andi v4579 c3_i32_5036
  let c1_i32_5037 : BitVec 32 := 1#32
  let v4583 : BitVec 32 := Scalar.shrsi v4582 c1_i32_5037
  let v4584 : BitVec 32 := Scalar.xori v4581 v4583
  let v4585 : BitVec 32 := Scalar.ori v4580 v4584
  let c1_i32_5067 : BitVec 32 := 1#32
  let v4611 : BitVec 32 := Scalar.muli v4585 c1_i32_5067
  let v4612 : BitVec 32 := Scalar.addi c0_i32_5068 v4611
  v4612.toNat
def k0_dev127 (d0 : Dev nD) : Nat :=
  let c0_i32_5079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5033 : BitVec 32 := 1#32
  let v4579 : BitVec 32 := Scalar.xori v8 c1_i32_5033
  let c4_i32_5034 : BitVec 32 := 4#32
  let v4580 : BitVec 32 := Scalar.andi v4579 c4_i32_5034
  let c3_i32_5035 : BitVec 32 := 3#32
  let v4581 : BitVec 32 := Scalar.andi v4579 c3_i32_5035
  let c3_i32_5036 : BitVec 32 := 3#32
  let v4582 : BitVec 32 := Scalar.andi v4579 c3_i32_5036
  let c1_i32_5037 : BitVec 32 := 1#32
  let v4583 : BitVec 32 := Scalar.shrsi v4582 c1_i32_5037
  let v4584 : BitVec 32 := Scalar.xori v4581 v4583
  let v4585 : BitVec 32 := Scalar.ori v4580 v4584
  let c1_i32_5078 : BitVec 32 := 1#32
  let v4622 : BitVec 32 := Scalar.muli v4585 c1_i32_5078
  let v4623 : BitVec 32 := Scalar.addi c0_i32_5079 v4622
  v4623.toNat
def k0_dev128 (d0 : Dev nD) : Nat :=
  let c0_i32_5125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5112 : BitVec 32 := 2#32
  let v4650 : BitVec 32 := Scalar.xori v8 c2_i32_5112
  let c4_i32_5113 : BitVec 32 := 4#32
  let v4651 : BitVec 32 := Scalar.andi v4650 c4_i32_5113
  let c3_i32_5114 : BitVec 32 := 3#32
  let v4652 : BitVec 32 := Scalar.andi v4650 c3_i32_5114
  let c3_i32_5115 : BitVec 32 := 3#32
  let v4653 : BitVec 32 := Scalar.andi v4650 c3_i32_5115
  let c1_i32_5116 : BitVec 32 := 1#32
  let v4654 : BitVec 32 := Scalar.shrsi v4653 c1_i32_5116
  let v4655 : BitVec 32 := Scalar.xori v4652 v4654
  let v4656 : BitVec 32 := Scalar.ori v4651 v4655
  let c1_i32_5124 : BitVec 32 := 1#32
  let v4660 : BitVec 32 := Scalar.muli v4656 c1_i32_5124
  let v4661 : BitVec 32 := Scalar.addi c0_i32_5125 v4660
  v4661.toNat
def k0_dev129 (d0 : Dev nD) : Nat :=
  let c0_i32_5136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5112 : BitVec 32 := 2#32
  let v4650 : BitVec 32 := Scalar.xori v8 c2_i32_5112
  let c4_i32_5113 : BitVec 32 := 4#32
  let v4651 : BitVec 32 := Scalar.andi v4650 c4_i32_5113
  let c3_i32_5114 : BitVec 32 := 3#32
  let v4652 : BitVec 32 := Scalar.andi v4650 c3_i32_5114
  let c3_i32_5115 : BitVec 32 := 3#32
  let v4653 : BitVec 32 := Scalar.andi v4650 c3_i32_5115
  let c1_i32_5116 : BitVec 32 := 1#32
  let v4654 : BitVec 32 := Scalar.shrsi v4653 c1_i32_5116
  let v4655 : BitVec 32 := Scalar.xori v4652 v4654
  let v4656 : BitVec 32 := Scalar.ori v4651 v4655
  let c1_i32_5135 : BitVec 32 := 1#32
  let v4671 : BitVec 32 := Scalar.muli v4656 c1_i32_5135
  let v4672 : BitVec 32 := Scalar.addi c0_i32_5136 v4671
  v4672.toNat
def k0_dev130 (d0 : Dev nD) : Nat :=
  let c0_i32_5147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5112 : BitVec 32 := 2#32
  let v4650 : BitVec 32 := Scalar.xori v8 c2_i32_5112
  let c4_i32_5113 : BitVec 32 := 4#32
  let v4651 : BitVec 32 := Scalar.andi v4650 c4_i32_5113
  let c3_i32_5114 : BitVec 32 := 3#32
  let v4652 : BitVec 32 := Scalar.andi v4650 c3_i32_5114
  let c3_i32_5115 : BitVec 32 := 3#32
  let v4653 : BitVec 32 := Scalar.andi v4650 c3_i32_5115
  let c1_i32_5116 : BitVec 32 := 1#32
  let v4654 : BitVec 32 := Scalar.shrsi v4653 c1_i32_5116
  let v4655 : BitVec 32 := Scalar.xori v4652 v4654
  let v4656 : BitVec 32 := Scalar.ori v4651 v4655
  let c1_i32_5146 : BitVec 32 := 1#32
  let v4682 : BitVec 32 := Scalar.muli v4656 c1_i32_5146
  let v4683 : BitVec 32 := Scalar.addi c0_i32_5147 v4682
  v4683.toNat
def k0_dev131 (d0 : Dev nD) : Nat :=
  let c0_i32_5158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5112 : BitVec 32 := 2#32
  let v4650 : BitVec 32 := Scalar.xori v8 c2_i32_5112
  let c4_i32_5113 : BitVec 32 := 4#32
  let v4651 : BitVec 32 := Scalar.andi v4650 c4_i32_5113
  let c3_i32_5114 : BitVec 32 := 3#32
  let v4652 : BitVec 32 := Scalar.andi v4650 c3_i32_5114
  let c3_i32_5115 : BitVec 32 := 3#32
  let v4653 : BitVec 32 := Scalar.andi v4650 c3_i32_5115
  let c1_i32_5116 : BitVec 32 := 1#32
  let v4654 : BitVec 32 := Scalar.shrsi v4653 c1_i32_5116
  let v4655 : BitVec 32 := Scalar.xori v4652 v4654
  let v4656 : BitVec 32 := Scalar.ori v4651 v4655
  let c1_i32_5157 : BitVec 32 := 1#32
  let v4693 : BitVec 32 := Scalar.muli v4656 c1_i32_5157
  let v4694 : BitVec 32 := Scalar.addi c0_i32_5158 v4693
  v4694.toNat
def k0_dev132 (d0 : Dev nD) : Nat :=
  let c0_i32_5204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5191 : BitVec 32 := 4#32
  let v4721 : BitVec 32 := Scalar.xori v8 c4_i32_5191
  let c4_i32_5192 : BitVec 32 := 4#32
  let v4722 : BitVec 32 := Scalar.andi v4721 c4_i32_5192
  let c3_i32_5193 : BitVec 32 := 3#32
  let v4723 : BitVec 32 := Scalar.andi v4721 c3_i32_5193
  let c3_i32_5194 : BitVec 32 := 3#32
  let v4724 : BitVec 32 := Scalar.andi v4721 c3_i32_5194
  let c1_i32_5195 : BitVec 32 := 1#32
  let v4725 : BitVec 32 := Scalar.shrsi v4724 c1_i32_5195
  let v4726 : BitVec 32 := Scalar.xori v4723 v4725
  let v4727 : BitVec 32 := Scalar.ori v4722 v4726
  let c1_i32_5203 : BitVec 32 := 1#32
  let v4731 : BitVec 32 := Scalar.muli v4727 c1_i32_5203
  let v4732 : BitVec 32 := Scalar.addi c0_i32_5204 v4731
  v4732.toNat
def k0_dev133 (d0 : Dev nD) : Nat :=
  let c0_i32_5215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5191 : BitVec 32 := 4#32
  let v4721 : BitVec 32 := Scalar.xori v8 c4_i32_5191
  let c4_i32_5192 : BitVec 32 := 4#32
  let v4722 : BitVec 32 := Scalar.andi v4721 c4_i32_5192
  let c3_i32_5193 : BitVec 32 := 3#32
  let v4723 : BitVec 32 := Scalar.andi v4721 c3_i32_5193
  let c3_i32_5194 : BitVec 32 := 3#32
  let v4724 : BitVec 32 := Scalar.andi v4721 c3_i32_5194
  let c1_i32_5195 : BitVec 32 := 1#32
  let v4725 : BitVec 32 := Scalar.shrsi v4724 c1_i32_5195
  let v4726 : BitVec 32 := Scalar.xori v4723 v4725
  let v4727 : BitVec 32 := Scalar.ori v4722 v4726
  let c1_i32_5214 : BitVec 32 := 1#32
  let v4742 : BitVec 32 := Scalar.muli v4727 c1_i32_5214
  let v4743 : BitVec 32 := Scalar.addi c0_i32_5215 v4742
  v4743.toNat
def k0_dev134 (d0 : Dev nD) : Nat :=
  let c0_i32_5226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5191 : BitVec 32 := 4#32
  let v4721 : BitVec 32 := Scalar.xori v8 c4_i32_5191
  let c4_i32_5192 : BitVec 32 := 4#32
  let v4722 : BitVec 32 := Scalar.andi v4721 c4_i32_5192
  let c3_i32_5193 : BitVec 32 := 3#32
  let v4723 : BitVec 32 := Scalar.andi v4721 c3_i32_5193
  let c3_i32_5194 : BitVec 32 := 3#32
  let v4724 : BitVec 32 := Scalar.andi v4721 c3_i32_5194
  let c1_i32_5195 : BitVec 32 := 1#32
  let v4725 : BitVec 32 := Scalar.shrsi v4724 c1_i32_5195
  let v4726 : BitVec 32 := Scalar.xori v4723 v4725
  let v4727 : BitVec 32 := Scalar.ori v4722 v4726
  let c1_i32_5225 : BitVec 32 := 1#32
  let v4753 : BitVec 32 := Scalar.muli v4727 c1_i32_5225
  let v4754 : BitVec 32 := Scalar.addi c0_i32_5226 v4753
  v4754.toNat
def k0_dev135 (d0 : Dev nD) : Nat :=
  let c0_i32_5237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5191 : BitVec 32 := 4#32
  let v4721 : BitVec 32 := Scalar.xori v8 c4_i32_5191
  let c4_i32_5192 : BitVec 32 := 4#32
  let v4722 : BitVec 32 := Scalar.andi v4721 c4_i32_5192
  let c3_i32_5193 : BitVec 32 := 3#32
  let v4723 : BitVec 32 := Scalar.andi v4721 c3_i32_5193
  let c3_i32_5194 : BitVec 32 := 3#32
  let v4724 : BitVec 32 := Scalar.andi v4721 c3_i32_5194
  let c1_i32_5195 : BitVec 32 := 1#32
  let v4725 : BitVec 32 := Scalar.shrsi v4724 c1_i32_5195
  let v4726 : BitVec 32 := Scalar.xori v4723 v4725
  let v4727 : BitVec 32 := Scalar.ori v4722 v4726
  let c1_i32_5236 : BitVec 32 := 1#32
  let v4764 : BitVec 32 := Scalar.muli v4727 c1_i32_5236
  let v4765 : BitVec 32 := Scalar.addi c0_i32_5237 v4764
  v4765.toNat
def k0_dev136 (d0 : Dev nD) : Nat :=
  let c0_i32_5283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5270 : BitVec 32 := 1#32
  let v4792 : BitVec 32 := Scalar.xori v8 c1_i32_5270
  let c4_i32_5271 : BitVec 32 := 4#32
  let v4793 : BitVec 32 := Scalar.andi v4792 c4_i32_5271
  let c3_i32_5272 : BitVec 32 := 3#32
  let v4794 : BitVec 32 := Scalar.andi v4792 c3_i32_5272
  let c3_i32_5273 : BitVec 32 := 3#32
  let v4795 : BitVec 32 := Scalar.andi v4792 c3_i32_5273
  let c1_i32_5274 : BitVec 32 := 1#32
  let v4796 : BitVec 32 := Scalar.shrsi v4795 c1_i32_5274
  let v4797 : BitVec 32 := Scalar.xori v4794 v4796
  let v4798 : BitVec 32 := Scalar.ori v4793 v4797
  let c1_i32_5282 : BitVec 32 := 1#32
  let v4802 : BitVec 32 := Scalar.muli v4798 c1_i32_5282
  let v4803 : BitVec 32 := Scalar.addi c0_i32_5283 v4802
  v4803.toNat
def k0_dev137 (d0 : Dev nD) : Nat :=
  let c0_i32_5294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5270 : BitVec 32 := 1#32
  let v4792 : BitVec 32 := Scalar.xori v8 c1_i32_5270
  let c4_i32_5271 : BitVec 32 := 4#32
  let v4793 : BitVec 32 := Scalar.andi v4792 c4_i32_5271
  let c3_i32_5272 : BitVec 32 := 3#32
  let v4794 : BitVec 32 := Scalar.andi v4792 c3_i32_5272
  let c3_i32_5273 : BitVec 32 := 3#32
  let v4795 : BitVec 32 := Scalar.andi v4792 c3_i32_5273
  let c1_i32_5274 : BitVec 32 := 1#32
  let v4796 : BitVec 32 := Scalar.shrsi v4795 c1_i32_5274
  let v4797 : BitVec 32 := Scalar.xori v4794 v4796
  let v4798 : BitVec 32 := Scalar.ori v4793 v4797
  let c1_i32_5293 : BitVec 32 := 1#32
  let v4813 : BitVec 32 := Scalar.muli v4798 c1_i32_5293
  let v4814 : BitVec 32 := Scalar.addi c0_i32_5294 v4813
  v4814.toNat
def k0_dev138 (d0 : Dev nD) : Nat :=
  let c0_i32_5305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5270 : BitVec 32 := 1#32
  let v4792 : BitVec 32 := Scalar.xori v8 c1_i32_5270
  let c4_i32_5271 : BitVec 32 := 4#32
  let v4793 : BitVec 32 := Scalar.andi v4792 c4_i32_5271
  let c3_i32_5272 : BitVec 32 := 3#32
  let v4794 : BitVec 32 := Scalar.andi v4792 c3_i32_5272
  let c3_i32_5273 : BitVec 32 := 3#32
  let v4795 : BitVec 32 := Scalar.andi v4792 c3_i32_5273
  let c1_i32_5274 : BitVec 32 := 1#32
  let v4796 : BitVec 32 := Scalar.shrsi v4795 c1_i32_5274
  let v4797 : BitVec 32 := Scalar.xori v4794 v4796
  let v4798 : BitVec 32 := Scalar.ori v4793 v4797
  let c1_i32_5304 : BitVec 32 := 1#32
  let v4824 : BitVec 32 := Scalar.muli v4798 c1_i32_5304
  let v4825 : BitVec 32 := Scalar.addi c0_i32_5305 v4824
  v4825.toNat
def k0_dev139 (d0 : Dev nD) : Nat :=
  let c0_i32_5316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5270 : BitVec 32 := 1#32
  let v4792 : BitVec 32 := Scalar.xori v8 c1_i32_5270
  let c4_i32_5271 : BitVec 32 := 4#32
  let v4793 : BitVec 32 := Scalar.andi v4792 c4_i32_5271
  let c3_i32_5272 : BitVec 32 := 3#32
  let v4794 : BitVec 32 := Scalar.andi v4792 c3_i32_5272
  let c3_i32_5273 : BitVec 32 := 3#32
  let v4795 : BitVec 32 := Scalar.andi v4792 c3_i32_5273
  let c1_i32_5274 : BitVec 32 := 1#32
  let v4796 : BitVec 32 := Scalar.shrsi v4795 c1_i32_5274
  let v4797 : BitVec 32 := Scalar.xori v4794 v4796
  let v4798 : BitVec 32 := Scalar.ori v4793 v4797
  let c1_i32_5315 : BitVec 32 := 1#32
  let v4835 : BitVec 32 := Scalar.muli v4798 c1_i32_5315
  let v4836 : BitVec 32 := Scalar.addi c0_i32_5316 v4835
  v4836.toNat
def k0_dev140 (d0 : Dev nD) : Nat :=
  let c0_i32_5362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5349 : BitVec 32 := 2#32
  let v4863 : BitVec 32 := Scalar.xori v8 c2_i32_5349
  let c4_i32_5350 : BitVec 32 := 4#32
  let v4864 : BitVec 32 := Scalar.andi v4863 c4_i32_5350
  let c3_i32_5351 : BitVec 32 := 3#32
  let v4865 : BitVec 32 := Scalar.andi v4863 c3_i32_5351
  let c3_i32_5352 : BitVec 32 := 3#32
  let v4866 : BitVec 32 := Scalar.andi v4863 c3_i32_5352
  let c1_i32_5353 : BitVec 32 := 1#32
  let v4867 : BitVec 32 := Scalar.shrsi v4866 c1_i32_5353
  let v4868 : BitVec 32 := Scalar.xori v4865 v4867
  let v4869 : BitVec 32 := Scalar.ori v4864 v4868
  let c1_i32_5361 : BitVec 32 := 1#32
  let v4873 : BitVec 32 := Scalar.muli v4869 c1_i32_5361
  let v4874 : BitVec 32 := Scalar.addi c0_i32_5362 v4873
  v4874.toNat
def k0_dev141 (d0 : Dev nD) : Nat :=
  let c0_i32_5373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5349 : BitVec 32 := 2#32
  let v4863 : BitVec 32 := Scalar.xori v8 c2_i32_5349
  let c4_i32_5350 : BitVec 32 := 4#32
  let v4864 : BitVec 32 := Scalar.andi v4863 c4_i32_5350
  let c3_i32_5351 : BitVec 32 := 3#32
  let v4865 : BitVec 32 := Scalar.andi v4863 c3_i32_5351
  let c3_i32_5352 : BitVec 32 := 3#32
  let v4866 : BitVec 32 := Scalar.andi v4863 c3_i32_5352
  let c1_i32_5353 : BitVec 32 := 1#32
  let v4867 : BitVec 32 := Scalar.shrsi v4866 c1_i32_5353
  let v4868 : BitVec 32 := Scalar.xori v4865 v4867
  let v4869 : BitVec 32 := Scalar.ori v4864 v4868
  let c1_i32_5372 : BitVec 32 := 1#32
  let v4884 : BitVec 32 := Scalar.muli v4869 c1_i32_5372
  let v4885 : BitVec 32 := Scalar.addi c0_i32_5373 v4884
  v4885.toNat
def k0_dev142 (d0 : Dev nD) : Nat :=
  let c0_i32_5384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5349 : BitVec 32 := 2#32
  let v4863 : BitVec 32 := Scalar.xori v8 c2_i32_5349
  let c4_i32_5350 : BitVec 32 := 4#32
  let v4864 : BitVec 32 := Scalar.andi v4863 c4_i32_5350
  let c3_i32_5351 : BitVec 32 := 3#32
  let v4865 : BitVec 32 := Scalar.andi v4863 c3_i32_5351
  let c3_i32_5352 : BitVec 32 := 3#32
  let v4866 : BitVec 32 := Scalar.andi v4863 c3_i32_5352
  let c1_i32_5353 : BitVec 32 := 1#32
  let v4867 : BitVec 32 := Scalar.shrsi v4866 c1_i32_5353
  let v4868 : BitVec 32 := Scalar.xori v4865 v4867
  let v4869 : BitVec 32 := Scalar.ori v4864 v4868
  let c1_i32_5383 : BitVec 32 := 1#32
  let v4895 : BitVec 32 := Scalar.muli v4869 c1_i32_5383
  let v4896 : BitVec 32 := Scalar.addi c0_i32_5384 v4895
  v4896.toNat
def k0_dev143 (d0 : Dev nD) : Nat :=
  let c0_i32_5395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5349 : BitVec 32 := 2#32
  let v4863 : BitVec 32 := Scalar.xori v8 c2_i32_5349
  let c4_i32_5350 : BitVec 32 := 4#32
  let v4864 : BitVec 32 := Scalar.andi v4863 c4_i32_5350
  let c3_i32_5351 : BitVec 32 := 3#32
  let v4865 : BitVec 32 := Scalar.andi v4863 c3_i32_5351
  let c3_i32_5352 : BitVec 32 := 3#32
  let v4866 : BitVec 32 := Scalar.andi v4863 c3_i32_5352
  let c1_i32_5353 : BitVec 32 := 1#32
  let v4867 : BitVec 32 := Scalar.shrsi v4866 c1_i32_5353
  let v4868 : BitVec 32 := Scalar.xori v4865 v4867
  let v4869 : BitVec 32 := Scalar.ori v4864 v4868
  let c1_i32_5394 : BitVec 32 := 1#32
  let v4906 : BitVec 32 := Scalar.muli v4869 c1_i32_5394
  let v4907 : BitVec 32 := Scalar.addi c0_i32_5395 v4906
  v4907.toNat
def k0_dev144 (d0 : Dev nD) : Nat :=
  let c0_i32_5441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5428 : BitVec 32 := 4#32
  let v4934 : BitVec 32 := Scalar.xori v8 c4_i32_5428
  let c4_i32_5429 : BitVec 32 := 4#32
  let v4935 : BitVec 32 := Scalar.andi v4934 c4_i32_5429
  let c3_i32_5430 : BitVec 32 := 3#32
  let v4936 : BitVec 32 := Scalar.andi v4934 c3_i32_5430
  let c3_i32_5431 : BitVec 32 := 3#32
  let v4937 : BitVec 32 := Scalar.andi v4934 c3_i32_5431
  let c1_i32_5432 : BitVec 32 := 1#32
  let v4938 : BitVec 32 := Scalar.shrsi v4937 c1_i32_5432
  let v4939 : BitVec 32 := Scalar.xori v4936 v4938
  let v4940 : BitVec 32 := Scalar.ori v4935 v4939
  let c1_i32_5440 : BitVec 32 := 1#32
  let v4944 : BitVec 32 := Scalar.muli v4940 c1_i32_5440
  let v4945 : BitVec 32 := Scalar.addi c0_i32_5441 v4944
  v4945.toNat
def k0_dev145 (d0 : Dev nD) : Nat :=
  let c0_i32_5452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5428 : BitVec 32 := 4#32
  let v4934 : BitVec 32 := Scalar.xori v8 c4_i32_5428
  let c4_i32_5429 : BitVec 32 := 4#32
  let v4935 : BitVec 32 := Scalar.andi v4934 c4_i32_5429
  let c3_i32_5430 : BitVec 32 := 3#32
  let v4936 : BitVec 32 := Scalar.andi v4934 c3_i32_5430
  let c3_i32_5431 : BitVec 32 := 3#32
  let v4937 : BitVec 32 := Scalar.andi v4934 c3_i32_5431
  let c1_i32_5432 : BitVec 32 := 1#32
  let v4938 : BitVec 32 := Scalar.shrsi v4937 c1_i32_5432
  let v4939 : BitVec 32 := Scalar.xori v4936 v4938
  let v4940 : BitVec 32 := Scalar.ori v4935 v4939
  let c1_i32_5451 : BitVec 32 := 1#32
  let v4955 : BitVec 32 := Scalar.muli v4940 c1_i32_5451
  let v4956 : BitVec 32 := Scalar.addi c0_i32_5452 v4955
  v4956.toNat
def k0_dev146 (d0 : Dev nD) : Nat :=
  let c0_i32_5463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5428 : BitVec 32 := 4#32
  let v4934 : BitVec 32 := Scalar.xori v8 c4_i32_5428
  let c4_i32_5429 : BitVec 32 := 4#32
  let v4935 : BitVec 32 := Scalar.andi v4934 c4_i32_5429
  let c3_i32_5430 : BitVec 32 := 3#32
  let v4936 : BitVec 32 := Scalar.andi v4934 c3_i32_5430
  let c3_i32_5431 : BitVec 32 := 3#32
  let v4937 : BitVec 32 := Scalar.andi v4934 c3_i32_5431
  let c1_i32_5432 : BitVec 32 := 1#32
  let v4938 : BitVec 32 := Scalar.shrsi v4937 c1_i32_5432
  let v4939 : BitVec 32 := Scalar.xori v4936 v4938
  let v4940 : BitVec 32 := Scalar.ori v4935 v4939
  let c1_i32_5462 : BitVec 32 := 1#32
  let v4966 : BitVec 32 := Scalar.muli v4940 c1_i32_5462
  let v4967 : BitVec 32 := Scalar.addi c0_i32_5463 v4966
  v4967.toNat
def k0_dev147 (d0 : Dev nD) : Nat :=
  let c0_i32_5474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5428 : BitVec 32 := 4#32
  let v4934 : BitVec 32 := Scalar.xori v8 c4_i32_5428
  let c4_i32_5429 : BitVec 32 := 4#32
  let v4935 : BitVec 32 := Scalar.andi v4934 c4_i32_5429
  let c3_i32_5430 : BitVec 32 := 3#32
  let v4936 : BitVec 32 := Scalar.andi v4934 c3_i32_5430
  let c3_i32_5431 : BitVec 32 := 3#32
  let v4937 : BitVec 32 := Scalar.andi v4934 c3_i32_5431
  let c1_i32_5432 : BitVec 32 := 1#32
  let v4938 : BitVec 32 := Scalar.shrsi v4937 c1_i32_5432
  let v4939 : BitVec 32 := Scalar.xori v4936 v4938
  let v4940 : BitVec 32 := Scalar.ori v4935 v4939
  let c1_i32_5473 : BitVec 32 := 1#32
  let v4977 : BitVec 32 := Scalar.muli v4940 c1_i32_5473
  let v4978 : BitVec 32 := Scalar.addi c0_i32_5474 v4977
  v4978.toNat
def k0_dev148 (d0 : Dev nD) : Nat :=
  let c0_i32_5520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5507 : BitVec 32 := 1#32
  let v5005 : BitVec 32 := Scalar.xori v8 c1_i32_5507
  let c4_i32_5508 : BitVec 32 := 4#32
  let v5006 : BitVec 32 := Scalar.andi v5005 c4_i32_5508
  let c3_i32_5509 : BitVec 32 := 3#32
  let v5007 : BitVec 32 := Scalar.andi v5005 c3_i32_5509
  let c3_i32_5510 : BitVec 32 := 3#32
  let v5008 : BitVec 32 := Scalar.andi v5005 c3_i32_5510
  let c1_i32_5511 : BitVec 32 := 1#32
  let v5009 : BitVec 32 := Scalar.shrsi v5008 c1_i32_5511
  let v5010 : BitVec 32 := Scalar.xori v5007 v5009
  let v5011 : BitVec 32 := Scalar.ori v5006 v5010
  let c1_i32_5519 : BitVec 32 := 1#32
  let v5015 : BitVec 32 := Scalar.muli v5011 c1_i32_5519
  let v5016 : BitVec 32 := Scalar.addi c0_i32_5520 v5015
  v5016.toNat
def k0_dev149 (d0 : Dev nD) : Nat :=
  let c0_i32_5531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5507 : BitVec 32 := 1#32
  let v5005 : BitVec 32 := Scalar.xori v8 c1_i32_5507
  let c4_i32_5508 : BitVec 32 := 4#32
  let v5006 : BitVec 32 := Scalar.andi v5005 c4_i32_5508
  let c3_i32_5509 : BitVec 32 := 3#32
  let v5007 : BitVec 32 := Scalar.andi v5005 c3_i32_5509
  let c3_i32_5510 : BitVec 32 := 3#32
  let v5008 : BitVec 32 := Scalar.andi v5005 c3_i32_5510
  let c1_i32_5511 : BitVec 32 := 1#32
  let v5009 : BitVec 32 := Scalar.shrsi v5008 c1_i32_5511
  let v5010 : BitVec 32 := Scalar.xori v5007 v5009
  let v5011 : BitVec 32 := Scalar.ori v5006 v5010
  let c1_i32_5530 : BitVec 32 := 1#32
  let v5026 : BitVec 32 := Scalar.muli v5011 c1_i32_5530
  let v5027 : BitVec 32 := Scalar.addi c0_i32_5531 v5026
  v5027.toNat
def k0_dev150 (d0 : Dev nD) : Nat :=
  let c0_i32_5542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5507 : BitVec 32 := 1#32
  let v5005 : BitVec 32 := Scalar.xori v8 c1_i32_5507
  let c4_i32_5508 : BitVec 32 := 4#32
  let v5006 : BitVec 32 := Scalar.andi v5005 c4_i32_5508
  let c3_i32_5509 : BitVec 32 := 3#32
  let v5007 : BitVec 32 := Scalar.andi v5005 c3_i32_5509
  let c3_i32_5510 : BitVec 32 := 3#32
  let v5008 : BitVec 32 := Scalar.andi v5005 c3_i32_5510
  let c1_i32_5511 : BitVec 32 := 1#32
  let v5009 : BitVec 32 := Scalar.shrsi v5008 c1_i32_5511
  let v5010 : BitVec 32 := Scalar.xori v5007 v5009
  let v5011 : BitVec 32 := Scalar.ori v5006 v5010
  let c1_i32_5541 : BitVec 32 := 1#32
  let v5037 : BitVec 32 := Scalar.muli v5011 c1_i32_5541
  let v5038 : BitVec 32 := Scalar.addi c0_i32_5542 v5037
  v5038.toNat
def k0_dev151 (d0 : Dev nD) : Nat :=
  let c0_i32_5553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5507 : BitVec 32 := 1#32
  let v5005 : BitVec 32 := Scalar.xori v8 c1_i32_5507
  let c4_i32_5508 : BitVec 32 := 4#32
  let v5006 : BitVec 32 := Scalar.andi v5005 c4_i32_5508
  let c3_i32_5509 : BitVec 32 := 3#32
  let v5007 : BitVec 32 := Scalar.andi v5005 c3_i32_5509
  let c3_i32_5510 : BitVec 32 := 3#32
  let v5008 : BitVec 32 := Scalar.andi v5005 c3_i32_5510
  let c1_i32_5511 : BitVec 32 := 1#32
  let v5009 : BitVec 32 := Scalar.shrsi v5008 c1_i32_5511
  let v5010 : BitVec 32 := Scalar.xori v5007 v5009
  let v5011 : BitVec 32 := Scalar.ori v5006 v5010
  let c1_i32_5552 : BitVec 32 := 1#32
  let v5048 : BitVec 32 := Scalar.muli v5011 c1_i32_5552
  let v5049 : BitVec 32 := Scalar.addi c0_i32_5553 v5048
  v5049.toNat
def k0_dev152 (d0 : Dev nD) : Nat :=
  let c0_i32_5599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5586 : BitVec 32 := 2#32
  let v5076 : BitVec 32 := Scalar.xori v8 c2_i32_5586
  let c4_i32_5587 : BitVec 32 := 4#32
  let v5077 : BitVec 32 := Scalar.andi v5076 c4_i32_5587
  let c3_i32_5588 : BitVec 32 := 3#32
  let v5078 : BitVec 32 := Scalar.andi v5076 c3_i32_5588
  let c3_i32_5589 : BitVec 32 := 3#32
  let v5079 : BitVec 32 := Scalar.andi v5076 c3_i32_5589
  let c1_i32_5590 : BitVec 32 := 1#32
  let v5080 : BitVec 32 := Scalar.shrsi v5079 c1_i32_5590
  let v5081 : BitVec 32 := Scalar.xori v5078 v5080
  let v5082 : BitVec 32 := Scalar.ori v5077 v5081
  let c1_i32_5598 : BitVec 32 := 1#32
  let v5086 : BitVec 32 := Scalar.muli v5082 c1_i32_5598
  let v5087 : BitVec 32 := Scalar.addi c0_i32_5599 v5086
  v5087.toNat
def k0_dev153 (d0 : Dev nD) : Nat :=
  let c0_i32_5610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5586 : BitVec 32 := 2#32
  let v5076 : BitVec 32 := Scalar.xori v8 c2_i32_5586
  let c4_i32_5587 : BitVec 32 := 4#32
  let v5077 : BitVec 32 := Scalar.andi v5076 c4_i32_5587
  let c3_i32_5588 : BitVec 32 := 3#32
  let v5078 : BitVec 32 := Scalar.andi v5076 c3_i32_5588
  let c3_i32_5589 : BitVec 32 := 3#32
  let v5079 : BitVec 32 := Scalar.andi v5076 c3_i32_5589
  let c1_i32_5590 : BitVec 32 := 1#32
  let v5080 : BitVec 32 := Scalar.shrsi v5079 c1_i32_5590
  let v5081 : BitVec 32 := Scalar.xori v5078 v5080
  let v5082 : BitVec 32 := Scalar.ori v5077 v5081
  let c1_i32_5609 : BitVec 32 := 1#32
  let v5097 : BitVec 32 := Scalar.muli v5082 c1_i32_5609
  let v5098 : BitVec 32 := Scalar.addi c0_i32_5610 v5097
  v5098.toNat
def k0_dev154 (d0 : Dev nD) : Nat :=
  let c0_i32_5621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5586 : BitVec 32 := 2#32
  let v5076 : BitVec 32 := Scalar.xori v8 c2_i32_5586
  let c4_i32_5587 : BitVec 32 := 4#32
  let v5077 : BitVec 32 := Scalar.andi v5076 c4_i32_5587
  let c3_i32_5588 : BitVec 32 := 3#32
  let v5078 : BitVec 32 := Scalar.andi v5076 c3_i32_5588
  let c3_i32_5589 : BitVec 32 := 3#32
  let v5079 : BitVec 32 := Scalar.andi v5076 c3_i32_5589
  let c1_i32_5590 : BitVec 32 := 1#32
  let v5080 : BitVec 32 := Scalar.shrsi v5079 c1_i32_5590
  let v5081 : BitVec 32 := Scalar.xori v5078 v5080
  let v5082 : BitVec 32 := Scalar.ori v5077 v5081
  let c1_i32_5620 : BitVec 32 := 1#32
  let v5108 : BitVec 32 := Scalar.muli v5082 c1_i32_5620
  let v5109 : BitVec 32 := Scalar.addi c0_i32_5621 v5108
  v5109.toNat
def k0_dev155 (d0 : Dev nD) : Nat :=
  let c0_i32_5632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5586 : BitVec 32 := 2#32
  let v5076 : BitVec 32 := Scalar.xori v8 c2_i32_5586
  let c4_i32_5587 : BitVec 32 := 4#32
  let v5077 : BitVec 32 := Scalar.andi v5076 c4_i32_5587
  let c3_i32_5588 : BitVec 32 := 3#32
  let v5078 : BitVec 32 := Scalar.andi v5076 c3_i32_5588
  let c3_i32_5589 : BitVec 32 := 3#32
  let v5079 : BitVec 32 := Scalar.andi v5076 c3_i32_5589
  let c1_i32_5590 : BitVec 32 := 1#32
  let v5080 : BitVec 32 := Scalar.shrsi v5079 c1_i32_5590
  let v5081 : BitVec 32 := Scalar.xori v5078 v5080
  let v5082 : BitVec 32 := Scalar.ori v5077 v5081
  let c1_i32_5631 : BitVec 32 := 1#32
  let v5119 : BitVec 32 := Scalar.muli v5082 c1_i32_5631
  let v5120 : BitVec 32 := Scalar.addi c0_i32_5632 v5119
  v5120.toNat
def k0_dev156 (d0 : Dev nD) : Nat :=
  let c0_i32_5678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5665 : BitVec 32 := 4#32
  let v5147 : BitVec 32 := Scalar.xori v8 c4_i32_5665
  let c4_i32_5666 : BitVec 32 := 4#32
  let v5148 : BitVec 32 := Scalar.andi v5147 c4_i32_5666
  let c3_i32_5667 : BitVec 32 := 3#32
  let v5149 : BitVec 32 := Scalar.andi v5147 c3_i32_5667
  let c3_i32_5668 : BitVec 32 := 3#32
  let v5150 : BitVec 32 := Scalar.andi v5147 c3_i32_5668
  let c1_i32_5669 : BitVec 32 := 1#32
  let v5151 : BitVec 32 := Scalar.shrsi v5150 c1_i32_5669
  let v5152 : BitVec 32 := Scalar.xori v5149 v5151
  let v5153 : BitVec 32 := Scalar.ori v5148 v5152
  let c1_i32_5677 : BitVec 32 := 1#32
  let v5157 : BitVec 32 := Scalar.muli v5153 c1_i32_5677
  let v5158 : BitVec 32 := Scalar.addi c0_i32_5678 v5157
  v5158.toNat
def k0_dev157 (d0 : Dev nD) : Nat :=
  let c0_i32_5689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5665 : BitVec 32 := 4#32
  let v5147 : BitVec 32 := Scalar.xori v8 c4_i32_5665
  let c4_i32_5666 : BitVec 32 := 4#32
  let v5148 : BitVec 32 := Scalar.andi v5147 c4_i32_5666
  let c3_i32_5667 : BitVec 32 := 3#32
  let v5149 : BitVec 32 := Scalar.andi v5147 c3_i32_5667
  let c3_i32_5668 : BitVec 32 := 3#32
  let v5150 : BitVec 32 := Scalar.andi v5147 c3_i32_5668
  let c1_i32_5669 : BitVec 32 := 1#32
  let v5151 : BitVec 32 := Scalar.shrsi v5150 c1_i32_5669
  let v5152 : BitVec 32 := Scalar.xori v5149 v5151
  let v5153 : BitVec 32 := Scalar.ori v5148 v5152
  let c1_i32_5688 : BitVec 32 := 1#32
  let v5168 : BitVec 32 := Scalar.muli v5153 c1_i32_5688
  let v5169 : BitVec 32 := Scalar.addi c0_i32_5689 v5168
  v5169.toNat
def k0_dev158 (d0 : Dev nD) : Nat :=
  let c0_i32_5700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5665 : BitVec 32 := 4#32
  let v5147 : BitVec 32 := Scalar.xori v8 c4_i32_5665
  let c4_i32_5666 : BitVec 32 := 4#32
  let v5148 : BitVec 32 := Scalar.andi v5147 c4_i32_5666
  let c3_i32_5667 : BitVec 32 := 3#32
  let v5149 : BitVec 32 := Scalar.andi v5147 c3_i32_5667
  let c3_i32_5668 : BitVec 32 := 3#32
  let v5150 : BitVec 32 := Scalar.andi v5147 c3_i32_5668
  let c1_i32_5669 : BitVec 32 := 1#32
  let v5151 : BitVec 32 := Scalar.shrsi v5150 c1_i32_5669
  let v5152 : BitVec 32 := Scalar.xori v5149 v5151
  let v5153 : BitVec 32 := Scalar.ori v5148 v5152
  let c1_i32_5699 : BitVec 32 := 1#32
  let v5179 : BitVec 32 := Scalar.muli v5153 c1_i32_5699
  let v5180 : BitVec 32 := Scalar.addi c0_i32_5700 v5179
  v5180.toNat
def k0_dev159 (d0 : Dev nD) : Nat :=
  let c0_i32_5711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5665 : BitVec 32 := 4#32
  let v5147 : BitVec 32 := Scalar.xori v8 c4_i32_5665
  let c4_i32_5666 : BitVec 32 := 4#32
  let v5148 : BitVec 32 := Scalar.andi v5147 c4_i32_5666
  let c3_i32_5667 : BitVec 32 := 3#32
  let v5149 : BitVec 32 := Scalar.andi v5147 c3_i32_5667
  let c3_i32_5668 : BitVec 32 := 3#32
  let v5150 : BitVec 32 := Scalar.andi v5147 c3_i32_5668
  let c1_i32_5669 : BitVec 32 := 1#32
  let v5151 : BitVec 32 := Scalar.shrsi v5150 c1_i32_5669
  let v5152 : BitVec 32 := Scalar.xori v5149 v5151
  let v5153 : BitVec 32 := Scalar.ori v5148 v5152
  let c1_i32_5710 : BitVec 32 := 1#32
  let v5190 : BitVec 32 := Scalar.muli v5153 c1_i32_5710
  let v5191 : BitVec 32 := Scalar.addi c0_i32_5711 v5190
  v5191.toNat
def k0_dev160 (d0 : Dev nD) : Nat :=
  let c0_i32_5757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5744 : BitVec 32 := 1#32
  let v5218 : BitVec 32 := Scalar.xori v8 c1_i32_5744
  let c4_i32_5745 : BitVec 32 := 4#32
  let v5219 : BitVec 32 := Scalar.andi v5218 c4_i32_5745
  let c3_i32_5746 : BitVec 32 := 3#32
  let v5220 : BitVec 32 := Scalar.andi v5218 c3_i32_5746
  let c3_i32_5747 : BitVec 32 := 3#32
  let v5221 : BitVec 32 := Scalar.andi v5218 c3_i32_5747
  let c1_i32_5748 : BitVec 32 := 1#32
  let v5222 : BitVec 32 := Scalar.shrsi v5221 c1_i32_5748
  let v5223 : BitVec 32 := Scalar.xori v5220 v5222
  let v5224 : BitVec 32 := Scalar.ori v5219 v5223
  let c1_i32_5756 : BitVec 32 := 1#32
  let v5228 : BitVec 32 := Scalar.muli v5224 c1_i32_5756
  let v5229 : BitVec 32 := Scalar.addi c0_i32_5757 v5228
  v5229.toNat
def k0_dev161 (d0 : Dev nD) : Nat :=
  let c0_i32_5768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5744 : BitVec 32 := 1#32
  let v5218 : BitVec 32 := Scalar.xori v8 c1_i32_5744
  let c4_i32_5745 : BitVec 32 := 4#32
  let v5219 : BitVec 32 := Scalar.andi v5218 c4_i32_5745
  let c3_i32_5746 : BitVec 32 := 3#32
  let v5220 : BitVec 32 := Scalar.andi v5218 c3_i32_5746
  let c3_i32_5747 : BitVec 32 := 3#32
  let v5221 : BitVec 32 := Scalar.andi v5218 c3_i32_5747
  let c1_i32_5748 : BitVec 32 := 1#32
  let v5222 : BitVec 32 := Scalar.shrsi v5221 c1_i32_5748
  let v5223 : BitVec 32 := Scalar.xori v5220 v5222
  let v5224 : BitVec 32 := Scalar.ori v5219 v5223
  let c1_i32_5767 : BitVec 32 := 1#32
  let v5239 : BitVec 32 := Scalar.muli v5224 c1_i32_5767
  let v5240 : BitVec 32 := Scalar.addi c0_i32_5768 v5239
  v5240.toNat
def k0_dev162 (d0 : Dev nD) : Nat :=
  let c0_i32_5779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5744 : BitVec 32 := 1#32
  let v5218 : BitVec 32 := Scalar.xori v8 c1_i32_5744
  let c4_i32_5745 : BitVec 32 := 4#32
  let v5219 : BitVec 32 := Scalar.andi v5218 c4_i32_5745
  let c3_i32_5746 : BitVec 32 := 3#32
  let v5220 : BitVec 32 := Scalar.andi v5218 c3_i32_5746
  let c3_i32_5747 : BitVec 32 := 3#32
  let v5221 : BitVec 32 := Scalar.andi v5218 c3_i32_5747
  let c1_i32_5748 : BitVec 32 := 1#32
  let v5222 : BitVec 32 := Scalar.shrsi v5221 c1_i32_5748
  let v5223 : BitVec 32 := Scalar.xori v5220 v5222
  let v5224 : BitVec 32 := Scalar.ori v5219 v5223
  let c1_i32_5778 : BitVec 32 := 1#32
  let v5250 : BitVec 32 := Scalar.muli v5224 c1_i32_5778
  let v5251 : BitVec 32 := Scalar.addi c0_i32_5779 v5250
  v5251.toNat
def k0_dev163 (d0 : Dev nD) : Nat :=
  let c0_i32_5790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c1_i32_5744 : BitVec 32 := 1#32
  let v5218 : BitVec 32 := Scalar.xori v8 c1_i32_5744
  let c4_i32_5745 : BitVec 32 := 4#32
  let v5219 : BitVec 32 := Scalar.andi v5218 c4_i32_5745
  let c3_i32_5746 : BitVec 32 := 3#32
  let v5220 : BitVec 32 := Scalar.andi v5218 c3_i32_5746
  let c3_i32_5747 : BitVec 32 := 3#32
  let v5221 : BitVec 32 := Scalar.andi v5218 c3_i32_5747
  let c1_i32_5748 : BitVec 32 := 1#32
  let v5222 : BitVec 32 := Scalar.shrsi v5221 c1_i32_5748
  let v5223 : BitVec 32 := Scalar.xori v5220 v5222
  let v5224 : BitVec 32 := Scalar.ori v5219 v5223
  let c1_i32_5789 : BitVec 32 := 1#32
  let v5261 : BitVec 32 := Scalar.muli v5224 c1_i32_5789
  let v5262 : BitVec 32 := Scalar.addi c0_i32_5790 v5261
  v5262.toNat
def k0_dev164 (d0 : Dev nD) : Nat :=
  let c0_i32_5836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5823 : BitVec 32 := 2#32
  let v5289 : BitVec 32 := Scalar.xori v8 c2_i32_5823
  let c4_i32_5824 : BitVec 32 := 4#32
  let v5290 : BitVec 32 := Scalar.andi v5289 c4_i32_5824
  let c3_i32_5825 : BitVec 32 := 3#32
  let v5291 : BitVec 32 := Scalar.andi v5289 c3_i32_5825
  let c3_i32_5826 : BitVec 32 := 3#32
  let v5292 : BitVec 32 := Scalar.andi v5289 c3_i32_5826
  let c1_i32_5827 : BitVec 32 := 1#32
  let v5293 : BitVec 32 := Scalar.shrsi v5292 c1_i32_5827
  let v5294 : BitVec 32 := Scalar.xori v5291 v5293
  let v5295 : BitVec 32 := Scalar.ori v5290 v5294
  let c1_i32_5835 : BitVec 32 := 1#32
  let v5299 : BitVec 32 := Scalar.muli v5295 c1_i32_5835
  let v5300 : BitVec 32 := Scalar.addi c0_i32_5836 v5299
  v5300.toNat
def k0_dev165 (d0 : Dev nD) : Nat :=
  let c0_i32_5847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5823 : BitVec 32 := 2#32
  let v5289 : BitVec 32 := Scalar.xori v8 c2_i32_5823
  let c4_i32_5824 : BitVec 32 := 4#32
  let v5290 : BitVec 32 := Scalar.andi v5289 c4_i32_5824
  let c3_i32_5825 : BitVec 32 := 3#32
  let v5291 : BitVec 32 := Scalar.andi v5289 c3_i32_5825
  let c3_i32_5826 : BitVec 32 := 3#32
  let v5292 : BitVec 32 := Scalar.andi v5289 c3_i32_5826
  let c1_i32_5827 : BitVec 32 := 1#32
  let v5293 : BitVec 32 := Scalar.shrsi v5292 c1_i32_5827
  let v5294 : BitVec 32 := Scalar.xori v5291 v5293
  let v5295 : BitVec 32 := Scalar.ori v5290 v5294
  let c1_i32_5846 : BitVec 32 := 1#32
  let v5310 : BitVec 32 := Scalar.muli v5295 c1_i32_5846
  let v5311 : BitVec 32 := Scalar.addi c0_i32_5847 v5310
  v5311.toNat
def k0_dev166 (d0 : Dev nD) : Nat :=
  let c0_i32_5858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5823 : BitVec 32 := 2#32
  let v5289 : BitVec 32 := Scalar.xori v8 c2_i32_5823
  let c4_i32_5824 : BitVec 32 := 4#32
  let v5290 : BitVec 32 := Scalar.andi v5289 c4_i32_5824
  let c3_i32_5825 : BitVec 32 := 3#32
  let v5291 : BitVec 32 := Scalar.andi v5289 c3_i32_5825
  let c3_i32_5826 : BitVec 32 := 3#32
  let v5292 : BitVec 32 := Scalar.andi v5289 c3_i32_5826
  let c1_i32_5827 : BitVec 32 := 1#32
  let v5293 : BitVec 32 := Scalar.shrsi v5292 c1_i32_5827
  let v5294 : BitVec 32 := Scalar.xori v5291 v5293
  let v5295 : BitVec 32 := Scalar.ori v5290 v5294
  let c1_i32_5857 : BitVec 32 := 1#32
  let v5321 : BitVec 32 := Scalar.muli v5295 c1_i32_5857
  let v5322 : BitVec 32 := Scalar.addi c0_i32_5858 v5321
  v5322.toNat
def k0_dev167 (d0 : Dev nD) : Nat :=
  let c0_i32_5869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c2_i32_5823 : BitVec 32 := 2#32
  let v5289 : BitVec 32 := Scalar.xori v8 c2_i32_5823
  let c4_i32_5824 : BitVec 32 := 4#32
  let v5290 : BitVec 32 := Scalar.andi v5289 c4_i32_5824
  let c3_i32_5825 : BitVec 32 := 3#32
  let v5291 : BitVec 32 := Scalar.andi v5289 c3_i32_5825
  let c3_i32_5826 : BitVec 32 := 3#32
  let v5292 : BitVec 32 := Scalar.andi v5289 c3_i32_5826
  let c1_i32_5827 : BitVec 32 := 1#32
  let v5293 : BitVec 32 := Scalar.shrsi v5292 c1_i32_5827
  let v5294 : BitVec 32 := Scalar.xori v5291 v5293
  let v5295 : BitVec 32 := Scalar.ori v5290 v5294
  let c1_i32_5868 : BitVec 32 := 1#32
  let v5332 : BitVec 32 := Scalar.muli v5295 c1_i32_5868
  let v5333 : BitVec 32 := Scalar.addi c0_i32_5869 v5332
  v5333.toNat
def k0_dev168 (d0 : Dev nD) : Nat :=
  let c0_i32_5915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5902 : BitVec 32 := 4#32
  let v5360 : BitVec 32 := Scalar.xori v8 c4_i32_5902
  let c4_i32_5903 : BitVec 32 := 4#32
  let v5361 : BitVec 32 := Scalar.andi v5360 c4_i32_5903
  let c3_i32_5904 : BitVec 32 := 3#32
  let v5362 : BitVec 32 := Scalar.andi v5360 c3_i32_5904
  let c3_i32_5905 : BitVec 32 := 3#32
  let v5363 : BitVec 32 := Scalar.andi v5360 c3_i32_5905
  let c1_i32_5906 : BitVec 32 := 1#32
  let v5364 : BitVec 32 := Scalar.shrsi v5363 c1_i32_5906
  let v5365 : BitVec 32 := Scalar.xori v5362 v5364
  let v5366 : BitVec 32 := Scalar.ori v5361 v5365
  let c1_i32_5914 : BitVec 32 := 1#32
  let v5370 : BitVec 32 := Scalar.muli v5366 c1_i32_5914
  let v5371 : BitVec 32 := Scalar.addi c0_i32_5915 v5370
  v5371.toNat
def k0_dev169 (d0 : Dev nD) : Nat :=
  let c0_i32_5926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5902 : BitVec 32 := 4#32
  let v5360 : BitVec 32 := Scalar.xori v8 c4_i32_5902
  let c4_i32_5903 : BitVec 32 := 4#32
  let v5361 : BitVec 32 := Scalar.andi v5360 c4_i32_5903
  let c3_i32_5904 : BitVec 32 := 3#32
  let v5362 : BitVec 32 := Scalar.andi v5360 c3_i32_5904
  let c3_i32_5905 : BitVec 32 := 3#32
  let v5363 : BitVec 32 := Scalar.andi v5360 c3_i32_5905
  let c1_i32_5906 : BitVec 32 := 1#32
  let v5364 : BitVec 32 := Scalar.shrsi v5363 c1_i32_5906
  let v5365 : BitVec 32 := Scalar.xori v5362 v5364
  let v5366 : BitVec 32 := Scalar.ori v5361 v5365
  let c1_i32_5925 : BitVec 32 := 1#32
  let v5381 : BitVec 32 := Scalar.muli v5366 c1_i32_5925
  let v5382 : BitVec 32 := Scalar.addi c0_i32_5926 v5381
  v5382.toNat
def k0_dev170 (d0 : Dev nD) : Nat :=
  let c0_i32_5937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5902 : BitVec 32 := 4#32
  let v5360 : BitVec 32 := Scalar.xori v8 c4_i32_5902
  let c4_i32_5903 : BitVec 32 := 4#32
  let v5361 : BitVec 32 := Scalar.andi v5360 c4_i32_5903
  let c3_i32_5904 : BitVec 32 := 3#32
  let v5362 : BitVec 32 := Scalar.andi v5360 c3_i32_5904
  let c3_i32_5905 : BitVec 32 := 3#32
  let v5363 : BitVec 32 := Scalar.andi v5360 c3_i32_5905
  let c1_i32_5906 : BitVec 32 := 1#32
  let v5364 : BitVec 32 := Scalar.shrsi v5363 c1_i32_5906
  let v5365 : BitVec 32 := Scalar.xori v5362 v5364
  let v5366 : BitVec 32 := Scalar.ori v5361 v5365
  let c1_i32_5936 : BitVec 32 := 1#32
  let v5392 : BitVec 32 := Scalar.muli v5366 c1_i32_5936
  let v5393 : BitVec 32 := Scalar.addi c0_i32_5937 v5392
  v5393.toNat
def k0_dev171 (d0 : Dev nD) : Nat :=
  let c0_i32_5948 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.andi v2 c4_i32
  let c3_i32 : BitVec 32 := 3#32
  let v4 : BitVec 32 := Scalar.andi v2 c3_i32
  let c3_i32_0 : BitVec 32 := 3#32
  let v5 : BitVec 32 := Scalar.andi v2 c3_i32_0
  let c1_i32_1 : BitVec 32 := 1#32
  let v6 : BitVec 32 := Scalar.shrsi v5 c1_i32_1
  let v7 : BitVec 32 := Scalar.xori v4 v6
  let v8 : BitVec 32 := Scalar.ori v3 v7
  let c4_i32_5902 : BitVec 32 := 4#32
  let v5360 : BitVec 32 := Scalar.xori v8 c4_i32_5902
  let c4_i32_5903 : BitVec 32 := 4#32
  let v5361 : BitVec 32 := Scalar.andi v5360 c4_i32_5903
  let c3_i32_5904 : BitVec 32 := 3#32
  let v5362 : BitVec 32 := Scalar.andi v5360 c3_i32_5904
  let c3_i32_5905 : BitVec 32 := 3#32
  let v5363 : BitVec 32 := Scalar.andi v5360 c3_i32_5905
  let c1_i32_5906 : BitVec 32 := 1#32
  let v5364 : BitVec 32 := Scalar.shrsi v5363 c1_i32_5906
  let v5365 : BitVec 32 := Scalar.xori v5362 v5364
  let v5366 : BitVec 32 := Scalar.ori v5361 v5365
  let c1_i32_5947 : BitVec 32 := 1#32
  let v5403 : BitVec 32 := Scalar.muli v5366 c1_i32_5947
  let v5404 : BitVec 32 := Scalar.addi c0_i32_5948 v5403
  v5404.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S512x1024 : Shape := ⟨2, ![512, 1024]⟩
abbrev S2048x32 : Shape := ⟨2, ![2048, 32]⟩
abbrev S_ : Shape := ⟨0, ![]⟩
abbrev S2048 : Shape := ⟨1, ![2048]⟩
abbrev S2048x1024 : Shape := ⟨2, ![2048, 1024]⟩
abbrev S2048x32x1024 : Shape := ⟨3, ![2048, 32, 1024]⟩
abbrev S32 : Shape := ⟨1, ![32]⟩
abbrev S1x32 : Shape := ⟨2, ![1, 32]⟩
abbrev S2048x32x1 : Shape := ⟨3, ![2048, 32, 1]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x32, .f32⟩
  | .hbm, ⟨2, _⟩ => ⟨S2048x1, .i32⟩
  | .hbm, ⟨3, _⟩ => ⟨S32x512x1024, .f32⟩
  | .hbm, ⟨4, _⟩ => ⟨S512x1024, .f32⟩
  | .hbm, ⟨5, _⟩ => ⟨S2048x32, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x32, .f32⟩
  | .hbm, ⟨10, _⟩ => ⟨S2048x32, .f32⟩
  | .hbm, ⟨11, _⟩ => ⟨S2048x32, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x32, .f32⟩
  | .hbm, ⟨16, _⟩ => ⟨S2048x32, .f32⟩
  | .hbm, ⟨17, _⟩ => ⟨S2048x1024, .f32⟩
  | .hbm, ⟨18, _⟩ => ⟨S2048x32x1024, .f32⟩
  | .hbm, ⟨19, _⟩ => ⟨S32, .i32⟩
  | .hbm, ⟨20, _⟩ => ⟨S1x32, .i32⟩
  | .hbm, ⟨21, _⟩ => ⟨S2048x32, .i32⟩
  | .hbm, ⟨22, _⟩ => ⟨S2048x32, .i32⟩
  | .hbm, ⟨23, _⟩ => ⟨S2048x32, .i1⟩
  | .hbm, ⟨24, _⟩ => ⟨S2048x32x1, .i1⟩
  | .hbm, ⟨25, _⟩ => ⟨S2048x32x1, .f32⟩
  | .hbm, ⟨26, _⟩ => ⟨S2048x32x1024, .f32⟩
  | .hbm, ⟨27, _⟩ => ⟨S2048x32x1024, .f32⟩
  | .hbm, ⟨28, _⟩ => ⟨S_, .f32⟩
  | .hbm, ⟨29, _⟩ => ⟨S_, .f32⟩
  | .hbm, ⟨30, _⟩ => ⟨S2048x32x1024, .i1⟩
  | .hbm, ⟨31, _⟩ => ⟨S2048x32x1024, .f32⟩
  | .hbm, ⟨32, _⟩ => ⟨S2048x32x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.Prog.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

/-! # The kernel as a list of events

The accumulator and the result are cut in twelve *lanes*: a group of columns `j` and a quarter `h` of
the rows of every 256-row chunk, `l = 4 j + h`. A lane talks over 7 copies of the reduce-scatter
(`k`) and 7 copies of the all-gather (`x`). -/

noncomputable section

namespace Cert.Moe

open Cert.KernelIdeal Cert.KernelIdeal.Gen
open Idealize.ShloMosaic Idealize.ShloMosaic.TcCoe Idealize.SL.Sem

/-! ## The tables of the schedule -/

/-- The column group of a lane. -/
def jj (l : Fin 12) : Fin 3 := ⟨l.val / 4, by omega⟩
/-- The quarter of a chunk's rows of a lane. -/
def hh (l : Fin 12) : ℕ := l.val % 4
/-- The columns of a lane: how many, and the first. -/
def wd (l : Fin 12) : ℕ := if l.val < 8 then 384 else 256
def cl (l : Fin 12) : ℕ := 384 * (l.val / 4)
/-- The stage of the reduce-scatter copy `k`. -/
def sgR : Fin 7 → Fin 3 := ![0, 0, 0, 0, 1, 1, 2]
/-- The stage of the all-gather copy `x`. -/
def sgA : Fin 7 → Fin 3 := ![0, 1, 1, 2, 2, 2, 2]
/-- The hypercube axis a column group goes along at a stage of the reduce-scatter. -/
def ordT : Fin 3 → Fin 3 → ℕ := ![![1, 2, 4], ![2, 4, 1], ![4, 1, 2]]
/-- The axes gone along up to a stage. -/
def keepT : Fin 3 → Fin 3 → ℕ := ![![1, 3, 7], ![2, 6, 7], ![4, 5, 7]]
/-- The free bits of the chunk the reduce-scatter copy `k` carries. -/
def tRT : Fin 3 → Fin 7 → ℕ := ![![0, 2, 4, 6, 0, 4, 0], ![0, 4, 1, 5, 0, 1, 0], ![0, 1, 2, 3, 0, 2, 0]]
/-- The bits by which the chunk of the all-gather copy `x` differs from the device's own. -/
def tAT : Fin 3 → Fin 7 → ℕ := ![![0, 0, 4, 0, 4, 2, 6], ![0, 0, 1, 0, 1, 4, 5], ![0, 0, 2, 0, 2, 1, 3]]
/-- The axis of the reduce-scatter copy `k`, of the all-gather copy `x`. -/
def mR (l : Fin 12) (k : Fin 7) : ℕ := ordT (jj l) (sgR k)
def mA (l : Fin 12) (x : Fin 7) : ℕ := ordT (jj l) (2 - sgA x)

/-! ## Offsets and partners, as the program computes them -/

abbrev bv (n : ℕ) : BitVec 32 := BitVec.ofNat 32 n

/-- The partner along an axis. -/
def prt (d : Dev nD) (m : ℕ) : Dev nD :=
  if m = 1 then ⟨k0_dev1 d, k0_dev1_lt d⟩ else if m = 2 then ⟨k0_dev2 d, k0_dev2_lt d⟩ else ⟨k0_dev3 d, k0_dev3_lt d⟩

/-- Where the rows the reduce-scatter copy `k` sends begin. -/
def offS (d : Dev nD) (l : Fin 12) (k : Fin 7) : Fin 2 → ℕ :=
  if l.val < 4 then k0_off1 d (bv (mR l k)) (bv (keepT (jj l) (sgR k))) (bv (tRT (jj l) k)) (bv (64 * hh l))
  else if l.val < 8 then k0_off2 d (bv (mR l k)) (bv (keepT (jj l) (sgR k))) (bv (tRT (jj l) k)) (bv (64 * hh l))
  else k0_off3 d (bv (mR l k)) (bv (keepT (jj l) (sgR k))) (bv (tRT (jj l) k)) (bv (64 * hh l))
/-- Where the rows the received copy `k` is added to begin. -/
def offR (d : Dev nD) (l : Fin 12) (k : Fin 7) : Fin 2 → ℕ :=
  if l.val < 4 then k0_off4 d (bv (keepT (jj l) (sgR k))) (bv (tRT (jj l) k)) (bv (64 * hh l))
  else if l.val < 8 then k0_off5 d (bv (keepT (jj l) (sgR k))) (bv (tRT (jj l) k)) (bv (64 * hh l))
  else k0_off6 d (bv (keepT (jj l) (sgR k))) (bv (tRT (jj l) k)) (bv (64 * hh l))
/-- Where the device's own rows begin. -/
def offB (d : Dev nD) (l : Fin 12) : Fin 2 → ℕ :=
  if l.val < 4 then k0_off8 d (bv (64 * hh l)) else if l.val < 8 then k0_off10 d (bv (64 * hh l))
  else k0_off12 d (bv (64 * hh l))
/-- Where the rows of the all-gather copy `x` begin. -/
def offA (d : Dev nD) (l : Fin 12) (x : Fin 7) : Fin 2 → ℕ :=
  if l.val < 4 then k0_off9 d (bv (tAT (jj l) x)) (bv (64 * hh l))
  else if l.val < 8 then k0_off11 d (bv (tAT (jj l) x)) (bv (64 * hh l))
  else k0_off13 d (bv (tAT (jj l) x)) (bv (64 * hh l))

/-! ## The same in closed form -/

/-- A device's place in the hypercube, and the device at a place: the same involution. -/
def lm (n : ℕ) : ℕ := (n &&& 4) ||| ((n &&& 3) ^^^ ((n &&& 3) >>> 1))
/-- Where the piece of a lane in chunk `q` begins. -/
def offP (l : Fin 12) (q : ℕ) : Fin 2 → ℕ := ![256 * q + 64 * hh l, cl l]
/-- The chunk of the reduce-scatter copy `k`: the one sent, the one it is added to. -/
def cS (d : Dev nD) (l : Fin 12) (k : Fin 7) : Fin 8 :=
  Fin.ofNat 8 (((lm d.val ^^^ mR l k) &&& keepT (jj l) (sgR k)) ||| tRT (jj l) k)
def cR (d : Dev nD) (l : Fin 12) (k : Fin 7) : Fin 8 :=
  Fin.ofNat 8 ((lm d.val &&& keepT (jj l) (sgR k)) ||| tRT (jj l) k)
/-- The device's own chunk. -/
def cB (d : Dev nD) : Fin 8 := Fin.ofNat 8 (lm d.val)
/-- The chunk of the all-gather copy `x`. -/
def cA (d : Dev nD) (l : Fin 12) (x : Fin 7) : Fin 8 := Fin.ofNat 8 (lm d.val ^^^ tAT (jj l) x)
/-- The partner along an axis. -/
def pr (d : Dev nD) (m : ℕ) : Dev nD := Fin.ofNat 8 (lm (lm d.val ^^^ m))

theorem offS_eq : ∀ (d : Dev nD) (l : Fin 12) (k : Fin 7), offS d l k = offP l (cS d l k) := by decide +kernel
theorem offR_eq : ∀ (d : Dev nD) (l : Fin 12) (k : Fin 7), offR d l k = offP l (cR d l k) := by decide +kernel
theorem offB_eq : ∀ (d : Dev nD) (l : Fin 12), offB d l = offP l (cB d) := by decide +kernel
theorem offA_eq : ∀ (d : Dev nD) (l : Fin 12) (x : Fin 7), offA d l x = offP l (cA d l x) := by decide +kernel
theorem prt_eq : ∀ (d : Dev nD) (m : Fin 3), prt d (2 ^ m.val) = pr d (2 ^ m.val) := by decide +kernel

/-! ## The side conditions of the copies, loads and stores -/

abbrev SW (l : Fin 12) : Shape := ⟨2, ![64, wd l]⟩
abbrev S11 (l : Fin 12) : Shape := ⟨4, ![1, 1, 64, wd l]⟩

theorem wd_pos (l : Fin 12) : 0 < (SW l).numel := by revert l; decide
theorem S11_pos (l : Fin 12) : 0 < (S11 l).numel := by revert l; decide
theorem sq_l : ∀ l : Fin 12, (S11 l).Squeezes (SW l) := by decide
theorem sc11 : ∀ l : Fin 12, (S11 l).ShapeCasts (SW l) := by decide
theorem scW : ∀ l : Fin 12, (SW l).ShapeCasts (SW l) := by decide
theorem inbP : ∀ (l : Fin 12) (q : Fin 8), ∀ a, offP l q a + (SW l).size a ≤ S2048x1024.size a := by decide +kernel
theorem packP : ∀ (l : Fin 12) (q : Fin 8),
    (Rect.unit (s := S2048x1024) (offP l q) (SW l).size (inbP l q)).PackedRows (EltTy.packing .bf16) := by decide +kernel
theorem wordsP : ∀ (l : Fin 12) (q : Fin 8),
    (Rect.unit (s := S2048x1024) (offP l q) (SW l).size (inbP l q)).WholeWords (EltTy.packing .bf16) := by decide +kernel
theorem inbSlot : ∀ (l : Fin 12) (k : Fin 7), ∀ a, (![l.val, k.val, 0, 0] : Fin 4 → ℕ) a + (S11 l).size a ≤ S12x7x64x384.size a := by decide +kernel
theorem wordsSlot : ∀ (l : Fin 12) (k : Fin 7),
    (Rect.unit (s := S12x7x64x384) ![l.val, k.val, 0, 0] (S11 l).size (inbSlot l k)).WholeWords (EltTy.packing .bf16) := by decide +kernel
theorem inbSem : ∀ (l : Fin 12) (k : Fin 7), ∀ a, (![l.val, k.val] : Fin 2 → ℕ) a + S1x1.size a ≤ S12x7.size a := by decide +kernel
theorem slSh : ∀ l : Fin 12, S256x1024.Slices ![64 * hh l, cl l] (SW l) := by decide

/-- Offsets of a piece of the accumulator or the result. -/
structure AtP (l : Fin 12) (o : Fin 2 → ℕ) : Prop where
  inb : ∀ a, o a + (SW l).size a ≤ S2048x1024.size a
  pack : (Rect.unit (s := S2048x1024) o (SW l).size inb).PackedRows (EltTy.packing .bf16)
  words : (Rect.unit (s := S2048x1024) o (SW l).size inb).WholeWords (EltTy.packing .bf16)

theorem atP (l : Fin 12) (q : Fin 8) : AtP l (offP l q) := ⟨inbP l q, packP l q, wordsP l q⟩
theorem atS (d : Dev nD) (l : Fin 12) (k : Fin 7) : AtP l (offS d l k) := offS_eq d l k ▸ atP l _
theorem atR (d : Dev nD) (l : Fin 12) (k : Fin 7) : AtP l (offR d l k) := offR_eq d l k ▸ atP l _
theorem atB (d : Dev nD) (l : Fin 12) : AtP l (offB d l) := offB_eq d l ▸ atP l _
theorem atA (d : Dev nD) (l : Fin 12) (x : Fin 7) : AtP l (offA d l x) := offA_eq d l x ▸ atP l _

/-! ## The memrefs -/

abbrev xM : Memref sig .tc .vmem S2048x512 .f32 := Memref.whole cc0_stg0_0
abbrev rwM : Memref sig .tc .vmem S512x32 .f32 := Memref.whole cc0_stg1_0
abbrev idM : Memref sig .tc .vmem S2048x1 .i32 := Memref.whole cc0_stg2_0
abbrev ewM : Memref sig .tc .vmem S4x512x1024 .f32 := Memref.whole cc0_stg3_0
abbrev swM : Memref sig .tc .vmem S512x1024 .f32 := Memref.whole cc0_stg4_0
abbrev outM : Memref sig .tc .vmem S2048x1024 .bf16 := Memref.whole cc0_stg5_0
abbrev accM : Memref sig .tc .vmem S2048x1024 .bf16 := Memref.whole cc0_scratch0
abbrev xwM : Memref sig .tc .vmem S4x2048x512 .bf16 := Memref.whole cc0_scratch1
abbrev rcM : Memref sig .tc .vmem S12x7x64x384 .bf16 := Memref.whole cc0_scratch2
abbrev rcH : rcM.IsWhole := Memref.isWhole_whole _
abbrev accH : accM.IsWhole := Memref.isWhole_whole _
abbrev outH : outM.IsWhole := Memref.isWhole_whole _

/-- A piece of the accumulator, of the result. -/
abbrev accP (l : Fin 12) {o : Fin 2 → ℕ} (h : AtP l o) : Memref sig .tc .vmem (SW l) .bf16 :=
  accM.slice (Rect.unit (s := S2048x1024) o (SW l).size h.inb) (fun _ => rfl)
abbrev outP (l : Fin 12) {o : Fin 2 → ℕ} (h : AtP l o) : Memref sig .tc .vmem (SW l) .bf16 :=
  outM.slice (Rect.unit (s := S2048x1024) o (SW l).size h.inb) (fun _ => rfl)
/-- The receive slot of the reduce-scatter copy `k`. -/
abbrev slR (l : Fin 12) (k : Fin 7) : Rect S12x7x64x384 := Rect.unit (s := S12x7x64x384) ![l.val, k.val, 0, 0] (S11 l).size (inbSlot l k)
abbrev slP (l : Fin 12) (k : Fin 7) : Memref sig .tc .vmem (SW l) .bf16 :=
  (rcM.slice (slR l k) (fun _ => rfl)).squeeze (SW l) (sq_l l)

/-- One cell of a table of semaphores. -/
abbrev cell (t : DmaSems sig S12x7) (l : Fin 12) (k : Fin 7) : DmaSem sig :=
  ((t.slice (Rect.unit (s := S12x7) ![l.val, k.val] S1x1.size (inbSem l k))).squeeze S_ squeezes_S1x1_S_).sem
/-- The cells of the reduce-scatter (sent, received) and of the all-gather (sent, received). -/
abbrev rsS (l : Fin 12) (k : Fin 7) : DmaSem sig := cell cc0_scratch3 l k
abbrev rsR (l : Fin 12) (k : Fin 7) : DmaSem sig := cell cc0_scratch4 l k
abbrev agS (l : Fin 12) (k : Fin 7) : DmaSem sig := cell cc0_scratch5 l k
abbrev agR (l : Fin 12) (k : Fin 7) : DmaSem sig := cell cc0_scratch6 l k
abbrev barS : Sem sig := (SemArray.scalar (sig.barrier 0 rfl) : Sems sig S_).sem

/-! ## The events -/

/-- One step of the talk: start a copy, wait for the sent or the received end of one, add a received
piece, stage the finished piece of a lane. -/
inductive Ev where
  | enqR (l : Fin 12) (k : Fin 7)
  | wsR (l : Fin 12) (k : Fin 7)
  | wrR (l : Fin 12) (k : Fin 7)
  | add (l : Fin 12) (k : Fin 7)
  | stage (l : Fin 12)
  | enqA (l : Fin 12) (x : Fin 7)
  | wsA (l : Fin 12) (x : Fin 7)
  | wrA (l : Fin 12) (x : Fin 7)

variable {F : FTy → Type} [FloatOps F]

local notation "𝔼" => TpuEff nD τ sig (Elt F) Λ₀ Proc.tc

/-- A received piece added to what is there. -/
def addV {l : Fin 12} (u : FVec F (SW l) .bf16) (v : FVec F (S11 l) .bf16) : FVec F (SW l) .bf16 :=
  shapeCast (SW l) (addf u (shapeCast (SW l) v (sc11 l))) (scW l)

/-- The finished piece: the sum of all the devices, and the lane's part of the shared rows. -/
def stV {l : Fin 12} (sh : FVec F S256x1024 .f32) (u : FVec F (SW l) .bf16) : FVec F (SW l) .bf16 :=
  truncf .bf16 (addf (extf .f32 u bitsLt_bf16_f32) (extractStridedSlice (SW l) ![64 * hh l, cl l] sh (slSh l))) bitsLt_bf16_f32

/-- The program of an event, before the program `K`. -/
def Ev.run (d : Dev nD) (sh : FVec F S256x1024 .f32) : Ev → Prog 𝔼 PUnit → Prog 𝔼 PUnit
  | .enqR l k, K => .op (.enqueueDma (accP l (atS d l k)) (.remote (Dev.tc (prt d (mR l k))) (slP l k) (.dma (rsS l k)))
      (.dma (rsR l k)) (accH.wordExact_slice rfl _ (atS d l k).words) ((rcH.wordExact_slice rfl _ (wordsSlot l k)).reshape _ _)
      ⟨⟨rfl, Or.inl rfl⟩, trivial⟩) fun _ => K
  | .wsR l k, K => .op (.waitDma2 (rsS l k) (slP l k) (accP l (atS d l k))
      ((rcH.wordExact_slice rfl _ (wordsSlot l k)).reshape _ _) (accH.wordExact_slice rfl _ (atS d l k).words)) fun _ => K
  | .wrR l k, K => .op (.waitDma2 (rsR l k) (accP l (atS d l k)) (slP l k)
      (accH.wordExact_slice rfl _ (atS d l k).words) ((rcH.wordExact_slice rfl _ (wordsSlot l k)).reshape _ _)) fun _ => K
  | .add l k, K =>
      .op (.load accM (Rect.unit (s := S2048x1024) (offR d l k) (SW l).size (atR d l k).inb).toLoadRect (View.loadsAt_vmem (wd_pos l)))
        fun (u : Vec F (SW l) .bf16) => .op (.load rcM (slR l k).toLoadRect (View.loadsAt_vmem (S11_pos l)))
        fun (v : Vec F (S11 l) .bf16) => .op (.load accM (Rect.unit (s := S2048x1024) (offR d l k) (SW l).size (atR d l k).inb).toLoadRect (View.loadsAt_vmem (wd_pos l)))
        fun _ => .op (.store accM (Rect.unit (s := S2048x1024) (offR d l k) (SW l).size (atR d l k).inb) (addV u v) Finset.univ
          (View.stores_vmem (wd_pos l) (accH.storeExact_slice rfl _ (atR d l k).pack) (fun _ => rfl)) (.inl rfl)) fun _ => K
  | .stage l, K =>
      .op (.load accM (Rect.unit (s := S2048x1024) (offB d l) (SW l).size (atB d l).inb).toLoadRect (View.loadsAt_vmem (wd_pos l)))
        fun (u : Vec F (SW l) .bf16) => .op (.load outM (Rect.unit (s := S2048x1024) (offB d l) (SW l).size (atB d l).inb).toLoadRect (View.loadsAt_vmem (wd_pos l)))
        fun _ => .op (.store outM (Rect.unit (s := S2048x1024) (offB d l) (SW l).size (atB d l).inb) (stV sh u) Finset.univ
          (View.stores_vmem (wd_pos l) (outH.storeExact_slice rfl _ (atB d l).pack) (fun _ => rfl)) (.inl rfl)) fun _ => K
  | .enqA l x, K => .op (.enqueueDma (outP l (atA d l x)) (.remote (Dev.tc (prt d (mA l x))) (outP l (atA d l x)) (.dma (agS l x)))
      (.dma (agR l x)) (outH.wordExact_slice rfl _ (atA d l x).words) (outH.wordExact_slice rfl _ (atA d l x).words)
      ⟨⟨rfl, Or.inl rfl⟩, trivial⟩) fun _ => K
  | .wsA l x, K => .op (.waitDma2 (agS l x) (outP l (atA d l x)) (outP l (atA d l x))
      (outH.wordExact_slice rfl _ (atA d l x).words) (outH.wordExact_slice rfl _ (atA d l x).words)) fun _ => K
  | .wrA l x, K => .op (.waitDma2 (agR l x) (outP l (atA d l x)) (outP l (atA d l x))
      (outH.wordExact_slice rfl _ (atA d l x).words) (outH.wordExact_slice rfl _ (atA d l x).words)) fun _ => K

/-- The program of a list of events, before the program `K`. -/
def runs (d : Dev nD) (sh : FVec F S256x1024 .f32) : List Ev → Prog 𝔼 PUnit → Prog 𝔼 PUnit
  | [], K => K
  | e :: es, K => e.run d sh (runs d sh es K)

/-! ## The lists of the kernel -/

/-- The lanes in the order of the passes: rows outermost. -/
def lanes : List (Fin 12) := [0, 4, 8, 1, 5, 9, 2, 6, 10, 3, 7, 11]
/-- The copies of each stage. -/
def ksR : Fin 3 → List (Fin 7) := ![[0, 1, 2, 3], [4, 5], [6]]
def xsA : Fin 3 → List (Fin 7) := ![[0], [1, 2], [3, 4, 5, 6]]
/-- Send a stage, finish a stage. -/
def sndR (l : Fin 12) (s : Fin 3) : List Ev := (ksR s).map (.enqR l)
def sndA (l : Fin 12) (s : Fin 3) : List Ev := (xsA s).map (.enqA l)
def finR (l : Fin 12) (s : Fin 3) : List Ev := (ksR s).flatMap fun k => [.wsR l k, .wrR l k, .add l k]
def finA (l : Fin 12) (s : Fin 3) : List Ev := (xsA s).flatMap fun x => [.wsA l x, .wrA l x]

def seg0 : List Ev := [0, 1, 2, 3].flatMap (sndR · 0)
def seg1 : List Ev := [4, 5, 6, 7].flatMap (sndR · 0)
def seg2 : List Ev := [8, 9, 10, 11].flatMap (sndR · 0) ++ lanes.flatMap fun l => finR l 0 ++ sndR l 1
def seg3 : List Ev := lanes.flatMap (fun l => finR l 1 ++ sndR l 2) ++ lanes.flatMap (fun l => finR l 2 ++ .stage l :: sndA l 0)
  ++ lanes.flatMap (fun l => finA l 0 ++ sndA l 1) ++ lanes.flatMap (fun l => finA l 1 ++ sndA l 2) ++ lanes.flatMap (finA · 2)

/-- The device's own rows of `x`, and the whole of a buffer, as load rectangles. -/
abbrev rX : Rect S2048x512 := Rect.unit (s := S2048x512) ![0, 0] S2048x512.size inb_S2048x512_S2048x512_0_0
abbrev rRW : Rect S512x32 := Rect.unit (s := S512x32) ![0, 0] S512x32.size inb_S512x32_S512x32_0_0
abbrev rId : Rect S2048x1 := Rect.unit (s := S2048x1) ![0, 0] S2048x1.size inb_S2048x1_S2048x1_0_0
abbrev rSW : Rect S512x1024 := Rect.unit (s := S512x1024) ![0, 0] S512x1024.size inb_S512x1024_S512x1024_0_0
abbrev rXB (d : Dev nD) : Rect S2048x512 := Rect.unit (s := S2048x512) (k0_off7 d) S256x512.size (k0_off7_inb d)
theorem inbXw : ∀ k : Fin 4, ∀ a, (![k.val, 0, 0] : Fin 3 → ℕ) a + S1x2048x512.size a ≤ S4x2048x512.size a := by decide
theorem inbEw : ∀ k : Fin 4, ∀ a, (![k.val, 0, 0] : Fin 3 → ℕ) a + S1x512x1024.size a ≤ S4x512x1024.size a := by decide
abbrev rXw (k : Fin 4) : Rect S4x2048x512 := Rect.unit (s := S4x2048x512) ![k.val, 0, 0] S1x2048x512.size (inbXw k)
abbrev rEw (k : Fin 4) : Rect S4x512x1024 := Rect.unit (s := S4x512x1024) ![k.val, 0, 0] S1x512x1024.size (inbEw k)
abbrev rC0 : Rect S2048x1024 := Rect.unit (s := S2048x1024) ![0, 0] S2048x384.size inb_S2048x1024_S2048x384_0_0
abbrev rC1 : Rect S2048x1024 := Rect.unit (s := S2048x1024) ![0, 384] S2048x384.size inb_S2048x1024_S2048x384_0_384
abbrev rC2 : Rect S2048x1024 := Rect.unit (s := S2048x1024) ![0, 768] S2048x256.size inb_S2048x1024_S2048x256_0_768

/-- Load the four gated copies of `x` and the four experts, in pairs. -/
def loads8 (K : (Fin 4 → Vec F S1x2048x512 .bf16) → (Fin 4 → Vec F S1x512x1024 .f32) → Prog 𝔼 PUnit) : Prog 𝔼 PUnit :=
  let lx (k : Fin 4) (K : Vec F S1x2048x512 .bf16 → Prog 𝔼 PUnit) : Prog 𝔼 PUnit :=
    .op (.load xwM (rXw k).toLoadRect (View.loadsAt_vmem h_S1x2048x512)) K
  let le (k : Fin 4) (K : Vec F S1x512x1024 .f32 → Prog 𝔼 PUnit) : Prog 𝔼 PUnit :=
    .op (.load ewM (rEw k).toLoadRect (View.loadsAt_vmem h_S1x512x1024)) K
  lx 0 fun a0 => le 0 fun b0 => lx 1 fun a1 => le 1 fun b1 => lx 2 fun a2 => le 2 fun b2 => lx 3 fun a3 => le 3 fun b3 =>
    K ![a0, a1, a2, a3] ![b0, b1, b2, b3]

/-- What the three column groups of the accumulator are filled with. -/
def third0 (a : Fin 4 → FVec F S1x2048x512 .bf16) (b : Fin 4 → FVec F S1x512x1024 .f32) : FVec F S2048x384 .bf16 :=
  k0_pay13 (k0_pay11 (a 0) (b 0) (a 1) (b 1) (a 2) (b 2)) (k0_pay12 (a 3)) (b 3)
def third1 (a : Fin 4 → FVec F S1x2048x512 .bf16) (b : Fin 4 → FVec F S1x512x1024 .f32) : FVec F S2048x384 .bf16 :=
  k0_pay16 (k0_pay14 (a 0) (b 0) (a 1) (b 1)) (k0_pay15 (a 2)) (b 2) (a 3) (b 3)
def third2 (a : Fin 4 → FVec F S1x2048x512 .bf16) (b : Fin 4 → FVec F S1x512x1024 .f32) : FVec F S2048x256 .bf16 :=
  k0_pay18 (k0_pay17 (a 0) (b 0)) (a 1) (b 1) (a 2) (b 2) (a 3) (b 3)

/-- The device's number, as the kernel reads it. -/
def wordD (d : Dev nD) : BitVec 32 := Scalar.remsi (Scalar.divsi (Dev.word d) 1#32) 8#32

/-- What the four gated copies of `x` are. -/
def gated (d : Dev nD) (x : FVec F S2048x512 .f32) (rw : FVec F S512x32 .f32) (ix : IVec S2048x1 32) :
    Fin 4 → FVec F S1x2048x512 .bf16 :=
  ![k0_pay6 (k0_pay4 x) (k0_pay5 d x rw ix),
    k0_pay7 (wordD d) (k0_pay2 (F := F) ix) (k0_pay3 x rw ix) (k0_pay4 x),
    k0_pay8 (wordD d) (k0_pay2 (F := F) ix) (k0_pay3 x rw ix) (k0_pay4 x),
    k0_pay10 (k0_pay9 (wordD d) (k0_pay2 (F := F) ix) (k0_pay3 x rw ix) (k0_pay4 x))]

theorem packXw : ∀ k : Fin 4, (rXw k).PackedRows (EltTy.packing .bf16) := by decide

/-- Load and store one gated copy. -/
def stXw (k : Fin 4) (w : FVec F S1x2048x512 .bf16) (K : Prog 𝔼 PUnit) : Prog 𝔼 PUnit :=
  .op (.load xwM (rXw k).toLoadRect (View.loadsAt_vmem h_S1x2048x512)) fun _ =>
  .op (.store xwM (rXw k) w Finset.univ (View.stores_vmem h_S1x2048x512
    ((Memref.isWhole_whole cc0_scratch1).storeExact_slice rfl _ (packXw k)) (fun _ => rfl)) (.inl rfl)) fun _ => K

theorem zpos : ∀ a, 0 < S2048x512.size a := by decide

/-- The kernel: the gated copies, the greeting of the partners, the three column groups each followed by
its first sends, and the passes. -/
def body : Prog 𝔼 PUnit :=
  .op .deviceId fun d =>
  .op (.load xM rX.toLoadRect (View.loadsAt_vmem h_S2048x512)) fun (x : Vec F S2048x512 .f32) =>
  .op (.load rwM rRW.toLoadRect (View.loadsAt_vmem h_S512x32)) fun (rw : Vec F S512x32 .f32) =>
  .op (.load idM rId.toLoadRect (View.loadsAt_vmem h_S2048x1)) fun (ix : Vec F S2048x1 .i32) =>
  stXw 0 (gated d x rw ix 0) <| stXw 1 (gated d x rw ix 1) <| stXw 2 (gated d x rw ix 2) <| stXw 3 (gated d x rw ix 3) <|
  .op (.semSignal (Dev.tc (prt d 1)) barS (1#32 : BitVec 32).toInt) fun _ =>
  .op (.semSignal (Dev.tc (prt d 2)) barS (1#32 : BitVec 32).toInt) fun _ =>
  .op (.semSignal (Dev.tc (prt d 4)) barS (1#32 : BitVec 32).toInt) fun _ =>
  .op (.semWait barS (3#32 : BitVec 32).toInt) fun _ =>
  loads8 fun a b =>
  .op (.load accM rC0.toLoadRect (View.loadsAt_vmem h_S2048x384)) fun _ =>
  .op (.store accM rC0 (third0 a b) Finset.univ (View.stores_vmem h_S2048x384
    (accH.storeExact_slice rfl _ packedbf16_S2048x1024_S2048x384_0_0) (fun _ => rfl)) (.inl rfl)) fun _ =>
  runs d (fun _ => x (fun _ => ⟨0, zpos _⟩)) seg0 <| loads8 fun a b =>
  .op (.load accM rC1.toLoadRect (View.loadsAt_vmem h_S2048x384)) fun _ =>
  .op (.store accM rC1 (third1 a b) Finset.univ (View.stores_vmem h_S2048x384
    (accH.storeExact_slice rfl _ packedbf16_S2048x1024_S2048x384_0_384) (fun _ => rfl)) (.inl rfl)) fun _ =>
  runs d (fun _ => x (fun _ => ⟨0, zpos _⟩)) seg1 <| loads8 fun a b =>
  .op (.load accM rC2.toLoadRect (View.loadsAt_vmem h_S2048x256)) fun _ =>
  .op (.store accM rC2 (third2 a b) Finset.univ (View.stores_vmem h_S2048x256
    (accH.storeExact_slice rfl _ packedbf16_S2048x1024_S2048x256_0_768) (fun _ => rfl)) (.inl rfl)) fun _ =>
  runs d (fun _ => x (fun _ => ⟨0, zpos _⟩)) seg2 <|
  .op (.load xM (rXB d).toLoadRect (View.loadsAt_vmem h_S256x512)) fun (xb : Vec F S256x512 .f32) =>
  .op (.load swM rSW.toLoadRect (View.loadsAt_vmem h_S512x1024)) fun (sw : Vec F S512x1024 .f32) =>
  runs d (k0_pay74 xb sw) seg3 (.ret ⟨⟩)

end Cert.Moe

end
-- ==== Proof.Data.lean ====
module

public import proofs.«01_k».proof.Proof.Prog

@[expose] public section

/-! # What the buffers hold

The contents of the accumulator after each stage, of the receive slots, and of the result, as whole
buffers, from the five staged inputs of every device. -/

noncomputable section

namespace Cert.Moe

open Cert.KernelIdeal Cert.KernelIdeal.Gen
open Idealize.ShloMosaic Idealize.ShloMosaic.TcCoe Idealize.SL.Sem

variable (F : FTy → Type) [FloatOps F]

/-- The five inputs each device has staged. -/
structure Ins where
  x : Dev nD → Vec F S2048x512 .f32
  rw : Dev nD → Vec F S512x32 .f32
  ix : Dev nD → Vec F S2048x1 .i32
  ew : Dev nD → Vec F S4x512x1024 .f32
  sw : Dev nD → Vec F S512x1024 .f32

variable {F} (I : Ins F)

/-- Device `d`'s four gated copies of `x`, as one buffer. -/
def xwBuf (d : Dev nD) : Vec F S4x2048x512 .bf16 :=
  fun i => gated d (I.x d) (I.rw d) (I.ix d) (i 0) (fun | 0 => (0 : Fin 1) | 1 => i 1 | 2 => i 2)

/-- What device `d` loads of the gated copies and of the experts. -/
def ldX (d : Dev nD) (k : Fin 4) : Vec F S1x2048x512 .bf16 := gated d (I.x d) (I.rw d) (I.ix d) k
def ldE (d : Dev nD) (k : Fin 4) : Vec F S1x512x1024 .f32 := ewM.view.readAt (Elt F) (rEw k).toLoadRect (I.ew d)

/-- An index of a buffer of 2048 rows and 1024 columns. -/
def ix2 (r q : ℕ) : S2048x1024.Idx := fun | 0 => Fin.ofNat 2048 r | 1 => Fin.ofNat 1024 q

/-- The column group of an index. -/
def cj (i : S2048x1024.Idx) : Fin 3 := Fin.ofNat 3 ((i 1).val / 384)

/-- An index of a column group's block, within it. -/
def ixC (n : ℕ) [NeZero n] (c0 : ℕ) (i : S2048x1024.Idx) : (⟨2, ![2048, n]⟩ : Shape).Idx :=
  fun | 0 => i 0 | 1 => (Fin.ofNat n ((i 1).val - c0) : Fin n)

/-- What device `d` fills the accumulator with. -/
def acc0 (d : Dev nD) : Vec F S2048x1024 .bf16 := fun i =>
  if cj i = 0 then third0 (ldX I d) (ldE I d) (ixC 384 0 i)
  else if cj i = 1 then third1 (ldX I d) (ldE I d) (ixC 384 384 i)
  else third2 (ldX I d) (ldE I d) (ixC 256 768 i)

/-- The accumulator's contents after `s` stages of the reduce-scatter, where they have taken place. -/
def accV : ℕ → Dev nD → Vec F S2048x1024 .bf16
  | 0, d => acc0 I d
  | s + 1, d => addf (accV s d) fun i => accV s (pr d (ordT (cj i) (Fin.ofNat 3 s))) i

/-- What the receive slots hold once filled. -/
def recV (d : Dev nD) : Vec F S12x7x64x384 .bf16 := fun i =>
  accV I (sgR (i 1)).val (pr d (mR (i 0) (i 1)))
    (ix2 (256 * (cR d (i 0) (i 1)).val + 64 * hh (i 0) + (i 2).val) (cl (i 0) + (i 3).val))

/-- The shared rows of a device's own chunk. -/
def shV (d : Dev nD) : FVec F S256x1024 .f32 :=
  k0_pay74 (xM.view.readAt (Elt F) (rXB d).toLoadRect (I.x d)) (swM.view.readAt (Elt F) rSW.toLoadRect (I.sw d))

/-- The device whose own chunk a row is in. -/
def ownD (i : S2048x1024.Idx) : Dev nD := Fin.ofNat 8 (lm ((i 0).val / 256))

/-- An index within its chunk. -/
def ixR (i : S2048x1024.Idx) : S256x1024.Idx := fun | 0 => (Fin.ofNat 256 (i 0).val : Fin 256) | 1 => i 1

/-- The result. -/
def outV : Vec F S2048x1024 .bf16 :=
  truncf .bf16 (addf (extf .f32 (fun i => accV I 3 (ownD i) i) bitsLt_bf16_f32) fun i => shV I (ownD i) (ixR i)) bitsLt_bf16_f32

end Cert.Moe

end
-- ==== Proof.Talk.lean ====
module

public import proofs.«01_k».proof.Proof.Data
public import Idealize.ShloMosaic.Lib.Pipeline.Launch
public import Idealize.ShloMosaic.Lib.Pipeline.Kit
public import Idealize.ShloMosaic.Lib.Tactic

@[expose] public section

/-! # The protocol between the devices

Each device has one barrier cell and, for every copy of every lane, four cells: the reduce-scatter's
sent and received ends, and the all-gather's. Every cell serves one round. -/

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the talk's, whose duties are the three axes -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The four tables of copies: reduce-scatter sent and received, all-gather sent and received. -/
def tab : Fin 4 → DmaSems sig S12x7 := ![cc0_scratch3, cc0_scratch4, cc0_scratch5, cc0_scratch6]

/-- The cells of a device: the barrier, and one per table, lane and copy. -/
abbrev CK : Type := Option (Fin 4 × Fin 12 × Fin 7)

/-- The semaphore of a cell. -/
def locK : CK → SemLoc sig
  | none => .reg barS
  | some (t, l, k) => .dma (cell (tab t) l k)

/-- The cell of a device. -/
abbrev kc (c : Dev nD) (y : CK) : GSem nD τ sig := ((c : Thread nD τ), locK y)

/-- Which cell a semaphore is. -/
def dec : SemLoc sig → Option CK
  | .reg r => if r = barS then some none else none
  | .dma q => if 6 ≤ q.val then
      some (some (Fin.ofNat 4 ((q.val - 6) / 84), Fin.ofNat 12 ((q.val - 6) % 84 / 7), Fin.ofNat 7 ((q.val - 6) % 7))) else none

theorem dec_dma : ∀ (t : Fin 4) (l : Fin 12) (k : Fin 7),
    dec (.dma (cell (tab t) l k)) = some (some (t, l, k)) := by decide +kernel

theorem dec_loc (y : CK) : dec (locK y) = some y := by
  rcases y with _ | ⟨t, l, k⟩
  · show dec (.reg barS) = _
    unfold dec
    exact if_pos rfl
  · exact dec_dma t l k

theorem loc_inj : Function.Injective locK := fun y y' h =>
  Option.some.inj ((dec_loc y).symm.trans ((congrArg dec h).trans (dec_loc y')))

/-- The bytes of a copy of a lane. -/
def amt (l : Fin 12) : ℕ := (slP l 0).view.dmaCredit
theorem amt_pos (l : Fin 12) : 0 < amt l := View.dmaCredit_pos _ (wd_pos l)

/-! ## Points-to of the pieces -/

/-- A piece of device `c`'s accumulator, holding what the buffer `f` holds there; -/
def accPt (c : Dev nD) (l : Fin 12) (q : Fin 8) (f : Vec F S2048x1024 .bf16) : sProp 𝕄 :=
  (accP l (atP l q)).view.loc (c : Thread nD τ) ↦[(accP l (atP l q)).view.set]{fullShare} f
/-- one of its result; -/
def outPt (c : Dev nD) (l : Fin 12) (q : Fin 8) (f : Vec F S2048x1024 .bf16) : sProp 𝕄 :=
  (outP l (atP l q)).view.loc (c : Thread nD τ) ↦[(outP l (atP l q)).view.set]{fullShare} f
/-- one of its receive slots. -/
def slotPt (c : Dev nD) (l : Fin 12) (k : Fin 7) (f : Vec F S12x7x64x384 .bf16) : sProp 𝕄 :=
  (slP l k).view.loc (c : Thread nD τ) ↦[(slP l k).view.set]{fullShare} f

omit [FloatOps F] in
instance accPt_storable (c : Dev nD) (l q) (f) : BI.Storable (upEmb : UEmb _ 𝕄) (accPt (F := F) c l q f) := by
  unfold accPt; infer_instance
omit [FloatOps F] in
instance outPt_storable (c : Dev nD) (l q) (f) : BI.Storable (upEmb : UEmb _ 𝕄) (outPt (F := F) c l q f) := by
  unfold outPt; infer_instance
omit [FloatOps F] in
instance slotPt_storable (c : Dev nD) (l k) (f) : BI.Storable (upEmb : UEmb _ 𝕄) (slotPt (F := F) c l k f) := by
  unfold slotPt; infer_instance

/-! ## The schedule -/

variable (I : Ins F)

/-- The axis of number `d`. -/
abbrev ax (d : Fin 3) : ℕ := 2 ^ d.val

/-- What the partner along axis `d` hands over with its greeting: of each lane, the slots the device sends to along
that axis and the pieces of the result it gathers along it, whatever they hold. -/
def barPay (c : Dev nD) (d : Fin 3) : sProp 𝕄 :=
  bigSep (Finset.univ : Finset (Fin 12 × Fin 7)) fun p =>
    iprop((if mR p.1 p.2 = ax d then ∃ f, slotPt (pr c (ax d)) p.1 p.2 f else emp)
      ∗ (if mA p.1 p.2 = ax d then ∃ f, outPt (pr c (ax d)) p.1 (cA c p.1 p.2) f else emp))

/-- What lands with the one duty of a cell of device `c`. -/
def pay (c : Dev nD) : CK → Fin 3 → sProp 𝕄
  | none, d => barPay c d
  | some (0, l, k), _ => accPt c l (cS c l k) (accV I (sgR k).val c)
  | some (1, l, k), _ => slotPt c l k (recV I c)
  | some (2, l, x), _ => outPt c l (cA c l x) (outV I)
  | some (3, l, x), _ => outPt c l (cA (pr c (mA l x)) l x) (outV I)

instance barPay_storable (c : Dev nD) (d : Fin 3) : BI.Storable (upEmb : UEmb _ 𝕄) (barPay (F := F) c d) := by
  have h (p : Fin 12 × Fin 7) : BI.Storable (upEmb : UEmb _ 𝕄)
      iprop((if mR p.1 p.2 = ax d then ∃ f, slotPt (F := F) (pr c (ax d)) p.1 p.2 f else emp)
      ∗ (if mA p.1 p.2 = ax d then ∃ f, outPt (F := F) (pr c (ax d)) p.1 (cA c p.1 p.2) f else emp)) := by
    split <;> split <;> infer_instance
  unfold barPay
  infer_instance

instance pay_storable (c : Dev nD) (y : CK) (d : Fin 3) : BI.Storable (upEmb : UEmb _ 𝕄) (pay I c y d) := by
  rcases y with _ | ⟨t, l, k⟩
  · show BI.Storable _ (barPay c d)
    infer_instance
  · fin_cases t <;> (dsimp only [pay]; infer_instance)

/-- The duties of a cell. -/
def dutK : CK → Finset (Fin 3)
  | none => Finset.univ
  | some _ => {0}
/-- What one duty of a cell adds to it. -/
def amtK : CK → ℕ
  | none => 1
  | some (_, l, _) => amt l
/-- How high a cell stands: waits go up. -/
def levK : CK → ℕ
  | none => 1
  | some (1, _, k) => 2 + (sgR k).val
  | some (3, _, x) => 5 + (sgA x).val
  | _ => 0

theorem amtK_pos (y : CK) : 0 < amtK y := by
  rcases y with _ | ⟨t, l, k⟩
  · exact Nat.one_pos
  · exact amt_pos l

/-- The talk's schedule: one round for every cell. -/
def Rd : Rounds.Schedule (GSem nD τ sig) (Fin 3) 𝕄 where
  duties g r := if r = 0 ∧ g.1.2 = .tc then (dec g.2).elim ∅ dutK else ∅
  unitless _ := False
  amount g _ _ := (dec g.2).elim 1 amtK
  payload g _ d := (dec g.2).elim iprop(emp) fun y => pay I g.1.1 y d
  amount_pos g _ _ _ := by
    cases dec g.2 with
    | none => exact Nat.one_pos
    | some y => exact amtK_pos y

instance Rd_payload_storable (g : GSem nD τ sig) (r : ℕ) (d : Fin 3) :
    BI.Storable (upEmb : UEmb _ 𝕄) ((Rd I).payload g r d) := by
  show BI.Storable upEmb ((dec g.2).elim iprop(emp) fun y => pay I g.1.1 y d)
  cases dec g.2 with
  | none => dsimp only [Option.elim]; infer_instance
  | some y => dsimp only [Option.elim]; infer_instance

section Sched
variable (c : Dev nD) (y : CK)

theorem duties_eq : (Rd I).duties (kc c y) 0 = dutK y := by
  dsimp only [Rd]; rw [if_pos ⟨rfl, rfl⟩, dec_loc]; rfl
theorem duties_later (g : GSem nD τ sig) : ∀ r, 1 ≤ r → (Rd I).duties g r = ∅ :=
  fun r hr => by dsimp only [Rd]; rw [if_neg fun h => by omega]
theorem amount_eq (d : Fin 3) : (Rd I).amount (kc c y) 0 d = amtK y := by
  dsimp only [Rd]; rw [dec_loc]; rfl
theorem payload_eq (d : Fin 3) : (Rd I).payload (kc c y) 0 d = pay I c y d := by
  dsimp only [Rd]; rw [dec_loc]; rfl
theorem expect_bar : (Rd I).expect (kc c none) 0 = 3 := by
  unfold Schedule.expect Schedule.amountOf
  rw [duties_eq, Finset.sum_congr rfl fun d _ => amount_eq I c none d]
  rfl
theorem expect_dma (t : Fin 4) (l : Fin 12) (k : Fin 7) : (Rd I).expect (kc c (some (t, l, k))) 0 = amt l := by
  unfold Schedule.expect Schedule.amountOf
  rw [duties_eq, dutK, Finset.sum_singleton, amount_eq]
  rfl
theorem rest_dma (t : Fin 4) (l : Fin 12) (k : Fin 7) :
    bigSep ((Rd I).duties (kc c (some (t, l, k))) 0 \ ∅) (fun d => (Rd I).payload (kc c (some (t, l, k))) 0 d)
      = pay I c (some (t, l, k)) 0 := by
  rw [Finset.sdiff_empty, duties_eq, dutK, bigSep_singleton, payload_eq]
theorem rest_bar :
    bigSep ((Rd I).duties (kc c none) 0 \ ∅) (fun d => (Rd I).payload (kc c none) 0 d)
      = iprop(barPay c 0 ∗ barPay c 1 ∗ barPay c 2) := by
  rw [Finset.sdiff_empty, duties_eq, dutK, bigSep_univ_eq_bigSepL [0, 1, 2] (by decide) (by decide), bigSepL_cons_cons,
    bigSepL_cons_cons, bigSepL_singleton, payload_eq, payload_eq, payload_eq]
  rfl

end Sched

/-! ## The levels -/

def L (g : GSem nD τ sig) : Finset Unit := if g.1.2 = .tc then {()} else ∅
def lv (g : GSem nD τ sig) (_ : Unit) : ℕ := (dec g.2).elim 0 levK

theorem L_of_ne (g : GSem nD τ sig) (h : g.1.2 ≠ .tc) : L g = ∅ := if_neg h
theorem L_tc (c : Dev nD) (sm : SemLoc sig) : L ((c : Thread nD τ), sm) = {()} := if_pos rfl
theorem lv_kc (c : Dev nD) (y : CK) (u : Unit) : lv (kc c y) u = levK y := by unfold lv; rw [dec_loc]; rfl

/-- A tally that owes only cells of level above `n`. -/
def Above (n : ℕ) (O : CellTallies nD τ sig Unit) : Prop :=
  ∀ g u, 0 < O g u → ∃ (c : Dev nD) (y : CK), g = kc c y ∧ n < levK y

omit [FloatOps F] in
/-- A device may wait at a cell while it owes only cells above it. -/
theorem mayWait (c : Dev nD) (sm : SemLoc sig) (n : ℕ) (hn : ∀ u, lv ((c : Thread nD τ), sm) u ≤ n) (O : CellTallies nD τ sig Unit)
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', y, rfl, -⟩ := hO g u hg; rw [L_tc]; exact Finset.mem_singleton_self _)
    (fun p hp => by rw [Finset.mem_singleton.mp hp]; exact hn _)
    (fun g u hg => by obtain ⟨c', y, rfl, h⟩ := hO g u hg; rw [lv_kc]; exact h)

end Cert.Moe

end
-- ==== Proof.Reads.lean ====
module

public import proofs.«01_k».proof.Proof.Talk

@[expose] public section

/-! # The pieces, element by element

What a piece of the accumulator, of the result or of the receive slots reads of a whole buffer, and the
three identities between contents that the steps of the talk rest on. -/

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The element of a piece at `x`. -/
def ixP (l : Fin 12) (q : ℕ) (x : (SW l).Idx) : S2048x1024.Idx :=
  ix2 (256 * q + 64 * hh l + (x 0).val) (cl l + (x 1).val)

theorem rows_lt (l : Fin 12) (q : Fin 8) (x : (SW l).Idx) : 256 * q.val + 64 * hh l + (x 0).val < 2048 := by
  have h : (x 0).val < 64 := (x 0).isLt
  have := q.isLt; have : hh l < 4 := Nat.mod_lt _ (by decide)
  omega
theorem cols_lt (l : Fin 12) (x : (SW l).Idx) : cl l + (x 1).val < 1024 := by
  have h : (x 1).val < wd l := (x 1).isLt
  unfold wd at h; unfold cl
  have := l.isLt
  split at h <;> omega

theorem emb_eq (l : Fin 12) (q : Fin 8) (x : (SW l).Idx) :
    (Rect.unit (s := S2048x1024) (offP l q) (SW l).size (inbP l q)).emb x = ixP l q x := by
  funext a
  refine Fin.ext ?_
  rw [Rect.emb_apply]
  fin_cases a
  · show 256 * q.val + 64 * hh l + 1 * (x 0).val = (256 * q.val + 64 * hh l + (x 0).val) % 2048
    rw [Nat.mod_eq_of_lt (rows_lt l q x), Nat.one_mul]
  · show cl l + 1 * (x 1).val = (cl l + (x 1).val) % 1024
    rw [Nat.mod_eq_of_lt (cols_lt l x), Nat.one_mul]

theorem read_accP (l : Fin 12) (q : Fin 8) (f : Vec F S2048x1024 .bf16) (x : (SW l).Idx) :
    (accP l (atP l q)).view.read (Elt F) f x = f (ixP l q x) :=
  congrArg f (emb_eq l q x)
theorem read_outP (l : Fin 12) (q : Fin 8) (f : Vec F S2048x1024 .bf16) (x : (SW l).Idx) :
    (outP l (atP l q)).view.read (Elt F) f x = f (ixP l q x) :=
  congrArg f (emb_eq l q x)

/-- The element of a slot at `x`. -/
def ixS (l : Fin 12) (k : Fin 7) (r q : ℕ) : S12x7x64x384.Idx :=
  fun | 0 => l | 1 => k | 2 => (Fin.ofNat 64 r : Fin 64) | 3 => (Fin.ofNat 384 q : Fin 384)

theorem slot_emb (l : Fin 12) (k : Fin 7) (y : (S11 l).Idx) :
    (slR l k).emb y = ixS l k (y 2).val (y 3).val := by
  have hw : wd l ≤ 384 := by unfold wd; split <;> omega
  have h0 : (y 0).val < 1 := (y 0).isLt
  have h1 : (y 1).val < 1 := (y 1).isLt
  have h2 : (y 2).val < 64 := (y 2).isLt
  have h3 : (y 3).val < wd l := (y 3).isLt
  funext a
  refine Fin.ext ?_
  rw [Rect.emb_apply]
  fin_cases a
  · show l.val + 1 * (y 0).val = l.val
    omega
  · show k.val + 1 * (y 1).val = k.val
    omega
  · show 0 + 1 * (y 2).val = (y 2).val % 64
    rw [Nat.mod_eq_of_lt h2]; omega
  · show 0 + 1 * (y 3).val = (y 3).val % 384
    rw [Nat.mod_eq_of_lt (by omega)]; omega

/-- The two leading axes of a slot are of size one. -/
def up2 {l : Fin 12} (x : (SW l).Idx) : (S11 l).Idx :=
  Fin.cons (⟨0, Nat.one_pos⟩ : Fin 1) (Fin.cons (⟨0, Nat.one_pos⟩ : Fin 1) x)

theorem reshape_up2 {l : Fin 12} (h : (SW l).numel = (S11 l).numel) (x : (SW l).Idx) : Shape.reshapeEquiv h x = up2 x := by
  have h1 : (SW l).numel = (⟨3, ![1, 64, wd l]⟩ : Shape).numel := by simp [Shape.numel, Fin.prod_univ_succ]
  have h2 : (⟨3, ![1, 64, wd l]⟩ : Shape).numel = (S11 l).numel := by simp [Shape.numel, Fin.prod_univ_succ]
  rw [← Shape.reshapeEquiv_reshapeEquiv h2 h1]
  exact (congrArg _ (Shape.reshapeEquiv_cons_one h1 x)).trans (Shape.reshapeEquiv_cons_one h2 _)

theorem read_slP (l : Fin 12) (k : Fin 7) (f : Vec F S12x7x64x384 .bf16) (x : (SW l).Idx) :
    (slP l k).view.read (Elt F) f x = f (ixS l k (x 0).val (x 1).val) := by
  show f ((slR l k).emb (Shape.reshapeEquiv _ x)) = _
  rw [reshape_up2, slot_emb]
  rfl

theorem readAt_sl (l : Fin 12) (k : Fin 7) (f : Vec F S12x7x64x384 .bf16) (y : (S11 l).Idx) :
    rcM.view.readAt (Elt F) (slR l k).toLoadRect f y = f (ixS l k (y 2).val (y 3).val) := by
  rw [View.readAt_rect]
  exact congrArg f (slot_emb l k y)

variable (I : Ins F)

theorem recV_at (c : Dev nD) (l : Fin 12) (k : Fin 7) (x : (SW l).Idx) :
    recV I c (ixS l k (x 0).val (x 1).val) = accV I (sgR k).val (pr c (mR l k)) (ixP l (cR c l k) x) := by
  have h2 : (x 0).val < 64 := (x 0).isLt
  have h3 : (x 1).val < wd l := (x 1).isLt
  have hw : wd l ≤ 384 := by unfold wd; split <;> omega
  show accV I (sgR k).val (pr c (mR l k)) (ix2 (256 * (cR c l k).val + 64 * hh l + (x 0).val % 64) (cl l + (x 1).val % 384)) = _
  rw [Nat.mod_eq_of_lt h2, Nat.mod_eq_of_lt (by omega)]
  rfl

theorem pr_prR : ∀ (c : Dev nD) (l : Fin 12) (k : Fin 7), pr (pr c (mR l k)) (mR l k) = c := by decide +kernel
theorem cR_pr : ∀ (c : Dev nD) (l : Fin 12) (k : Fin 7), cR (pr c (mR l k)) l k = cS c l k := by decide +kernel
theorem pr_prA : ∀ (c : Dev nD) (l : Fin 12) (x : Fin 7), pr (pr c (mA l x)) (mA l x) = c := by decide +kernel
theorem prtR : ∀ (c : Dev nD) (l : Fin 12) (k : Fin 7), prt c (mR l k) = pr c (mR l k) := by decide +kernel
theorem prtA : ∀ (c : Dev nD) (l : Fin 12) (x : Fin 7), prt c (mA l x) = pr c (mA l x) := by decide +kernel

/-- What a device sends is what its partner is to have in its slot. -/
theorem sent_eq (c : Dev nD) (l : Fin 12) (k : Fin 7) (x : (SW l).Idx) :
    (slP l k).view.read (Elt F) (recV I (pr c (mR l k))) x
      = (accP l (atP l (cS c l k))).view.read (Elt F) (accV I (sgR k).val c) x := by
  rw [read_slP, recV_at, read_accP, pr_prR, cR_pr]

theorem cj_ixP (l : Fin 12) (q : ℕ) (x : (SW l).Idx) : cj (ixP l q x) = jj l := by
  have h3 : (x 1).val < wd l := (x 1).isLt
  have hc := cols_lt l x
  refine Fin.ext ?_
  show (cl l + (x 1).val) % 1024 / 384 % 3 = l.val / 4
  rw [Nat.mod_eq_of_lt hc]
  have := l.isLt
  unfold cl at *; unfold wd at h3
  split at h3 <;> omega

/-- The sum with a received piece is the accumulator's next contents. -/
theorem add_eq (c : Dev nD) (l : Fin 12) (k : Fin 7) (x : (SW l).Idx) :
    (accP l (atP l (cR c l k))).view.read (Elt F) (accV I ((sgR k).val + 1) c) x
      = addV ((accP l (atP l (cR c l k))).view.read (Elt F) (accV I (sgR k).val c))
          (rcM.view.readAt (Elt F) (slR l k).toLoadRect (recV I c)) x := by
  rw [read_accP]
  show FloatOps.addf (accV I (sgR k).val c (ixP l (cR c l k) x))
      (accV I (sgR k).val (pr c (ordT (cj (ixP l (cR c l k) x)) (Fin.ofNat 3 (sgR k).val))) (ixP l (cR c l k) x)) = _
  rw [cj_ixP]
  unfold addV shapeCast
  simp only [Shape.reshapeEquiv_self]
  show _ = FloatOps.addf ((accP l (atP l (cR c l k))).view.read (Elt F) (accV I (sgR k).val c) x)
    (rcM.view.readAt (Elt F) (slR l k).toLoadRect (recV I c) (Shape.reshapeEquiv _ x))
  rw [read_accP, reshape_up2, readAt_sl]
  have h := recV_at I c l k x
  have e : Fin.ofNat 3 (sgR k).val = sgR k := Fin.ext (Nat.mod_eq_of_lt (sgR k).isLt)
  rw [e]
  exact congrArg (FloatOps.addf _) h.symm

theorem lm_lm : ∀ c : Dev nD, (Fin.ofNat 8 (lm (cB c).val) : Dev nD) = c := by decide +kernel

/-- The finished piece of a lane is the result's. -/
theorem stage_eq (c : Dev nD) (l : Fin 12) (x : (SW l).Idx) :
    (outP l (atP l (cB c))).view.read (Elt F) (outV I) x
      = stV (shV I c) ((accP l (atP l (cB c))).view.read (Elt F) (accV I 3 c)) x := by
  have h2 : (x 0).val < 64 := (x 0).isLt
  have hr := rows_lt l (cB c) x
  have hc := cols_lt l x
  have hh4 : hh l < 4 := Nat.mod_lt _ (by decide)
  have ho : ownD (ixP l (cB c) x) = c := by
    show Fin.ofNat 8 (lm ((256 * (cB c).val + 64 * hh l + (x 0).val) % 2048 / 256)) = c
    rw [Nat.mod_eq_of_lt hr, show (256 * (cB c).val + 64 * hh l + (x 0).val) / 256 = (cB c).val by omega, lm_lm]
  have hx : ixR (ixP l (cB c) x) = fun a => ⟨(![64 * hh l, cl l] : Fin 2 → ℕ) a + (x a).val, by
      fin_cases a
      · show 64 * hh l + (x 0).val < 256
        omega
      · exact hc⟩ := by
    funext a
    refine Fin.ext ?_
    fin_cases a
    · show (256 * (cB c).val + 64 * hh l + (x 0).val) % 2048 % 256 = 64 * hh l + (x 0).val
      rw [Nat.mod_eq_of_lt hr]; omega
    · show (cl l + (x 1).val) % 1024 = cl l + (x 1).val
      rw [Nat.mod_eq_of_lt hc]
  rw [read_outP]
  show FloatOps.truncf .bf16 bitsLt_bf16_f32 (FloatOps.addf (FloatOps.extf .f32 bitsLt_bf16_f32 (accV I 3 (ownD (ixP l (cB c) x)) (ixP l (cB c) x)))
    (shV I (ownD (ixP l (cB c) x)) (ixR (ixP l (cB c) x))))
    = FloatOps.truncf .bf16 bitsLt_bf16_f32 (FloatOps.addf (FloatOps.extf .f32 bitsLt_bf16_f32 ((accP l (atP l (cB c))).view.read (Elt F) (accV I 3 c) x))
      (extractStridedSlice (SW l) ![64 * hh l, cl l] (shV I c) (slSh l) x))
  rw [read_accP, ho, hx]
  rfl

end Cert.Moe

end
-- ==== Proof.Step.lean ====
module

public import proofs.«01_k».proof.Proof.Reads

@[expose] public section

/-! # One step of the talk

The resources of a lane as *atoms*, and for every event what it takes of them and what it leaves. -/

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

abbrev 𝒱₀ : Variants := Variants.none

/-- The weakest precondition of a program on core `c`. -/
abbrev Wp (c : Dev nD) (p : Prog (TpuEff nD τ sig (Elt F) Λ₀ Proc.tc) PUnit) (Q : PUnit → sProp 𝕄) : sProp 𝕄 :=
  wp frame (wpE (defs₀ (F := F)) 𝒱₀ (c : Thread nD τ) none) Set.univ p Q

omit [FloatOps F] in
/-- A piece overwritten with what a buffer reads there holds what the buffer holds. -/
theorem write_pt {sp : CoreSpace} {s : Shape} {e : EltTy} (c : Dev nD) (v : View sig .tc sp s e) (fd g : Buf (Elt F) (v.loc (c : Thread nD τ)))
    (X : s.Idx → Elt F e) (h : ∀ x, v.read (Elt F) g x = X x) :
    (v.loc (c : Thread nD τ) ↦[v.set]{fullShare} v.write (Elt F) fd X Finset.univ : sProp 𝕄) = v.loc (c : Thread nD τ) ↦[v.set]{fullShare} g := by
  have hX : X = v.read (Elt F) g := funext fun x => (h x).symm
  subst hX
  refine pointsTo_congr fun i hi => ?_
  obtain ⟨x, -, rfl⟩ := Finset.mem_map.mp hi
  rw [View.write_emb_of_mem _ _ (Finset.mem_univ _)]
  simp [View.read]

variable (I : Ins F) (K : Dev nD × CK → ℕ)

/-- What every device knows: the invariants of all the cells, that each is at its round, and the levels. -/
def ctx : sProp 𝕄 :=
  iprop((bigSep Finset.univ fun p : Dev nD × CK => cellInv ER (Rd I) (K p) (kc p.1 p.2))
    ∗ (bigSep Finset.univ fun p : Dev nD × CK => reached ER (kc p.1 p.2) 0) ∗ levAts L lv)

instance ctx_persistent : Persistent (ctx I K) := by unfold ctx; infer_instance

theorem ctx_inv (c : Dev nD) (y : CK) : ctx I K ⊢ cellInv ER (Rd I) (K (c, y)) (kc c y) := by
  unfold ctx
  iintro ⟨H, -, -⟩
  have h : (bigSep Finset.univ fun p : Dev nD × CK => cellInv ER (Rd I) (K p) (kc p.1 p.2)) ⊢ cellInv ER (Rd I) (K (c, y)) (kc c y) :=
    bigSep_elim (Finset.mem_univ (c, y))
  iapply h $$ H
theorem ctx_reached (c : Dev nD) (y : CK) : ctx I K ⊢ reached ER (kc c y) 0 := by
  unfold ctx
  iintro ⟨-, H, -⟩
  have h : (bigSep Finset.univ fun p : Dev nD × CK => (reached ER (kc p.1 p.2) 0 : sProp 𝕄)) ⊢ reached ER (kc c y) 0 :=
    bigSep_elim (Finset.mem_univ (c, y))
  iapply h $$ H
theorem ctx_lev : ctx I K ⊢ levAts L lv := by
  unfold ctx
  iintro ⟨-, -, H⟩
  iexact H

variable {I K}

/-! ## Sends -/

/-- A send between two views of one shape, in terms of the cells: the source's payload is the source, the target's is the
overwritten destination. -/
theorem send_gen (c n : Dev nD) {s : Shape} {e : EltTy} (src dst : Memref sig .tc .vmem s e) (y₁ y₂ : CK) (N : ℕ) (hN : dst.view.dmaCredit = N)
    (hd₁ : 0 ∈ dutK y₁) (hd₂ : 0 ∈ dutK y₂) (ha₁ : amtK y₁ = N) (ha₂ : amtK y₂ = N)
    (sS : DmaSem sig) (sR : DmaSem sig) (hS : .dma sS = locK y₁) (hR : .dma sR = locK y₂)
    (fs : Buf (Elt F) (src.view.loc (c : Thread nD τ))) (fd : Buf (Elt F) (dst.view.loc (n : Thread nD τ)))
    (hp₁ : (src.view.loc (c : Thread nD τ) ↦[src.view.set]{fullShare} fs : sProp 𝕄) ⊢ pay I c y₁ 0)
    (hp₂ : (dst.view.loc (n : Thread nD τ) ↦[dst.view.set]{fullShare} dst.view.write (Elt F) fd (src.view.read (Elt F) fs) Finset.univ : sProp 𝕄)
      ⊢ pay I n y₂ 0)
    {hsc} {h1} {h2} {hsem} {k' : PUnit → Prog (TpuEff nD τ sig (Elt F) Λ₀ Proc.tc) PUnit}
    {Q : PUnit → sProp 𝕄} (O : CellTallies nD τ sig Unit) (W : Waits sig Unit) :
    iprop(ctx I K ∗ dutyTok ER (kc c y₁) 0 0 ∗ dutyTok ER (kc n y₂) 0 0
        ∗ (src.view.loc (c : Thread nD τ) ↦[src.view.set]{fullShare} fs) ∗ (dst.view.loc (n : Thread nD τ) ↦[dst.view.set]{fullShare} fd)
        ∗ owes (c : Thread nD τ) (O + tallyAt (kc n y₂) () N) W)
      ⊢ iprop(((cred (tallyAt (kc c y₁) () N) ∗ owes (c : Thread nD τ) O W) -∗ Wp c (k' ⟨⟩) Q)
        -∗ Wp c (.op (.enqueueDma src (.remote (Dev.tc n : Thread nD τ) dst (.dma sS) hsc) (.dma sR) h1 h2 hsem) k') Q) := by
  have e₁ : ((c : Thread nD τ), SemLoc.dma sS) = kc c y₁ := by rw [hS]
  have e₂ : ((n : Thread nD τ), SemLoc.dma sR) = kc n y₂ := by rw [hR]
  have key := Rounds.wp_send_pointsTo (k := k') (Q := Q) (hsc := hsc) (hsrc := h1) (hdst := h2) (hsem := hsem) (defs := defs₀ (F := F))
    (Γ := []) 𝒱₀ ER (Rd I) (c : Thread nD τ) none (src := src) (dst := dst) (c' := (n : Thread nD τ))
    (sS := .dma sS) (sem := .dma sR) (κ₁ := K (c, y₁)) (κ₂ := K (n, y₂)) (fs := fs) (fd := fd) (q := fullShare)
    (r₁ := 0) (r₂ := 0) (d₁ := 0) (d₂ := 0)
    (by rw [e₁, duties_eq]; exact hd₁) (by rw [e₂, duties_eq]; exact hd₂)
    () () N hN (by rw [e₁, amount_eq]; exact ha₁) (by rw [e₂, amount_eq]; exact ha₂) (O₀ := O + tallyAt (kc n y₂) () N) O (by rw [e₂])
    (W := W) (by rw [e₁, payload_eq]; exact hp₁) (by rw [e₂, payload_eq]; exact hp₂) (Es := Set.univ)
  rw [e₁, e₂] at key
  iintro ⟨#Hc, Ht, Ht', Hs, Hd, HO⟩
  ihave #Hi := (ctx_inv I K c y₁) $$ Hc
  ihave #Hi' := (ctx_inv I K n y₂) $$ Hc
  ihave #Hr := (ctx_reached I K c y₁) $$ Hc
  ihave #Hr' := (ctx_reached I K n y₂) $$ Hc
  iapply key $$ [Hs Hd HO Ht Ht']
  isplitr; · iexact Hi
  isplitr; · iexact Hi'
  isplitl [Hs]; · iexact Hs
  isplitl [Hd]; · iexact Hd
  isplitl [HO]; · iexact HO
  isplitl [Ht]; · iexact Ht
  isplitr; · iexact Hr
  isplitl [Ht']; · iexact Ht'
  iexact Hr'

/-- Sending a piece of the accumulator into the partner's slot. -/
theorem send_acc (c n : Dev nD) (l : Fin 12) (k : Fin 7) (hn : n = pr c (mR l k)) (o : Fin 2 → ℕ) (h : AtP l o)
    (e : o = offP l (cS c l k)) {hsc} {h1} {h2} {hsem} {k' : PUnit → Prog (TpuEff nD τ sig (Elt F) Λ₀ Proc.tc) PUnit}
    {Q : PUnit → sProp 𝕄} (O : CellTallies nD τ sig Unit) (W : Waits sig Unit) :
    iprop(ctx I K ∗ dutyTok ER (kc c (some (0, l, k))) 0 0 ∗ dutyTok ER (kc (pr c (mR l k)) (some (1, l, k))) 0 0
        ∗ accPt c l (cS c l k) (accV I (sgR k).val c) ∗ (∃ f, slotPt (pr c (mR l k)) l k f)
        ∗ owes (c : Thread nD τ) (O + tallyAt (kc (pr c (mR l k)) (some (1, l, k))) () (amt l)) W)
      ⊢ iprop(((cred (tallyAt (kc c (some (0, l, k))) () (amt l)) ∗ owes (c : Thread nD τ) O W) -∗ Wp c (k' ⟨⟩) Q)
        -∗ Wp c (.op (.enqueueDma (accP l h) (.remote (Dev.tc n : Thread nD τ) (slP l k) (.dma (rsS l k)) hsc) (.dma (rsR l k)) h1 h2 hsem) k') Q) := by
  subst hn e
  iintro ⟨#Hc, Ht, Ht', Hs, ⟨%fn, Hd⟩, HO⟩
  iapply (send_gen c (pr c (mR l k)) (accP l (atP l (cS c l k))) (slP l k) (some (0, l, k)) (some (1, l, k)) (amt l) rfl
    (Finset.mem_singleton_self _) (Finset.mem_singleton_self _) rfl rfl (rsS l k) (rsR l k) rfl rfl (accV I (sgR k).val c) fn
    (BI.Entails.refl _) (Entails.of_eq (write_pt (pr c (mR l k)) (slP l k).view fn (recV I (pr c (mR l k))) _ (sent_eq I c l k))) O W)
    $$ [Hs Hd HO Ht Ht']
  isplitr; · iexact Hc
  isplitl [Ht]; · iexact Ht
  isplitl [Ht']; · iexact Ht'
  isplitl [Hs]; · unfold accPt; iexact Hs
  isplitl [Hd]; · unfold slotPt; iexact Hd
  iexact HO

/-- Sending a piece of the result to the same place of the partner's. -/
theorem send_out (c n : Dev nD) (l : Fin 12) (x : Fin 7) (hn : n = pr c (mA l x)) (o : Fin 2 → ℕ) (h : AtP l o)
    (e : o = offP l (cA c l x)) {hsc} {h1} {h2} {hsem} {k' : PUnit → Prog (TpuEff nD τ sig (Elt F) Λ₀ Proc.tc) PUnit}
    {Q : PUnit → sProp 𝕄} (O : CellTallies nD τ sig Unit) (W : Waits sig Unit) :
    iprop(ctx I K ∗ dutyTok ER (kc c (some (2, l, x))) 0 0 ∗ dutyTok ER (kc (pr c (mA l x)) (some (3, l, x))) 0 0
        ∗ outPt c l (cA c l x) (outV I) ∗ (∃ f, outPt (pr c (mA l x)) l (cA c l x) f)
        ∗ owes (c : Thread nD τ) (O + tallyAt (kc (pr c (mA l x)) (some (3, l, x))) () (amt l)) W)
      ⊢ iprop(((cred (tallyAt (kc c (some (2, l, x))) () (amt l)) ∗ owes (c : Thread nD τ) O W) -∗ Wp c (k' ⟨⟩) Q)
        -∗ Wp c (.op (.enqueueDma (outP l h) (.remote (Dev.tc n : Thread nD τ) (outP l h) (.dma (agS l x)) hsc) (.dma (agR l x)) h1 h2 hsem) k') Q) := by
  subst hn e
  have hp : ∀ fn, ((outP l (atP l (cA c l x))).view.loc (pr c (mA l x) : Thread nD τ) ↦[(outP l (atP l (cA c l x))).view.set]{fullShare}
      (outP l (atP l (cA c l x))).view.write (Elt F) fn ((outP l (atP l (cA c l x))).view.read (Elt F) (outV I)) Finset.univ : sProp 𝕄)
      ⊢ pay I (pr c (mA l x)) (some (3, l, x)) 0 := fun fn => by
    show _ ⊢ outPt (pr c (mA l x)) l (cA (pr (pr c (mA l x)) (mA l x)) l x) (outV I)
    rw [pr_prA]
    exact Entails.of_eq (write_pt (pr c (mA l x)) (outP l (atP l (cA c l x))).view fn (outV I) _ fun _ => rfl)
  iintro ⟨#Hc, Ht, Ht', Hs, ⟨%fn, Hd⟩, HO⟩
  iapply (send_gen c (pr c (mA l x)) (outP l (atP l (cA c l x))) (outP l (atP l (cA c l x))) (some (2, l, x)) (some (3, l, x)) (amt l) rfl
    (Finset.mem_singleton_self _) (Finset.mem_singleton_self _) rfl rfl (agS l x) (agR l x) rfl rfl (outV I) fn
    (BI.Entails.refl _) (hp fn) O W)
    $$ [Hs Hd HO Ht Ht']
  isplitr; · iexact Hc
  isplitl [Ht]; · iexact Ht
  isplitl [Ht']; · iexact Ht'
  isplitl [Hs]; · unfold outPt; iexact Hs
  isplitl [Hd]; · unfold outPt; iexact Hd
  iexact HO

/-! ## Waits -/

/-- Waiting for the whole amount of a copy's cell: its payload, and the cell back at zero. -/
theorem wait_cell (c : Dev nD) (t : Fin 4) (l : Fin 12) (k : Fin 7) {w : TpuEff nD τ sig (Elt F) Λ₀ Proc.tc PUnit}
    (hw : ∀ P : PUnit → sProp 𝕄, wpE (defs₀ (F := F)) 𝒱₀ (c : Thread nD τ) none Set.univ w P
      = waitSpec (c : Thread nD τ) Set.univ (.dma (cell (tab t) l k)) (amt l) P)
    {k' : PUnit → Prog (TpuEff nD τ sig (Elt F) Λ₀ Proc.tc) PUnit} {Q : PUnit → sProp 𝕄}
    (O : CellTallies nD τ sig Unit) (hO : Above (levK (some (t, l, k))) O) (W : Waits sig Unit) :
    iprop(ctx I K ∗ cred (tallyAt (kc c (some (t, l, k))) () (amt l)) ∗ atPos ER (kc c (some (t, l, k))) 0 ∅ 0 ∗ owes (c : Thread nD τ) O W)
      ⊢ iprop((((∃ W', owes (c : Thread nD τ) O W') ∗ semVal (kc c (some (t, l, k))) 0 ∗ pay I c (some (t, l, k)) 0) -∗ Wp c (k' ⟨⟩) Q)
        -∗ Wp c (.op w k') Q) := by
  iintro ⟨#Hc, Hcr, Hat, HO⟩
  iintro Hk
  ihave #Hi := (ctx_inv I K c (some (t, l, k))) $$ Hc
  iapply (Rounds.wp_wait_rest_token 𝒱₀ ER (Rd I) (c : Thread nD τ) none (κ := K (c, some (t, l, k)))
      hw (Set.mem_univ _) () (O := O) (W := W) (R := 0) (m := 0) (T := ∅)
      (by rw [show ((c : Thread nD τ), SemLoc.dma (cell (tab t) l k)) = kc c (some (t, l, k)) from rfl, expect_dma, Nat.zero_add])) $$ [Hcr HO Hat]
  · isplitr; · iexact Hi
    isplitl [Hcr]; · iexact Hcr
    isplitl [HO]; · iexact HO
    isplitr
    · iapply (mayWait c (locK (some (t, l, k))) _ (fun u => (lv_kc c (some (t, l, k)) u).le) O hO)
      iapply (ctx_lev I K); iexact Hc
    iexact Hat
  iintro ⟨HO, Hat, -, Hpay⟩
  have er : bigSep ((Rd I).duties ((c : Thread nD τ), SemLoc.dma (cell (tab t) l k)) 0 \ ∅)
      (fun d => (Rd I).payload ((c : Thread nD τ), SemLoc.dma (cell (tab t) l k)) 0 d) = pay I c (some (t, l, k)) 0 := rest_dma I c t l k
  ihave Hp := (Entails.of_eq er) $$ Hpay
  imod (Rounds.cell_close ER (Rd I) (Set.mem_univ (K (c, some (t, l, k)))) (fun h => h) (R := 0 + 1) (duties_later I (kc c (some (t, l, k))))) $$ [Hat] with Hz
  · isplitr; · iexact Hi
    iexact Hat
  iapply Hk
  isplitl [HO]; · iexists _; iexact HO
  isplitl [Hz]; · iexact Hz
  iexact Hp

/-- The same for the copy's own wait: its target counts the lane's bytes. -/
theorem wait_dma (c : Dev nD) (t : Fin 4) (l : Fin 12) (k : Fin 7) {s : Shape} {e : EltTy} (src dst : Memref sig .tc .vmem s e)
    (sm : DmaSem sig) (hs : sm = cell (tab t) l k) (hc : dst.view.dmaCredit = amt l) (X : sProp 𝕄)
    (hX : pay I c (some (t, l, k)) 0 = X) {h1} {h2}
    {k' : PUnit → Prog (TpuEff nD τ sig (Elt F) Λ₀ Proc.tc) PUnit} {Q : PUnit → sProp 𝕄}
    (O : CellTallies nD τ sig Unit) (hO : Above (levK (some (t, l, k))) O) (W : Waits sig Unit) :
    iprop(ctx I K ∗ cred (tallyAt (kc c (some (t, l, k))) () (amt l)) ∗ atPos ER (kc c (some (t, l, k))) 0 ∅ 0 ∗ owes (c : Thread nD τ) O W)
      ⊢ iprop((((∃ W', owes (c : Thread nD τ) O W') ∗ semVal (kc c (some (t, l, k))) 0 ∗ X) -∗ Wp c (k' ⟨⟩) Q)
        -∗ Wp c (.op (.waitDma2 sm src dst h1 h2) k') Q) :=
  hX ▸ wait_cell c t l k (fun P => by rw [← hc, ← hs]; exact wpE_waitDma2_eq 𝒱₀ (c : Thread nD τ) none Set.univ P) O hO W

/-! ## The vector steps -/

/-- Adding a received piece. -/
theorem step_add (c : Dev nD) (l : Fin 12) (k : Fin 7) (o : Fin 2 → ℕ) (h : AtP l o) (e : o = offP l (cR c l k))
    {a1} {a2} {a3} {hx} {hm} {P : Prog (TpuEff nD τ sig (Elt F) Λ₀ Proc.tc) PUnit} {Q : PUnit → sProp 𝕄} :
    iprop(accPt c l (cR c l k) (accV I (sgR k).val c) ∗ slotPt c l k (recV I c))
      ⊢ iprop(((accPt c l (cR c l k) (accV I ((sgR k).val + 1) c) ∗ slotPt c l k (recV I c)) -∗ Wp c P Q)
        -∗ Wp c (.op (.load accM (Rect.unit (s := S2048x1024) o (SW l).size h.inb).toLoadRect a1)
          fun (u : Vec F (SW l) .bf16) => .op (.load rcM (slR l k).toLoadRect a2)
          fun (v : Vec F (S11 l) .bf16) => .op (.load accM (Rect.unit (s := S2048x1024) o (SW l).size h.inb).toLoadRect a3)
          fun _ => .op (.store accM (Rect.unit (s := S2048x1024) o (SW l).size h.inb) (addV u v) Finset.univ hx hm) fun _ => P) Q) := by
  subst e
  unfold accPt slotPt
  iintro ⟨Ha, Hs⟩
  iintro Hk
  iapply (wp_load 𝒱₀ (c : Thread nD τ) none Set.univ (m := accM) (View.set_slice _ _).ge) $$ Ha; iintro Ha
  iapply (wp_load 𝒱₀ (c : Thread nD τ) none Set.univ (m := rcM) (by rw [View.set_reshape, View.set_slice]; exact subset_rfl)) $$ Hs; iintro Hs
  iapply (wp_load 𝒱₀ (c : Thread nD τ) none Set.univ (m := accM) (View.set_slice _ _).ge) $$ Ha; iintro Ha
  iapply (wp_store 𝒱₀ (c : Thread nD τ) none Set.univ (m := accM) (r := Rect.unit (s := S2048x1024) (offP l (cR c l k)) (SW l).size h.inb)
      (S := (accP l (atP l (cR c l k))).view.set) (Mk := Finset.univ) subset_rfl) $$ Ha; iintro Ha
  iapply Hk
  isplitl [Ha]
  · have ew : ((accM.access (Rect.unit (s := S2048x1024) (offP l (cR c l k)) (SW l).size h.inb)).loc (c : Thread nD τ)
        ↦[(accP l (atP l (cR c l k))).view.set]{fullShare}
        (accM.access (Rect.unit (s := S2048x1024) (offP l (cR c l k)) (SW l).size h.inb)).write (Elt F) (accV I (sgR k).val c)
          (addV (accM.view.readAt (Elt F) (Rect.unit (s := S2048x1024) (offP l (cR c l k)) (SW l).size h.inb).toLoadRect (accV I (sgR k).val c))
            (rcM.view.readAt (Elt F) (slR l k).toLoadRect (recV I c))) Finset.univ : sProp 𝕄)
        = ((accP l (atP l (cR c l k))).view.loc (c : Thread nD τ) ↦[(accP l (atP l (cR c l k))).view.set]{fullShare} accV I ((sgR k).val + 1) c) :=
      write_pt c (accP l (atP l (cR c l k))).view _ (accV I ((sgR k).val + 1) c) _ (add_eq I c l k)
    iapply (Entails.of_eq ew) $$ Ha
  iexact Hs

/-- Staging a lane's finished piece. -/
theorem step_stage (c : Dev nD) (l : Fin 12) (o : Fin 2 → ℕ) (h : AtP l o) (e : o = offP l (cB c)) {sh : FVec F S256x1024 .f32}
    (hs : sh = shV I c)
    {a1} {a2} {hx} {hm} {P : Prog (TpuEff nD τ sig (Elt F) Λ₀ Proc.tc) PUnit} {Q : PUnit → sProp 𝕄} :
    iprop(accPt c l (cB c) (accV I 3 c) ∗ (∃ f, outPt c l (cB c) f))
      ⊢ iprop(((accPt c l (cB c) (accV I 3 c) ∗ outPt c l (cB c) (outV I)) -∗ Wp c P Q)
        -∗ Wp c (.op (.load accM (Rect.unit (s := S2048x1024) o (SW l).size h.inb).toLoadRect a1)
          fun (u : Vec F (SW l) .bf16) => .op (.load outM (Rect.unit (s := S2048x1024) o (SW l).size h.inb).toLoadRect a2)
          fun _ => .op (.store outM (Rect.unit (s := S2048x1024) o (SW l).size h.inb) (stV sh u) Finset.univ hx hm) fun _ => P) Q) := by
  subst e hs
  unfold accPt outPt
  iintro ⟨Ha, ⟨%f, Hs⟩⟩
  iintro Hk
  iapply (wp_load 𝒱₀ (c : Thread nD τ) none Set.univ (m := accM) (View.set_slice _ _).ge) $$ Ha; iintro Ha
  iapply (wp_load 𝒱₀ (c : Thread nD τ) none Set.univ (m := outM) (View.set_slice _ _).ge) $$ Hs; iintro Hs
  iapply (wp_store 𝒱₀ (c : Thread nD τ) none Set.univ (m := outM) (r := Rect.unit (s := S2048x1024) (offP l (cB c)) (SW l).size h.inb)
      (S := (outP l (atP l (cB c))).view.set) (Mk := Finset.univ) subset_rfl) $$ Hs; iintro Hs
  iapply Hk
  isplitl [Ha]; · iexact Ha
  have ew : ((outM.access (Rect.unit (s := S2048x1024) (offP l (cB c)) (SW l).size h.inb)).loc (c : Thread nD τ)
      ↦[(outP l (atP l (cB c))).view.set]{fullShare}
      (outM.access (Rect.unit (s := S2048x1024) (offP l (cB c)) (SW l).size h.inb)).write (Elt F) f
        (stV (shV I c) (accM.view.readAt (Elt F) (Rect.unit (s := S2048x1024) (offP l (cB c)) (SW l).size h.inb).toLoadRect (accV I 3 c)))
        Finset.univ : sProp 𝕄)
      = ((outP l (atP l (cB c))).view.loc (c : Thread nD τ) ↦[(outP l (atP l (cB c))).view.set]{fullShare} outV I) :=
    write_pt c (outP l (atP l (cB c))).view _ (outV I) _ (stage_eq I c l)
  iapply (Entails.of_eq ew) $$ Hs

end Cert.Moe

end
-- ==== Proof.Lane.lean ====
module

public import proofs.«01_k».proof.Proof.Step

@[expose] public section

/-! # The talk of all the lanes

Each event takes some atoms of its lane and leaves others. A list of events is run by keeping, of every
lane, the list of the atoms held; that the lists suffice, lane by lane and device by device, and that
waits go up, is computed. -/

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- One resource of a lane. The Boolean tells the all-gather from the reduce-scatter. -/
inductive Atom where
  /-- leave to start copy `k`; copy `k` on its way; its sent cell done -/
  | tok (ph : Bool) (k : Fin 7)
  | fly (ph : Bool) (k : Fin 7)
  | dS (ph : Bool) (k : Fin 7)
  /-- the promise of copy `k` from the partner; its received cell done -/
  | exp (ph : Bool) (k : Fin 7)
  | dR (ph : Bool) (k : Fin 7)
  /-- the accumulator's piece in chunk `q` after `s` stages -/
  | acc (q : Fin 8) (s : Fin 4)
  /-- the partner's slot `k`, and the device's own, filled -/
  | psl (k : Fin 7)
  | sl (k : Fin 7)
  /-- the partner's piece of the result copy `x` goes to; the device's own, finished, in chunk `q`; its own chunk's, not yet -/
  | pout (x : Fin 7)
  | out (q : Fin 8)
  | out0
  deriving DecidableEq

/-- A number for each atom. -/
def Atom.code : Atom → ℕ
  | .tok ph k => 10 * ph.toNat + k.val
  | .fly ph k => 100 + (10 * ph.toNat + k.val)
  | .dS ph k => 200 + (10 * ph.toNat + k.val)
  | .exp ph k => 300 + (10 * ph.toNat + k.val)
  | .dR ph k => 400 + (10 * ph.toNat + k.val)
  | .acc q s => 500 + (10 * q.val + s.val)
  | .psl k => 600 + k.val
  | .sl k => 700 + k.val
  | .pout x => 800 + x.val
  | .out q => 900 + q.val
  | .out0 => 1000

/-- The atom of a number. -/
def ofCode (n : ℕ) : Atom :=
  let ph : Bool := Nat.blt 9 (n % 100)
  let k : Fin 7 := Fin.ofNat 7 (n % 10)
  match n / 100 with
  | 0 => .tok ph k
  | 1 => .fly ph k
  | 2 => .dS ph k
  | 3 => .exp ph k
  | 4 => .dR ph k
  | 5 => .acc (Fin.ofNat 8 (n % 100 / 10)) (Fin.ofNat 4 (n % 10))
  | 6 => .psl k
  | 7 => .sl k
  | 8 => .pout k
  | 9 => .out (Fin.ofNat 8 (n % 10))
  | _ => .out0

theorem ofCode_code (a : Atom) : ofCode a.code = a := by
  cases a with
  | tok ph k => revert ph k; decide
  | fly ph k => revert ph k; decide
  | dS ph k => revert ph k; decide
  | exp ph k => revert ph k; decide
  | dR ph k => revert ph k; decide
  | acc q s => revert q s; decide
  | psl k => revert k; decide
  | sl k => revert k; decide
  | pout k => revert k; decide
  | out q => revert q; decide
  | out0 => decide

theorem code_inj (a b : Atom) (h : a.code = b.code) : a = b :=
  (ofCode_code a).symm.trans ((congrArg ofCode h).trans (ofCode_code b))

/-- Take an atom out of a list; take several. -/
def take1 (a : Atom) : List Atom → Option (List Atom)
  | [] => none
  | b :: t => match Nat.beq a.code b.code with
    | true => some t
    | false => match take1 a t with
      | none => none
      | some t' => some (b :: t')
def takes : List Atom → List Atom → Option (List Atom)
  | [], S => some S
  | a :: A, S => match take1 a S with
    | none => none
    | some S' => takes A S'

def tabS (ph : Bool) : Fin 4 := if ph then 2 else 0
def tabR (ph : Bool) : Fin 4 := if ph then 3 else 1
/-- The axis of a copy. -/
def mX (ph : Bool) (l : Fin 12) (k : Fin 7) : ℕ := if ph then mA l k else mR l k

section Held
variable (I : Ins F) (c : Dev nD) (l : Fin 12)

/-- What an atom of a lane of device `c` is. -/
def holds : Atom → sProp 𝕄
  | .tok ph k => iprop(dutyTok ER (kc c (some (tabS ph, l, k))) 0 0 ∗ dutyTok ER (kc (pr c (mX ph l k)) (some (tabR ph, l, k))) 0 0
      ∗ atPos ER (kc c (some (tabS ph, l, k))) 0 ∅ 0)
  | .fly ph k => iprop(cred (tallyAt (kc c (some (tabS ph, l, k))) () (amt l)) ∗ atPos ER (kc c (some (tabS ph, l, k))) 0 ∅ 0)
  | .dS ph k => semVal (kc c (some (tabS ph, l, k))) 0
  | .exp ph k => iprop(cred (tallyAt (kc c (some (tabR ph, l, k))) () (amt l)) ∗ atPos ER (kc c (some (tabR ph, l, k))) 0 ∅ 0)
  | .dR ph k => semVal (kc c (some (tabR ph, l, k))) 0
  | .acc q s => accPt c l q (accV I s.val c)
  | .psl k => iprop(∃ f, slotPt (pr c (mR l k)) l k f)
  | .sl k => slotPt c l k (recV I c)
  | .pout x => iprop(∃ f, outPt (pr c (mA l x)) l (cA c l x) f)
  | .out q => outPt c l q (outV I)
  | .out0 => iprop(∃ f, outPt c l (cB c) f)

/-- Everything in a list of atoms. -/
def held : List Atom → sProp 𝕄
  | [] => iprop(emp)
  | a :: A => iprop(holds I c l a ∗ held A)

variable {I c l}

theorem held_take1 (a : Atom) : ∀ {S S' : List Atom}, take1 a S = some S' → held I c l S ⊢ iprop(holds I c l a ∗ held I c l S')
  | [], S', h => by cases h
  | b :: t, S', h => by
    unfold take1 at h
    split at h
    · rename_i hb
      cases h
      have : a = b := code_inj a b (Nat.eq_of_beq_eq_true hb)
      subst this
      exact BI.Entails.refl _
    · split at h
      · cases h
      · rename_i t' ht
        cases h
        have ih := held_take1 a ht
        show iprop(holds I c l b ∗ held I c l t) ⊢ iprop(holds I c l a ∗ holds I c l b ∗ held I c l t')
        iintro ⟨Hb, Ht⟩
        ihave H := ih $$ Ht
        icases H with ⟨Ha, Ht⟩
        isplitl [Ha]; · iexact Ha
        isplitl [Hb]; · iexact Hb
        iexact Ht

theorem held_append (A : List Atom) : ∀ B : List Atom, iprop(held I c l A ∗ held I c l B) = held I c l (A ++ B) := by
  induction A with
  | nil => intro B; exact emp_sep_eq _
  | cons a A ih =>
    intro B
    show iprop((holds I c l a ∗ held I c l A) ∗ held I c l B) = iprop(holds I c l a ∗ held I c l (A ++ B))
    rw [← ih B]
    exact BI.equiv_iff.mp ⟨BI.sep_assoc, BI.sep_assoc'⟩

theorem held_takes : ∀ (A : List Atom) {S S' : List Atom}, takes A S = some S' → held I c l S ⊢ iprop(held I c l A ∗ held I c l S')
  | [], S, S', h => by
    cases h
    exact Entails.of_eq (held_append [] S).symm
  | a :: A, S, S', h => by
    unfold takes at h
    split at h
    · cases h
    · rename_i T hT
      have ih := held_takes A h
      have h1 := held_take1 (I := I) (c := c) (l := l) a hT
      show _ ⊢ iprop((holds I c l a ∗ held I c l A) ∗ held I c l S')
      iintro H
      ihave H := h1 $$ H
      icases H with ⟨Ha, Ht⟩
      ihave H := ih $$ Ht
      icases H with ⟨HA, Ht⟩
      isplitl [Ha HA]
      · isplitl [Ha]; · iexact Ha
        iexact HA
      iexact Ht

end Held

/-! ## What an event takes and leaves -/

def Ev.lane : Ev → Fin 12
  | .enqR l _ | .wsR l _ | .wrR l _ | .add l _ | .stage l | .enqA l _ | .wsA l _ | .wrA l _ => l

def pre (c : Dev nD) : Ev → List Atom
  | .enqR l k => [.tok false k, .acc (cS c l k) (sgR k).castSucc, .psl k]
  | .wsR l k => [.fly false k]
  | .wrR l k => [.exp false k]
  | .add l k => [.acc (cR c l k) (sgR k).castSucc, .sl k]
  | .stage l => [.acc (cB c) 3, .out0]
  | .enqA l x => [.tok true x, .out (cA c l x), .pout x]
  | .wsA l x => [.fly true x]
  | .wrA l x => [.exp true x]

def post (c : Dev nD) : Ev → List Atom
  | .enqR l k => [.fly false k]
  | .wsR l k => [.dS false k, .acc (cS c l k) (sgR k).castSucc]
  | .wrR l k => [.dR false k, .sl k]
  | .add l k => [.acc (cR c l k) (sgR k).succ, .sl k]
  | .stage l => [.acc (cB c) 3, .out (cB c)]
  | .enqA l x => [.fly true x]
  | .wsA l x => [.dS true x, .out (cA c l x)]
  | .wrA l x => [.dR true x, .out (cA (pr c (mA l x)) l x)]

/-- What starting a copy pays of the device's debts. -/
def owedE (c : Dev nD) : Ev → CellTallies nD τ sig Unit
  | .enqR l k => tallyAt (kc (pr c (mR l k)) (some (1, l, k))) () (amt l)
  | .enqA l x => tallyAt (kc (pr c (mA l x)) (some (3, l, x))) () (amt l)
  | _ => 0
def owedL (c : Dev nD) : List Ev → CellTallies nD τ sig Unit
  | [] => 0
  | e :: es => owedL c es + owedE c e

/-- How high the cell stands that a wait waits at, that a start pays; the lowest a list pays. -/
def Ev.lvW : Ev → ℕ
  | .wrR _ k => 2 + (sgR k).val
  | .wrA _ x => 5 + (sgA x).val
  | _ => 0
def Ev.lvE : Ev → ℕ
  | .enqR _ k => 2 + (sgR k).val
  | .enqA _ x => 5 + (sgA x).val
  | _ => 100
def minL : List Ev → ℕ
  | [] => 100
  | e :: es => min e.lvE (minL es)
/-- Waits go up. -/
def okL : List Ev → Bool
  | [] => true
  | e :: es => Nat.blt e.lvW (minL es) && okL es

theorem okL_append : ∀ (A : List Ev) {B : List Ev}, okL (A ++ B) = true → okL B = true
  | [], _, h => h
  | a :: A, B, h => okL_append A (Bool.and_eq_true _ _ ▸ h).2

theorem above_mono {n n' : ℕ} (h : n ≤ n') {O : CellTallies nD τ sig Unit} (hO : Above n' O) : Above n O :=
  fun g u hg => by obtain ⟨c, y, e, h'⟩ := hO g u hg; exact ⟨c, y, e, by omega⟩

theorem above_tally (n : ℕ) (c : Dev nD) (y : CK) (N : ℕ) (h : n < levK y) : Above n (tallyAt (kc c y) () N) := fun g u hg => by
  rw [tallyAt_apply] at hg
  split at hg
  · rename_i h'; exact ⟨c, y, h'.1, h⟩
  · omega

theorem above_add {n : ℕ} {O O' : CellTallies nD τ sig Unit} (h : Above n O) (h' : Above n O') : Above n (O + O') := fun g u hg => by
  have hg : 0 < O g u + O' g u := hg
  rcases Nat.eq_zero_or_pos (O g u) with h0 | h0
  · exact h' g u (by omega)
  · exact h g u h0

theorem above_zero (n : ℕ) : Above n 0 := fun g u hg => absurd hg (Nat.lt_irrefl 0)

theorem above_owedE (c : Dev nD) (n : ℕ) (e : Ev) (h : n < e.lvE) : Above n (owedE c e) := by
  cases e <;> first | exact above_zero n | exact above_tally n _ _ _ h

theorem above_owedL (c : Dev nD) (n : ℕ) : ∀ es : List Ev, n < minL es → Above n (owedL c es)
  | [], _ => above_zero n
  | e :: es, h => above_add (above_owedL c n es (lt_of_lt_of_le h (min_le_right _ _))) (above_owedE c n e (lt_of_lt_of_le h (min_le_left _ _)))

def Ev.isStage : Ev → Bool
  | .stage _ => true
  | _ => false

variable {I : Ins F} {K : Dev nD × CK → ℕ}

/-- One event. -/
theorem ev_step (c : Dev nD) (e : Ev) (sh : FVec F S256x1024 .f32) (hsh : e.isStage = true → sh = shV I c)
    (O : CellTallies nD τ sig Unit) (hO : Above e.lvW O) (W : Waits sig Unit)
    {P : Prog (TpuEff nD τ sig (Elt F) Λ₀ Proc.tc) PUnit} {Q : PUnit → sProp 𝕄} :
    iprop(ctx I K ∗ held I c e.lane (pre c e) ∗ owes (c : Thread nD τ) (O + owedE c e) W)
      ⊢ iprop(((held I c e.lane (post c e) ∗ ∃ W', owes (c : Thread nD τ) O W') -∗ Wp c P Q) -∗ Wp c (e.run c sh P) Q) := by
  cases e with
  | enqR l k =>
    show iprop(ctx I K ∗ ((dutyTok ER (kc c (some (0, l, k))) 0 0 ∗ dutyTok ER (kc (pr c (mR l k)) (some (1, l, k))) 0 0
        ∗ atPos ER (kc c (some (0, l, k))) 0 ∅ 0) ∗ accPt c l (cS c l k) (accV I (sgR k).val c) ∗ (∃ f, slotPt (pr c (mR l k)) l k f) ∗ emp) ∗ _)
      ⊢ iprop((((((cred (tallyAt (kc c (some (0, l, k))) () (amt l)) ∗ atPos ER (kc c (some (0, l, k))) 0 ∅ 0)) ∗ emp) ∗ _) -∗ _) -∗ _)
    iintro ⟨#Hc, ⟨⟨Ht, Ht', Hat⟩, Ha, Hs, -⟩, HO⟩
    iintro Hk
    iapply (send_acc c (prt c (mR l k)) l k (prtR c l k) (offS c l k) (atS c l k) (offS_eq c l k) O W) $$ [Ht Ht' Ha Hs HO]
    · isplitr; · iexact Hc
      isplitl [Ht]; · iexact Ht
      isplitl [Ht']; · iexact Ht'
      isplitl [Ha]; · iexact Ha
      isplitl [Hs]; · iexact Hs
      iexact HO
    iintro ⟨Hf, HO⟩
    iapply Hk
    isplitl [Hf Hat]
    · isplitl [Hf Hat]
      · isplitl [Hf]; · iexact Hf
        iexact Hat
      iempintro
    iexists W; iexact HO
  | enqA l x =>
    show iprop(ctx I K ∗ ((dutyTok ER (kc c (some (2, l, x))) 0 0 ∗ dutyTok ER (kc (pr c (mA l x)) (some (3, l, x))) 0 0
        ∗ atPos ER (kc c (some (2, l, x))) 0 ∅ 0) ∗ outPt c l (cA c l x) (outV I) ∗ (∃ f, outPt (pr c (mA l x)) l (cA c l x) f) ∗ emp) ∗ _)
      ⊢ iprop((((((cred (tallyAt (kc c (some (2, l, x))) () (amt l)) ∗ atPos ER (kc c (some (2, l, x))) 0 ∅ 0)) ∗ emp) ∗ _) -∗ _) -∗ _)
    iintro ⟨#Hc, ⟨⟨Ht, Ht', Hat⟩, Ha, Hs, -⟩, HO⟩
    iintro Hk
    iapply (send_out c (prt c (mA l x)) l x (prtA c l x) (offA c l x) (atA c l x) (offA_eq c l x) O W) $$ [Ht Ht' Ha Hs HO]
    · isplitr; · iexact Hc
      isplitl [Ht]; · iexact Ht
      isplitl [Ht']; · iexact Ht'
      isplitl [Ha]; · iexact Ha
      isplitl [Hs]; · iexact Hs
      iexact HO
    iintro ⟨Hf, HO⟩
    iapply Hk
    isplitl [Hf Hat]
    · isplitl [Hf Hat]
      · isplitl [Hf]; · iexact Hf
        iexact Hat
      iempintro
    iexists W; iexact HO
  | wsR l k =>
    rw [show O + owedE c (.wsR l k) = O from add_zero O]
    show iprop(ctx I K ∗ ((cred (tallyAt (kc c (some (0, l, k))) () (amt l)) ∗ atPos ER (kc c (some (0, l, k))) 0 ∅ 0) ∗ emp) ∗ _)
      ⊢ iprop(((((semVal (kc c (some (0, l, k))) 0) ∗ accPt c l (cS c l k) (accV I (sgR k).val c) ∗ emp) ∗ _) -∗ _) -∗ _)
    iintro ⟨#Hc, ⟨⟨Hf, Hat⟩, -⟩, HO⟩
    iintro Hk
    iapply (wait_dma c 0 l k (slP l k) (accP l (atS c l k)) (rsS l k) rfl rfl (accPt c l (cS c l k) (accV I (sgR k).val c)) rfl O hO W) $$ [Hf Hat HO]
    · isplitr; · iexact Hc
      isplitl [Hf]; · iexact Hf
      isplitl [Hat]; · iexact Hat
      iexact HO
    iintro ⟨HO, Hz, Hp⟩
    iapply Hk
    isplitl [Hz Hp]
    · isplitl [Hz]; · iexact Hz
      isplitl [Hp]; · iexact Hp
      iempintro
    iexact HO
  | wrR l k =>
    rw [show O + owedE c (.wrR l k) = O from add_zero O]
    show iprop(ctx I K ∗ ((cred (tallyAt (kc c (some (1, l, k))) () (amt l)) ∗ atPos ER (kc c (some (1, l, k))) 0 ∅ 0) ∗ emp) ∗ _)
      ⊢ iprop(((((semVal (kc c (some (1, l, k))) 0) ∗ slotPt c l k (recV I c) ∗ emp) ∗ _) -∗ _) -∗ _)
    iintro ⟨#Hc, ⟨⟨Hf, Hat⟩, -⟩, HO⟩
    iintro Hk
    iapply (wait_dma c 1 l k (accP l (atS c l k)) (slP l k) (rsR l k) rfl rfl (slotPt c l k (recV I c)) rfl O hO W) $$ [Hf Hat HO]
    · isplitr; · iexact Hc
      isplitl [Hf]; · iexact Hf
      isplitl [Hat]; · iexact Hat
      iexact HO
    iintro ⟨HO, Hz, Hp⟩
    iapply Hk
    isplitl [Hz Hp]
    · isplitl [Hz]; · iexact Hz
      isplitl [Hp]; · iexact Hp
      iempintro
    iexact HO
  | wsA l x =>
    rw [show O + owedE c (.wsA l x) = O from add_zero O]
    show iprop(ctx I K ∗ ((cred (tallyAt (kc c (some (2, l, x))) () (amt l)) ∗ atPos ER (kc c (some (2, l, x))) 0 ∅ 0) ∗ emp) ∗ _)
      ⊢ iprop(((((semVal (kc c (some (2, l, x))) 0) ∗ outPt c l (cA c l x) (outV I) ∗ emp) ∗ _) -∗ _) -∗ _)
    iintro ⟨#Hc, ⟨⟨Hf, Hat⟩, -⟩, HO⟩
    iintro Hk
    iapply (wait_dma c 2 l x (outP l (atA c l x)) (outP l (atA c l x)) (agS l x) rfl rfl (outPt c l (cA c l x) (outV I)) rfl O hO W) $$ [Hf Hat HO]
    · isplitr; · iexact Hc
      isplitl [Hf]; · iexact Hf
      isplitl [Hat]; · iexact Hat
      iexact HO
    iintro ⟨HO, Hz, Hp⟩
    iapply Hk
    isplitl [Hz Hp]
    · isplitl [Hz]; · iexact Hz
      isplitl [Hp]; · iexact Hp
      iempintro
    iexact HO
  | wrA l x =>
    rw [show O + owedE c (.wrA l x) = O from add_zero O]
    show iprop(ctx I K ∗ ((cred (tallyAt (kc c (some (3, l, x))) () (amt l)) ∗ atPos ER (kc c (some (3, l, x))) 0 ∅ 0) ∗ emp) ∗ _)
      ⊢ iprop(((((semVal (kc c (some (3, l, x))) 0) ∗ outPt c l (cA (pr c (mA l x)) l x) (outV I) ∗ emp) ∗ _) -∗ _) -∗ _)
    iintro ⟨#Hc, ⟨⟨Hf, Hat⟩, -⟩, HO⟩
    iintro Hk
    iapply (wait_dma c 3 l x (outP l (atA c l x)) (outP l (atA c l x)) (agR l x) rfl rfl (outPt c l (cA (pr c (mA l x)) l x) (outV I)) rfl O hO W) $$ [Hf Hat HO]
    · isplitr; · iexact Hc
      isplitl [Hf]; · iexact Hf
      isplitl [Hat]; · iexact Hat
      iexact HO
    iintro ⟨HO, Hz, Hp⟩
    iapply Hk
    isplitl [Hz Hp]
    · isplitl [Hz]; · iexact Hz
      isplitl [Hp]; · iexact Hp
      iempintro
    iexact HO
  | add l k =>
    rw [show O + owedE c (.add l k) = O from add_zero O]
    show iprop(ctx I K ∗ (accPt c l (cR c l k) (accV I (sgR k).val c) ∗ slotPt c l k (recV I c) ∗ emp) ∗ _)
      ⊢ iprop((((accPt c l (cR c l k) (accV I ((sgR k).val + 1) c) ∗ slotPt c l k (recV I c) ∗ emp) ∗ _) -∗ _) -∗ _)
    iintro ⟨-, ⟨Ha, Hs, -⟩, HO⟩
    iintro Hk
    iapply (step_add c l k (offR c l k) (atR c l k) (offR_eq c l k)) $$ [Ha Hs]
    · isplitl [Ha]; · iexact Ha
      iexact Hs
    iintro ⟨Ha, Hs⟩
    iapply Hk
    isplitl [Ha Hs]
    · isplitl [Ha]; · iexact Ha
      isplitl [Hs]; · iexact Hs
      iempintro
    iexists W
    iexact HO
  | stage l =>
    rw [show O + owedE c (.stage l) = O from add_zero O]
    show iprop(ctx I K ∗ (accPt c l (cB c) (accV I 3 c) ∗ (∃ f, outPt c l (cB c) f) ∗ emp) ∗ _)
      ⊢ iprop((((accPt c l (cB c) (accV I 3 c) ∗ outPt c l (cB c) (outV I) ∗ emp) ∗ _) -∗ _) -∗ _)
    iintro ⟨-, ⟨Ha, Hs, -⟩, HO⟩
    iintro Hk
    iapply (step_stage c l (offB c l) (atB c l) (offB_eq c l) (hsh rfl)) $$ [Ha Hs]
    · isplitl [Ha]; · iexact Ha
      iexact Hs
    iintro ⟨Ha, Hs⟩
    iapply Hk
    isplitl [Ha Hs]
    · isplitl [Ha]; · iexact Ha
      isplitl [Hs]; · iexact Hs
      iempintro
    iexists W
    iexact HO

/-! ## Lists of events -/

/-- The atoms of a lane after some of its events. -/
def runL (c : Dev nD) : List Ev → List Atom → Option (List Atom)
  | [], S => some S
  | e :: es, S => match takes (pre c e) S with
    | none => none
    | some S' => runL c es (post c e ++ S')

/-- The events of a lane. -/
def ofLane (l : Fin 12) : List Ev → List Ev
  | [] => []
  | e :: es => match Nat.beq e.lane.val l.val with
    | true => e :: ofLane l es
    | false => ofLane l es

theorem ofLane_self (e : Ev) (es : List Ev) : ofLane e.lane (e :: es) = e :: ofLane e.lane es := by
  rw [ofLane]
  simp
theorem ofLane_ne (e : Ev) (es : List Ev) (l : Fin 12) (h : l ≠ e.lane) : ofLane l (e :: es) = ofLane l es := by
  rw [ofLane]
  have : Nat.beq e.lane.val l.val = false := by
    cases hb : Nat.beq e.lane.val l.val with
    | false => rfl
    | true => exact absurd (Fin.ext (Nat.eq_of_beq_eq_true hb)).symm h
  rw [this]

/-- A list of events: the lanes go from the atoms `S` to the atoms `S'`, and the debts are paid down to the rest. -/
theorem run_list (c : Dev nD) (sh : FVec F S256x1024 .f32) {P : Prog (TpuEff nD τ sig (Elt F) Λ₀ Proc.tc) PUnit} {Q : PUnit → sProp 𝕄}
    (rest : List Ev) (S' : Fin 12 → List Atom) :
    ∀ (es : List Ev) (S : Fin 12 → List Atom), (∀ l, runL c (ofLane l es) (S l) = some (S' l)) → okL (es ++ rest) = true →
      (∀ e ∈ es, e.isStage = true → sh = shV I c) →
    iprop(ctx I K ∗ (bigSep Finset.univ fun l => held I c l (S l)) ∗ (∃ W, owes (c : Thread nD τ) (owedL c (es ++ rest)) W))
      ⊢ iprop((((bigSep Finset.univ fun l => held I c l (S' l)) ∗ ∃ W, owes (c : Thread nD τ) (owedL c rest) W) -∗ Wp c P Q)
        -∗ Wp c (runs c sh es P) Q)
  | [], S, hS, _, _ => by
    have : S = S' := funext fun l => Option.some.inj (hS l)
    subst this
    iintro ⟨-, H, HO⟩
    iintro Hk
    iapply Hk
    isplitl [H]; · iexact H
    iexact HO
  | e :: es, S, hS, hl, hs => by
    have he := hS e.lane
    rw [ofLane_self, runL] at he
    split at he
    · cases he
    rename_i T hT
    have hok := (Bool.and_eq_true _ _).mp (show (Nat.blt e.lvW (minL (es ++ rest)) && okL (es ++ rest)) = true from hl)
    have hlt : e.lvW < minL (es ++ rest) := Nat.blt_eq ▸ hok.1
    have ih := run_list c sh (P := P) (Q := Q) rest S' es (Function.update S e.lane (post c e ++ T))
      (fun l => by
        by_cases h : l = e.lane
        · subst h; rw [Function.update_self]; exact he
        · rw [Function.update_of_ne h]; rw [← ofLane_ne e es l h]; exact hS l) hok.2 (fun e' he' => hs e' (List.mem_cons_of_mem _ he'))
    have hu := bigSep_univ_update (Φ := fun l => held I c l (S l)) (Ψ := fun l => held I c l (Function.update S e.lane (post c e ++ T) l))
      e.lane fun j hj => by rw [Function.update_of_ne hj]
    have ht := held_takes (I := I) (c := c) (l := e.lane) (pre c e) hT
    iintro ⟨#Hc, H, ⟨%W, HO⟩⟩
    iintro Hk
    ihave H := hu $$ H
    icases H with ⟨Hl, Hback⟩
    ihave H := ht $$ Hl
    icases H with ⟨Hp, HT⟩
    iapply (ev_step c e sh (hs e List.mem_cons_self) (owedL c (es ++ rest)) (above_owedL c _ _ hlt) W) $$ [Hp HO]
    · isplitr; · iexact Hc
      isplitl [Hp]; · iexact Hp
      iexact HO
    iintro ⟨Hp, HO⟩
    iapply ih $$ [Hp HT HO Hback]
    · isplitr; · iexact Hc
      isplitl [Hp HT Hback]
      · iapply Hback
        rw [Function.update_self, ← held_append]
        isplitl [Hp]; · iexact Hp
        iexact HT
      iexact HO
    iexact Hk

end Cert.Moe

end
-- ==== Proof.Check.lean ====
module

public import proofs.«01_k».proof.Proof.Lane

@[expose] public section

/-! # The lists of the kernel, checked

The atoms every lane starts with, those it has between the parts of the kernel, and those it ends with;
and, by computation, that the events find the atoms they take and that waits go up. -/

noncomputable section

namespace Cert.Moe

open Cert.KernelIdeal Cert.KernelIdeal.Gen
open Idealize.ShloMosaic

/-- All the copies; the accumulator's pieces when just filled. -/
def k7 : List (Fin 7) := [0, 1, 2, 3, 4, 5, 6]
def q8 : List (Fin 8) := [0, 1, 2, 3, 4, 5, 6, 7]
def accs : List Atom := q8.map (.acc · 0)
/-- What a lane has once the partners have greeted. -/
def base : List Atom :=
  .out0 :: (k7.map .psl ++ k7.map .pout ++ k7.map (.tok false) ++ k7.map (.tok true) ++ k7.map (.exp false) ++ k7.map (.exp true))

/-- The lists between the parts: `A` after a part, `B` after the next third of the accumulator is filled. -/
def B0 (l : Fin 12) : List Atom := if l.val < 4 then accs ++ base else base
def A1 (c : Dev nD) (l : Fin 12) : List Atom := (runL c (ofLane l seg0) (B0 l)).getD []
def B1 (c : Dev nD) (l : Fin 12) : List Atom := if 4 ≤ l.val ∧ l.val < 8 then accs ++ A1 c l else A1 c l
def A2 (c : Dev nD) (l : Fin 12) : List Atom := (runL c (ofLane l seg1) (B1 c l)).getD []
def B2 (c : Dev nD) (l : Fin 12) : List Atom := if 8 ≤ l.val then accs ++ A2 c l else A2 c l
def A3 (c : Dev nD) (l : Fin 12) : List Atom := (runL c (ofLane l seg2) (B2 c l)).getD []
def A4 (c : Dev nD) (l : Fin 12) : List Atom := (runL c (ofLane l seg3) (A3 c l)).getD []

/-- The stage at which the accumulator's piece in chunk `q` was touched last. -/
def lastS (c : Dev nD) (l : Fin 12) (q : Fin 8) : Fin 4 :=
  match k7.find? fun k => Nat.beq (cS c l k).val q.val with
  | none => 3
  | some k => (sgR k).castSucc

/-- What a lane ends with. -/
def fin (c : Dev nD) (l : Fin 12) : List Atom :=
  q8.map .out ++ (q8.map fun q => .acc q (lastS c l q)) ++ k7.map .sl
    ++ k7.map (.dS false) ++ k7.map (.dR false) ++ k7.map (.dS true) ++ k7.map (.dR true)

def isNil : Option (List Atom) → Bool
  | some [] => true
  | _ => false

def chk (c : Dev nD) (l : Fin 12) : Bool :=
  match runL c (ofLane l seg0) (B0 l) with
  | none => false
  | some a1 => match runL c (ofLane l seg1) (if 4 ≤ l.val ∧ l.val < 8 then accs ++ a1 else a1) with
    | none => false
    | some a2 => match runL c (ofLane l seg2) (if 8 ≤ l.val then accs ++ a2 else a2) with
      | none => false
      | some a3 => match runL c (ofLane l seg3) a3 with
        | none => false
        | some a4 => isNil (takes (fin c l) a4)

theorem chk_all : ∀ (c : Dev nD) (l : Fin 12), chk c l = true := by decide +kernel

theorem isNil_eq {o : Option (List Atom)} (h : isNil o = true) : o = some [] := by
  rcases o with _ | _ | _ <;> first | rfl | cases h

theorem chk_run (c : Dev nD) (l : Fin 12) :
    runL c (ofLane l seg0) (B0 l) = some (A1 c l) ∧ runL c (ofLane l seg1) (B1 c l) = some (A2 c l)
      ∧ runL c (ofLane l seg2) (B2 c l) = some (A3 c l) ∧ runL c (ofLane l seg3) (A3 c l) = some (A4 c l)
      ∧ takes (fin c l) (A4 c l) = some [] := by
  have h := chk_all c l
  unfold chk at h
  split at h
  · cases h
  rename_i a1 h1
  have e1 : A1 c l = a1 := by unfold A1; rw [h1]; rfl
  split at h
  · cases h
  rename_i a2 h2
  have f2 : runL c (ofLane l seg1) (B1 c l) = some a2 := by unfold B1; rw [e1]; exact h2
  have e2 : A2 c l = a2 := by unfold A2; rw [f2]; rfl
  split at h
  · cases h
  rename_i a3 h3
  have f3 : runL c (ofLane l seg2) (B2 c l) = some a3 := by unfold B2; rw [e2]; exact h3
  have e3 : A3 c l = a3 := by unfold A3; rw [f3]; rfl
  split at h
  · cases h
  rename_i a4 h4
  have f4 : runL c (ofLane l seg3) (A3 c l) = some a4 := by rw [e3]; exact h4
  have e4 : A4 c l = a4 := by unfold A4; rw [f4]; rfl
  exact ⟨by rw [e1]; exact h1, by rw [e2]; exact f2, by rw [e3]; exact f3, by rw [e4]; exact f4, by rw [e4]; exact isNil_eq h⟩

/-- All the events of the kernel. -/
def segs : List Ev := seg0 ++ (seg1 ++ (seg2 ++ seg3))

theorem ok_segs : okL segs = true := by decide +kernel
theorem min_segs : 1 < minL segs := by decide +kernel

/-- The result is staged only in the last part. -/
theorem no_stage : (seg0 ++ seg1 ++ seg2).all (fun e => !e.isStage) = true := by decide +kernel

end Cert.Moe

end
-- ==== Proof.Pieces.lean ====
module

public import proofs.«01_k».proof.Proof.Check

@[expose] public section

/-! # Cutting the buffers in pieces and joining them -/

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section General
variable {ℓ : Loc nD τ sig} {T : Type} [Fintype T]

/-- A set of elements cut along a family of disjoint sets covering it. -/
theorem cut (S : Finset (Idx ℓ)) (K : T → Finset (Idx ℓ)) (f : Buf (Elt F) ℓ)
    (hd : ∀ t t' i, i ∈ K t → i ∈ K t' → t = t') (hs : ∀ i, i ∈ S ↔ ∃ t, i ∈ K t) :
    (ℓ ↦[S]{fullShare} f : sProp 𝕄) = bigSep Finset.univ fun t => ℓ ↦[K t]{fullShare} f := by
  classical
  rw [← pointsTo_biUnion Finset.univ K fun t _ t' _ ne => Finset.disjoint_left.mpr fun i h h' => ne (hd t t' i h h')]
  congr 1
  ext i
  rw [hs, Finset.mem_biUnion]
  exact ⟨fun ⟨t, h⟩ => ⟨t, Finset.mem_univ _, h⟩, fun ⟨t, _, h⟩ => ⟨t, h⟩⟩

/-- Pieces held at any contents are joined into a set of elements held at some contents. -/
theorem uncut (S : Finset (Idx ℓ)) (K : T → Finset (Idx ℓ)) (fs : T → Buf (Elt F) ℓ) (f₀ : Buf (Elt F) ℓ)
    (hd : ∀ t t' i, i ∈ K t → i ∈ K t' → t = t') (hs : ∀ i, i ∈ S ↔ ∃ t, i ∈ K t) :
    bigSep Finset.univ (fun t => ℓ ↦[K t]{fullShare} fs t) ⊢ (iprop(∃ g, ℓ ↦[S]{fullShare} g) : sProp 𝕄) := by
  classical
  have h := pointsTo_biUnion_join (Ix := Unit) (Name := ℕ) (U := UU) (Lvl := ℕ) (q := fullShare) Finset.univ K fs f₀
    fun t _ t' _ ne => Finset.disjoint_left.mpr fun i h h' => ne (hd t t' i h h')
  have e : Finset.univ.biUnion K = S := by
    ext i
    rw [hs, Finset.mem_biUnion]
    exact ⟨fun ⟨t, _, h⟩ => ⟨t, h⟩, fun ⟨t, h⟩ => ⟨t, Finset.mem_univ _, h⟩⟩
  rw [e] at h
  refine h.trans ?_
  iintro ⟨%g, -, H⟩
  iexists g
  iexact H

end General

/-! ## Which piece an element is in -/

/-- The lane and the chunk of an element. -/
def keyP (i : S2048x1024.Idx) : Fin 12 × Fin 8 :=
  (Fin.ofNat 12 (4 * (cj i).val + (i 0).val % 256 / 64), Fin.ofNat 8 ((i 0).val / 256))

theorem key_ixP (l : Fin 12) (q : Fin 8) (x : (SW l).Idx) : keyP (ixP l q x) = (l, q) := by
  have h2 : (x 0).val < 64 := (x 0).isLt
  have hr := rows_lt l q x
  have hl := l.isLt
  have hq := q.isLt
  refine Prod.ext (Fin.ext ?_) (Fin.ext ?_)
  · show (4 * (cj (ixP l q x)).val + (256 * q.val + 64 * hh l + (x 0).val) % 2048 % 256 / 64) % 12 = l.val
    rw [cj_ixP, Nat.mod_eq_of_lt hr]
    show (4 * (l.val / 4) + (256 * q.val + 64 * (l.val % 4) + (x 0).val) % 256 / 64) % 12 = l.val
    omega
  · show (256 * q.val + 64 * hh l + (x 0).val) % 2048 / 256 % 8 = q.val
    rw [Nat.mod_eq_of_lt hr]
    have hh4 : hh l < 4 := Nat.mod_lt _ (by decide)
    omega

/-- The rows and columns of an element within its piece are in bounds. -/
theorem col_wd (i : S2048x1024.Idx) : (i 1).val - cl (keyP i).1 < wd (keyP i).1 ∧ cl (keyP i).1 ≤ (i 1).val := by
  have h1 : (i 1).val < 1024 := (i 1).isLt
  have h0 : (i 0).val < 2048 := (i 0).isLt
  have e : (keyP i).1.val = 4 * ((i 1).val / 384) + (i 0).val % 256 / 64 := by
    show (4 * ((i 1).val / 384 % 3) + (i 0).val % 256 / 64) % 12 = _
    omega
  unfold cl wd
  rw [e]
  split <;> omega

/-- Every element is in the piece of its key. -/
theorem ixP_key (i : S2048x1024.Idx) : ∃ x : (SW (keyP i).1).Idx, ixP (keyP i).1 (keyP i).2 x = i := by
  have h1 : (i 1).val < 1024 := (i 1).isLt
  have h0 : (i 0).val < 2048 := (i 0).isLt
  obtain ⟨hw, hc⟩ := col_wd i
  have e : (keyP i).1.val % 4 = (i 0).val % 256 / 64 := by
    show (4 * ((i 1).val / 384 % 3) + (i 0).val % 256 / 64) % 12 % 4 = _
    omega
  have e2 : (keyP i).2.val = (i 0).val / 256 := by
    show (i 0).val / 256 % 8 = _
    omega
  refine ⟨fun | 0 => (⟨(i 0).val % 64, Nat.mod_lt _ (by decide)⟩ : Fin 64) | 1 => (⟨(i 1).val - cl (keyP i).1, hw⟩ : Fin (wd (keyP i).1)), ?_⟩
  funext a
  refine Fin.ext ?_
  fin_cases a
  · show (256 * (keyP i).2.val + 64 * ((keyP i).1.val % 4) + (i 0).val % 64) % 2048 = (i 0).val
    rw [e, e2]; omega
  · show (cl (keyP i).1 + ((i 1).val - cl (keyP i).1)) % 1024 = (i 1).val
    omega

theorem mem_accP (l : Fin 12) (q : Fin 8) (i : S2048x1024.Idx) : i ∈ (accP l (atP l q)).view.set ↔ keyP i = (l, q) := by
  constructor
  · intro h
    obtain ⟨x, -, rfl⟩ := Finset.mem_map.mp h
    exact (congrArg keyP (emb_eq l q x)).trans (key_ixP l q x)
  · intro h
    obtain ⟨x, hx⟩ := ixP_key i
    have h1 : (keyP i).1 = l := congrArg Prod.fst h
    have h2 : (keyP i).2 = q := congrArg Prod.snd h
    subst h1 h2
    exact Finset.mem_map.mpr ⟨x, Finset.mem_univ _, (emb_eq _ _ x).trans hx⟩
theorem mem_outP (l : Fin 12) (q : Fin 8) (i : S2048x1024.Idx) : i ∈ (outP l (atP l q)).view.set ↔ keyP i = (l, q) := mem_accP l q i

theorem mem_slP {l : Fin 12} {k : Fin 7} {i : S12x7x64x384.Idx} (h : i ∈ (slP l k).view.set) : l = i 0 ∧ k = i 1 := by
  obtain ⟨x, -, rfl⟩ := Finset.mem_map.mp h
  have e : (slP l k).view.emb x = ixS l k (x 0).val (x 1).val := by
    show (slR l k).emb (Shape.reshapeEquiv _ x) = _
    rw [reshape_up2, slot_emb]
    rfl
  rw [e]
  exact ⟨rfl, rfl⟩

/-! ## The accumulator -/

theorem jj_key (i : S2048x1024.Idx) : jj (keyP i).1 = cj i := by
  have h1 : (i 1).val < 1024 := (i 1).isLt
  have h0 : (i 0).val < 2048 := (i 0).isLt
  refine Fin.ext ?_
  show (4 * ((i 1).val / 384 % 3) + (i 0).val % 256 / 64) % 12 / 4 = (i 1).val / 384 % 3
  omega

/-- The elements of a column group. -/
def colS (g : Fin 3) : Finset S2048x1024.Idx := Finset.univ.filter fun i => cj i = g

/-- The accumulator's location on a device, the result's, the receive slots'. -/
abbrev accL (c : Dev nD) : Loc nD τ sig := (c : Thread nD τ).loc cc0_scratch0
abbrev outL (c : Dev nD) : Loc nD τ sig := (c : Thread nD τ).loc cc0_stg5_0
abbrev rcL (c : Dev nD) : Loc nD τ sig := (c : Thread nD τ).loc cc0_scratch2

/-- The accumulator is its three column groups. -/
theorem acc_cols (c : Dev nD) (f : Vec F S2048x1024 .bf16) :
    (accL c ↦{fullShare} f : sProp 𝕄) = iprop((accL c ↦[colS 0]{fullShare} f) ∗ (accL c ↦[colS 1]{fullShare} f) ∗ (accL c ↦[colS 2]{fullShare} f)) := by
  refine (cut (ℓ := accL c) Finset.univ colS f (fun t t' i h h' => ?_) (fun i => ?_)).trans ?_
  · exact (Finset.mem_filter.mp h).2.symm.trans (Finset.mem_filter.mp h').2
  · exact ⟨fun _ => ⟨cj i, Finset.mem_filter.mpr ⟨Finset.mem_univ _, rfl⟩⟩, fun _ => Finset.mem_univ _⟩
  · rw [bigSep_univ_eq_bigSepL [0, 1, 2] (by decide) (by decide), bigSepL_cons_cons, bigSepL_cons_cons, bigSepL_singleton]
    rfl

/-- A column group is the pieces of its lanes. -/
theorem col_lanes (c : Dev nD) (g : Fin 3) (f : Vec F S2048x1024 .bf16) :
    (accL c ↦[colS g]{fullShare} f : sProp 𝕄)
      = bigSep Finset.univ fun l => if jj l = g then bigSep Finset.univ (fun q => accPt c l q f) else iprop(emp) := by
  refine (cut (ℓ := accL c) (T := Fin 12 × Fin 8) (colS g) (fun p => if jj p.1 = g then (accP p.1 (atP p.1 p.2)).view.set else ∅) f
    (fun t t' i h h' => ?_) (fun i => ?_)).trans ?_
  · dsimp only at h h'
    split at h
    · split at h'
      · exact ((mem_accP _ _ i).mp h).symm.trans ((mem_accP _ _ i).mp h')
      · exact absurd h' (Finset.notMem_empty _)
    · exact absurd h (Finset.notMem_empty _)
  · constructor
    · intro h
      refine ⟨keyP i, ?_⟩
      rw [if_pos ((jj_key i).trans (Finset.mem_filter.mp h).2)]
      exact (mem_accP _ _ i).mpr rfl
    · rintro ⟨t, h⟩
      split at h
      · rename_i hg
        have := (mem_accP _ _ i).mp h
        refine Finset.mem_filter.mpr ⟨Finset.mem_univ _, ?_⟩
        rw [← jj_key, this]; exact hg
      · exact absurd h (Finset.notMem_empty _)
  · rw [bigSep_univ_prod]
    refine bigSep_congr fun l hl => ?_
    by_cases hg : jj l = g
    · rw [if_pos hg]
      refine bigSep_congr fun q hq => ?_
      show (accL c ↦[if jj l = g then (accP l (atP l q)).view.set else ∅]{fullShare} f : sProp 𝕄) = _
      rw [if_pos hg]
      rfl
    · rw [if_neg hg]
      refine (bigSep_congr fun q hq => ?_).trans (bigSep_emp_const _)
      show (accL c ↦[if jj l = g then (accP l (atP l q)).view.set else ∅]{fullShare} f : sProp 𝕄) = _
      rw [if_neg hg, pointsTo_empty]
      rfl

/-- The pieces of the accumulator at any contents are the accumulator at some. -/
theorem acc_join (c : Dev nD) (fs : Fin 12 → Fin 8 → Vec F S2048x1024 .bf16) :
    (bigSep Finset.univ fun l => bigSep Finset.univ fun q => accPt c l q (fs l q)) ⊢ (iprop(∃ g, accL c ↦{fullShare} g) : sProp 𝕄) := by
  rw [← bigSep_univ_prod fun p : Fin 12 × Fin 8 => accPt c p.1 p.2 (fs p.1 p.2)]
  refine uncut (ℓ := accL c) (T := Fin 12 × Fin 8) Finset.univ (fun p => (accP p.1 (atP p.1 p.2)).view.set) (fun p => fs p.1 p.2) (fs 0 0)
    (fun t t' i h h' => ((mem_accP _ _ i).mp h).symm.trans ((mem_accP _ _ i).mp h')) fun i => ?_
  exact ⟨fun _ => ⟨keyP i, (mem_accP _ _ i).mpr rfl⟩, fun _ => Finset.mem_univ _⟩

/-! ## The result -/

/-- The result is its pieces. -/
theorem out_cut (c : Dev nD) (f : Vec F S2048x1024 .bf16) :
    (outL c ↦{fullShare} f : sProp 𝕄) = bigSep Finset.univ fun l => bigSep Finset.univ fun q => outPt c l q f := by
  rw [← bigSep_univ_prod fun p : Fin 12 × Fin 8 => outPt c p.1 p.2 f]
  refine cut (ℓ := outL c) (T := Fin 12 × Fin 8) Finset.univ (fun p => (outP p.1 (atP p.1 p.2)).view.set) f
    (fun t t' i h h' => ((mem_outP _ _ i).mp h).symm.trans ((mem_outP _ _ i).mp h')) fun i => ?_
  exact ⟨fun _ => ⟨keyP i, (mem_outP _ _ i).mpr rfl⟩, fun _ => Finset.mem_univ _⟩

/-- A lane's chunks as seen from a device: its own, and the one each partner of the all-gather sends along. -/
def chunk (c : Dev nD) (l : Fin 12) : Option (Fin 7) → Fin 8
  | none => cB c
  | some x => cA (pr c (mA l x)) l x

theorem chunk_bij : ∀ (c : Dev nD) (l : Fin 12), Function.Injective (chunk c l) := by
  have h : ∀ (c : Dev nD) (l : Fin 12) (a b : Option (Fin 7)), chunk c l a = chunk c l b → a = b := by decide +kernel
  exact fun c l a b => h c l a b

/-- The result's pieces, lane by lane, as they are given away and kept. -/
theorem out_give (c : Dev nD) (f : Vec F S2048x1024 .bf16) :
    (outL c ↦{fullShare} f : sProp 𝕄)
      = bigSep Finset.univ fun l => iprop(outPt c l (cB c) f ∗ bigSep Finset.univ fun x => outPt c l (cA (pr c (mA l x)) l x) f) := by
  rw [out_cut]
  refine bigSep_congr fun l _ => ?_
  have hb : Function.Bijective (chunk c l) := (Fintype.bijective_iff_injective_and_card _).mpr ⟨chunk_bij c l, rfl⟩
  rw [bigSep_univ_equiv (Equiv.ofBijective _ hb) fun q => outPt c l q f]
  rw [bigSep_univ_equiv (Equiv.optionEquivSumPUnit.{0} (Fin 7)).symm, bigSep_univ_sum]
  refine (BI.equiv_iff.mp ⟨BI.sep_comm, BI.sep_comm⟩).trans ?_
  congr 1
  rw [bigSep_univ_eq_bigSepL [PUnit.unit] (by decide) (by decide), bigSepL_singleton]
  rfl

/-! ## The receive slots -/

/-- What of the receive buffer no slot covers. -/
def slotsS : Finset S12x7x64x384.Idx := Finset.univ.biUnion fun p : Fin 12 × Fin 7 => (slP p.1 p.2).view.set

theorem slot_cut (c : Dev nD) (f : Vec F S12x7x64x384 .bf16) :
    (rcL c ↦[slotsS]{fullShare} f : sProp 𝕄) = bigSep Finset.univ fun p : Fin 12 × Fin 7 => slotPt c p.1 p.2 f := by
  refine cut (ℓ := rcL c) (T := Fin 12 × Fin 7) slotsS (fun p => (slP p.1 p.2).view.set) f (fun t t' i h h' => ?_) fun i => ?_
  · obtain ⟨a, b⟩ := mem_slP h
    obtain ⟨a', b'⟩ := mem_slP h'
    exact Prod.ext (a.trans a'.symm) (b.trans b'.symm)
  · unfold slotsS
    rw [Finset.mem_biUnion]
    exact ⟨fun ⟨t, _, h⟩ => ⟨t, h⟩, fun ⟨t, h⟩ => ⟨t, Finset.mem_univ _, h⟩⟩

/-- The receive buffer is its slots and what no slot covers. -/
theorem rc_split (c : Dev nD) (f : Vec F S12x7x64x384 .bf16) :
    (rcL c ↦{fullShare} f : sProp 𝕄)
      ⊢ iprop((bigSep Finset.univ fun p : Fin 12 × Fin 7 => slotPt c p.1 p.2 f) ∗ (rcL c ↦[Finset.univ \ slotsS]{fullShare} f)) := by
  rw [← slot_cut]
  exact (pointsTo_split_subset (ℓ := rcL c) (Finset.subset_univ slotsS)).1

/-- And back. -/
theorem rc_join (c : Dev nD) (f g : Vec F S12x7x64x384 .bf16) :
    iprop((bigSep Finset.univ fun p : Fin 12 × Fin 7 => slotPt c p.1 p.2 g) ∗ (rcL c ↦[Finset.univ \ slotsS]{fullShare} f))
      ⊢ (iprop(∃ h, rcL c ↦{fullShare} h) : sProp 𝕄) := by
  rw [← slot_cut]
  refine (pointsTo_join_subset (ℓ := rcL c) (Finset.subset_univ slotsS)).trans ?_
  iintro H
  iexists _
  iexact H

/-! ## The greeting -/

theorem mR_ax : ∀ (l : Fin 12) (k : Fin 7), ∃ d : Fin 3, mR l k = ax d ∧ ∀ e, mR l k = ax e → e = d := by decide
theorem mA_ax : ∀ (l : Fin 12) (k : Fin 7), ∃ d : Fin 3, mA l k = ax d ∧ ∀ e, mA l k = ax e → e = d := by decide

omit [FloatOps F] in
/-- A proposition that takes a number among the three axes, cut along the axes. -/
theorem along_axes (m : ℕ) (Φ : ℕ → sProp 𝕄) (h : ∃ d : Fin 3, m = ax d ∧ ∀ e, m = ax e → e = d) :
    (Φ m : sProp 𝕄) = bigSep Finset.univ fun d : Fin 3 => if m = ax d then Φ (ax d) else iprop(emp) := by
  obtain ⟨d, rfl, hd⟩ := h
  have e : (fun e : Fin 3 => if ax d = ax e then Φ (ax e) else iprop(emp)) = fun e => if e = d then Φ (ax e) else (iprop(emp) : sProp 𝕄) := by
    funext e
    by_cases h : e = d
    · subst h; rw [if_pos rfl, if_pos rfl]
    · rw [if_neg h, if_neg fun h' => h (hd e h')]
  rw [e, bigSep_univ_at (fun e : Fin 3 => if e = d then Φ (ax e) else iprop(emp)) d]
  have e' : (bigSep (Finset.univ.erase d) fun e : Fin 3 => if e = d then Φ (ax e) else (iprop(emp) : sProp 𝕄)) = iprop(emp) :=
    (bigSep_congr fun e he => if_neg (Finset.ne_of_mem_erase he)).trans (bigSep_emp_const _)
  rw [e', if_pos rfl]
  exact (sep_emp_eq _).symm

/-- What all the partners hand over, or what a device hands to all of them, copy by copy. -/
theorem greet (c : Dev nD) (Φ Ψ : ℕ → Fin 12 × Fin 7 → sProp 𝕄) :
    (bigSep Finset.univ fun d : Fin 3 => bigSep (Finset.univ : Finset (Fin 12 × Fin 7)) fun p =>
      iprop((if mR p.1 p.2 = ax d then Φ (ax d) p else iprop(emp)) ∗ (if mA p.1 p.2 = ax d then Ψ (ax d) p else iprop(emp))) : sProp 𝕄)
    = bigSep Finset.univ fun p : Fin 12 × Fin 7 => iprop(Φ (mR p.1 p.2) p ∗ Ψ (mA p.1 p.2) p) := by
  rw [bigSep_univ_comm]
  refine bigSep_congr fun p _ => ?_
  rw [bigSep_sep', ← along_axes (mR p.1 p.2) (fun m => Φ m p) (mR_ax _ _), ← along_axes (mA p.1 p.2) (fun m => Ψ m p) (mA_ax _ _)]

end Cert.Moe

end
-- ==== Proof.Gather.lean ====
module

public import proofs.«01_k».proof.Proof.Pieces

@[expose] public section

/-! # From a device's resources to those of its lanes, and back -/

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Ins F)

/-- A lane's holdings along a list are the product along it. -/
theorem held_list {X : Type} (c : Dev nD) (l : Fin 12) (g : X → Atom) : ∀ xs : List X,
    held I c l (xs.map g) = bigSepL xs fun x => holds I c l (g x)
  | [] => rfl
  | [x] => sep_emp_eq _
  | x :: y :: xs => by
    rw [bigSepL_cons_cons, ← held_list c l g (y :: xs)]
    rfl

theorem held_k7 (c : Dev nD) (l : Fin 12) (g : Fin 7 → Atom) :
    held I c l (k7.map g) = bigSep Finset.univ fun k => holds I c l (g k) := by
  rw [held_list, bigSep_univ_eq_bigSepL k7 (by decide) (by decide)]

theorem held_q8 (c : Dev nD) (l : Fin 12) (g : Fin 8 → Atom) :
    held I c l (q8.map g) = bigSep Finset.univ fun q => holds I c l (g q) := by
  rw [held_list, bigSep_univ_eq_bigSepL q8 (by decide) (by decide)]

/-- A product along all cells, as one along the lanes' copies. -/
theorem four (Φ : Fin 4 × Fin 12 × Fin 7 → sProp 𝕄) :
    bigSep Finset.univ Φ = bigSep Finset.univ fun p : Fin 12 × Fin 7 => iprop(Φ (0, p) ∗ Φ (1, p) ∗ Φ (2, p) ∗ Φ (3, p)) := by
  rw [bigSep_univ_prod, bigSep_univ_comm]
  refine bigSep_congr fun p _ => ?_
  rw [bigSep_univ_eq_bigSepL [0, 1, 2, 3] (by decide) (by decide), bigSepL_cons_cons, bigSepL_cons_cons, bigSepL_cons_cons, bigSepL_singleton]
  rfl

/-- The device the duty of a cell's copy is due at. -/
def tgt (c : Dev nD) : Fin 4 × Fin 12 × Fin 7 → Dev nD
  | (0, _, _) => c
  | (1, l, k) => pr c (mR l k)
  | (2, _, _) => c
  | (3, l, k) => pr c (mA l k)

/-- What a device holds of each cell from the start: its place there, and the token of the duty it fulfils. -/
def start (c : Dev nD) : sProp 𝕄 :=
  iprop((bigSep Finset.univ fun p : Fin 4 × Fin 12 × Fin 7 => atPos ER (kc c (some p)) 0 ∅ 0)
    ∗ (bigSep Finset.univ fun p : Fin 4 × Fin 12 × Fin 7 => dutyTok ER (kc (tgt c p) (some p)) 0 0))

/-- The credits of the cells the partners fill. -/
def creds (c : Dev nD) : sProp 𝕄 :=
  bigSep Finset.univ fun p : Fin 12 × Fin 7 => iprop(cred (tallyAt (kc c (some (1, p))) () (amt p.1)) ∗ cred (tallyAt (kc c (some (3, p))) () (amt p.1)))

/-- What the partners have handed over. -/
def given (c : Dev nD) : sProp 𝕄 :=
  bigSep Finset.univ fun p : Fin 12 × Fin 7 => iprop((∃ f, slotPt (pr c (mR p.1 p.2)) p.1 p.2 f) ∗ (∃ f, outPt (pr c (mA p.1 p.2)) p.1 (cA c p.1 p.2) f))

/-- The holdings of a copy. -/
theorem gather_one (c : Dev nD) (l : Fin 12) (k : Fin 7) :
    iprop((atPos ER (kc c (some (0, l, k))) 0 ∅ 0 ∗ atPos ER (kc c (some (1, l, k))) 0 ∅ 0 ∗ atPos ER (kc c (some (2, l, k))) 0 ∅ 0 ∗ atPos ER (kc c (some (3, l, k))) 0 ∅ 0)
      ∗ (dutyTok ER (kc (tgt c (0, l, k)) (some (0, l, k))) 0 0 ∗ dutyTok ER (kc (tgt c (1, l, k)) (some (1, l, k))) 0 0
        ∗ dutyTok ER (kc (tgt c (2, l, k)) (some (2, l, k))) 0 0 ∗ dutyTok ER (kc (tgt c (3, l, k)) (some (3, l, k))) 0 0)
      ∗ (cred (tallyAt (kc c (some (1, l, k))) () (amt l)) ∗ cred (tallyAt (kc c (some (3, l, k))) () (amt l)))
      ∗ ((∃ f, slotPt (pr c (mR l k)) l k f) ∗ (∃ f, outPt (pr c (mA l k)) l (cA c l k) f)))
    ⊢ (iprop(holds I c l (.psl k) ∗ holds I c l (.pout k) ∗ holds I c l (.tok false k) ∗ holds I c l (.tok true k)
        ∗ holds I c l (.exp false k) ∗ holds I c l (.exp true k)) : sProp 𝕄) := by
  rw [show holds I c l (.psl k) = iprop(∃ f, slotPt (pr c (mR l k)) l k f) from rfl,
    show holds I c l (.pout k) = iprop(∃ f, outPt (pr c (mA l k)) l (cA c l k) f) from rfl,
    show holds I c l (.tok false k) = iprop(dutyTok ER (kc (tgt c (0, l, k)) (some (0, l, k))) 0 0
      ∗ dutyTok ER (kc (tgt c (1, l, k)) (some (1, l, k))) 0 0 ∗ atPos ER (kc c (some (0, l, k))) 0 ∅ 0) from rfl,
    show holds I c l (.tok true k) = iprop(dutyTok ER (kc (tgt c (2, l, k)) (some (2, l, k))) 0 0
      ∗ dutyTok ER (kc (tgt c (3, l, k)) (some (3, l, k))) 0 0 ∗ atPos ER (kc c (some (2, l, k))) 0 ∅ 0) from rfl,
    show holds I c l (.exp false k) = iprop(cred (tallyAt (kc c (some (1, l, k))) () (amt l)) ∗ atPos ER (kc c (some (1, l, k))) 0 ∅ 0) from rfl,
    show holds I c l (.exp true k) = iprop(cred (tallyAt (kc c (some (3, l, k))) () (amt l)) ∗ atPos ER (kc c (some (3, l, k))) 0 ∅ 0) from rfl]
  iintro ⟨⟨Ha0, Ha1, Ha2, Ha3⟩, ⟨Ht0, Ht1, Ht2, Ht3⟩, ⟨Hc1, Hc3⟩, Hs, Ho⟩
  isplitl [Hs]; · iexact Hs
  isplitl [Ho]; · iexact Ho
  isplitl [Ht0 Ht1 Ha0]
  · isplitl [Ht0]; · iexact Ht0
    isplitl [Ht1]; · iexact Ht1
    iexact Ha0
  isplitl [Ht2 Ht3 Ha2]
  · isplitl [Ht2]; · iexact Ht2
    isplitl [Ht3]; · iexact Ht3
    iexact Ha2
  isplitl [Hc1 Ha1]
  · isplitl [Hc1]; · iexact Hc1
    iexact Ha1
  · isplitl [Hc3]; · iexact Hc3
    iexact Ha3

/-- A lane's base, from its copies' holdings and the piece of the result it keeps. -/
theorem base_lane (c : Dev nD) (l : Fin 12) :
    iprop((∃ f, outPt c l (cB c) f) ∗ bigSep Finset.univ fun k => iprop(holds I c l (.psl k) ∗ holds I c l (.pout k) ∗ holds I c l (.tok false k)
        ∗ holds I c l (.tok true k) ∗ holds I c l (.exp false k) ∗ holds I c l (.exp true k)))
    ⊢ (held I c l base : sProp 𝕄) := by
  rw [bigSep_sep', bigSep_sep', bigSep_sep', bigSep_sep', bigSep_sep', ← held_k7, ← held_k7, ← held_k7, ← held_k7, ← held_k7, ← held_k7]
  rw [show held I c l base = iprop((∃ f, outPt c l (cB c) f) ∗ held I c l (k7.map .psl ++ k7.map .pout ++ k7.map (.tok false)
      ++ k7.map (.tok true) ++ k7.map (.exp false) ++ k7.map (.exp true))) from rfl,
    ← held_append, ← held_append, ← held_append, ← held_append, ← held_append]
  iintro ⟨Ho, H1, H2, H3, H4, H5, H6⟩
  isplitl [Ho]; · iexact Ho
  isplitr [H6]
  · isplitr [H5]
    · isplitr [H4]
      · isplitr [H3]
        · isplitl [H1]; · iexact H1
          iexact H2
        · iexact H3
      · iexact H4
    · iexact H5
  · iexact H6

/-- Every lane's base. -/
theorem gather (c : Dev nD) :
    iprop(start c ∗ creds c ∗ given c ∗ (bigSep Finset.univ fun l => iprop(∃ f, outPt c l (cB c) f)))
      ⊢ (bigSep Finset.univ fun l => held I c l base : sProp 𝕄) := by
  unfold start
  rw [four, four]
  have h : iprop((bigSep Finset.univ fun l => iprop(∃ f, outPt c l (cB c) f))
      ∗ bigSep Finset.univ fun p : Fin 12 × Fin 7 => iprop(holds I c p.1 (.psl p.2) ∗ holds I c p.1 (.pout p.2) ∗ holds I c p.1 (.tok false p.2)
        ∗ holds I c p.1 (.tok true p.2) ∗ holds I c p.1 (.exp false p.2) ∗ holds I c p.1 (.exp true p.2)))
      ⊢ (bigSep Finset.univ fun l => held I c l base : sProp 𝕄) := by
    rw [bigSep_univ_prod, ← bigSep_sep']
    exact bigSep_mono fun l _ => base_lane I c l
  have h2 : iprop((bigSep Finset.univ fun p : Fin 12 × Fin 7 => iprop(atPos ER (kc c (some (0, p))) 0 ∅ 0 ∗ atPos ER (kc c (some (1, p))) 0 ∅ 0
        ∗ atPos ER (kc c (some (2, p))) 0 ∅ 0 ∗ atPos ER (kc c (some (3, p))) 0 ∅ 0))
      ∗ (bigSep Finset.univ fun p : Fin 12 × Fin 7 => iprop(dutyTok ER (kc (tgt c (0, p)) (some (0, p))) 0 0 ∗ dutyTok ER (kc (tgt c (1, p)) (some (1, p))) 0 0
        ∗ dutyTok ER (kc (tgt c (2, p)) (some (2, p))) 0 0 ∗ dutyTok ER (kc (tgt c (3, p)) (some (3, p))) 0 0))
      ∗ creds c ∗ given c)
      ⊢ (bigSep Finset.univ fun p : Fin 12 × Fin 7 => iprop(holds I c p.1 (.psl p.2) ∗ holds I c p.1 (.pout p.2) ∗ holds I c p.1 (.tok false p.2)
        ∗ holds I c p.1 (.tok true p.2) ∗ holds I c p.1 (.exp false p.2) ∗ holds I c p.1 (.exp true p.2)) : sProp 𝕄) := by
    unfold creds given
    rw [← bigSep_sep', ← bigSep_sep', ← bigSep_sep']
    exact bigSep_mono fun p _ => gather_one I c p.1 p.2
  iintro ⟨⟨Ha, Ht⟩, Hc, Hg, Ho⟩
  iapply h
  isplitl [Ho]; · iexact Ho
  iapply h2
  isplitl [Ha]; · iexact Ha
  isplitl [Ht]; · iexact Ht
  isplitl [Hc]; · iexact Hc
  iexact Hg

/-- A lane's pieces of the accumulator added to its holdings, if it is in the column group. -/
theorem add_lane (c : Dev nD) (g : Fin 3) (l : Fin 12) (A : List Atom) :
    iprop(held I c l A ∗ if jj l = g then bigSep Finset.univ (fun q => accPt c l q (acc0 I c)) else iprop(emp))
      ⊢ (held I c l (if jj l = g then accs ++ A else A) : sProp 𝕄) := by
  by_cases h : jj l = g
  · rw [if_pos h, if_pos h, ← held_append, accs, held_q8]
    iintro ⟨Ha, Hb⟩
    isplitl [Hb]; · iexact Hb
    iexact Ha
  · rw [if_neg h, if_neg h]
    iintro ⟨Ha, -⟩
    iexact Ha

/-- A column group's pieces added to the lanes of the group. -/
theorem add_col (c : Dev nD) (g : Fin 3) (A : Fin 12 → List Atom) :
    iprop((bigSep Finset.univ fun l => held I c l (A l)) ∗ (accL c ↦[colS g]{fullShare} acc0 I c))
      ⊢ (bigSep Finset.univ fun l => held I c l (if jj l = g then accs ++ A l else A l) : sProp 𝕄) := by
  rw [col_lanes, ← bigSep_sep']
  exact bigSep_mono fun l _ => add_lane I c g l (A l)

/-- What a lane ends with, by kind. -/
theorem fin_lane (c : Dev nD) (l : Fin 12) :
    held I c l (A4 c l) ⊢ (iprop((bigSep Finset.univ fun q => outPt c l q (outV I))
      ∗ (bigSep Finset.univ fun q => accPt c l q (accV I (lastS c l q).val c))
      ∗ bigSep Finset.univ fun k => iprop(slotPt c l k (recV I c)
        ∗ (semVal (kc c (some (0, l, k))) 0 ∗ semVal (kc c (some (1, l, k))) 0 ∗ semVal (kc c (some (2, l, k))) 0 ∗ semVal (kc c (some (3, l, k))) 0))) : sProp 𝕄) := by
  have h : held I c l (A4 c l) ⊢ iprop(held I c l (fin c l) ∗ held I c l []) := held_takes (fin c l) (chk_run c l).2.2.2.2
  refine h.trans ?_
  unfold fin
  rw [← held_append, ← held_append, ← held_append, ← held_append, ← held_append, ← held_append, held_q8, held_q8, held_k7, held_k7, held_k7, held_k7, held_k7,
    bigSep_sep', bigSep_sep', bigSep_sep', bigSep_sep']
  iintro ⟨⟨⟨⟨⟨⟨⟨Ho, Ha⟩, Hs⟩, H0⟩, H1⟩, H2⟩, H3⟩, -⟩
  isplitl [Ho]; · iexact Ho
  isplitl [Ha]; · iexact Ha
  isplitl [Hs]; · iexact Hs
  isplitl [H0]; · iexact H0
  isplitl [H1]; · iexact H1
  isplitl [H2]; · iexact H2
  iexact H3

/-- What a device ends with: the whole result, the accumulator, the slots, the cells at rest. -/
theorem finish (c : Dev nD) (f : Vec F S12x7x64x384 .bf16) :
    iprop((bigSep Finset.univ fun l => held I c l (A4 c l)) ∗ (rcL c ↦[Finset.univ \ slotsS]{fullShare} f))
      ⊢ (iprop((outL c ↦{fullShare} outV I) ∗ (∃ g, accL c ↦{fullShare} g) ∗ (∃ g, rcL c ↦{fullShare} g)
        ∗ bigSep Finset.univ fun p : Fin 4 × Fin 12 × Fin 7 => semVal (kc c (some p)) 0) : sProp 𝕄) := by
  have h : (bigSep Finset.univ fun l => held I c l (A4 c l)) ⊢ (iprop((outL c ↦{fullShare} outV I)
      ∗ (bigSep Finset.univ fun l => bigSep Finset.univ fun q => accPt c l q (accV I (lastS c l q).val c))
      ∗ (bigSep Finset.univ fun p : Fin 12 × Fin 7 => slotPt c p.1 p.2 (recV I c))
      ∗ bigSep Finset.univ fun p : Fin 4 × Fin 12 × Fin 7 => semVal (kc c (some p)) 0) : sProp 𝕄) := by
    rw [four, ← bigSep_sep', bigSep_univ_prod, out_cut, ← bigSep_sep', ← bigSep_sep']
    exact bigSep_mono fun l _ => fin_lane I c l
  iintro ⟨H, Hr⟩
  ihave H' := h $$ H
  icases H' with ⟨Ho, Ha, Hs, Hv⟩
  isplitl [Ho]; · iexact Ho
  isplitl [Ha]
  · iapply (acc_join c fun l q => accV I (lastS c l q).val c) $$ Ha
  isplitl [Hs Hr]
  · iapply (rc_join c f (recV I c))
    isplitl [Hs]; · iexact Hs
    iexact Hr
  iexact Hv

end Cert.Moe

end
-- ==== Proof.Local.lean ====
module

public import proofs.«01_k».proof.Proof.Gather

@[expose] public section

/-! # The steps before and between the passes: the greeting, the gated copies, the column groups -/

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Ins F) (K : Dev nD × CK → ℕ)

theorem pr_ax : ∀ (c : Dev nD) (d : Fin 3), pr (pr c (ax d)) (ax d) = c := by decide +kernel

/-- A device's slots, and the pieces of its result that it does not keep, are what it hands to its three partners. -/
theorem give (c : Dev nD) (f : Vec F S12x7x64x384 .bf16) (g : Vec F S2048x1024 .bf16) :
    iprop((bigSep Finset.univ fun p : Fin 12 × Fin 7 => slotPt c p.1 p.2 f)
      ∗ (bigSep Finset.univ fun p : Fin 12 × Fin 7 => outPt c p.1 (cA (pr c (mA p.1 p.2)) p.1 p.2) g))
    ⊢ (iprop(barPay (pr c (ax 0)) 0 ∗ barPay (pr c (ax 1)) 1 ∗ barPay (pr c (ax 2)) 2) : sProp 𝕄) := by
  have e := greet c (fun m p => (iprop(∃ f, slotPt (pr (pr c m) m) p.1 p.2 f) : sProp 𝕄))
    (fun m p => iprop(∃ f, outPt (pr (pr c m) m) p.1 (cA (pr c m) p.1 p.2) f))
  rw [bigSep_univ_eq_bigSepL [0, 1, 2] (by decide) (by decide), bigSepL_cons_cons, bigSepL_cons_cons, bigSepL_singleton] at e
  refine BIBase.Entails.trans ?_ (Entails.of_eq e.symm)
  rw [← bigSep_sep']
  refine bigSep_mono fun p _ => ?_
  have h : iprop(slotPt c p.1 p.2 f ∗ outPt c p.1 (cA (pr c (mA p.1 p.2)) p.1 p.2) g)
      ⊢ (iprop((∃ f, slotPt (pr (pr c (mR p.1 p.2)) (mR p.1 p.2)) p.1 p.2 f)
        ∗ (∃ f, outPt (pr (pr c (mA p.1 p.2)) (mA p.1 p.2)) p.1 (cA (pr c (mA p.1 p.2)) p.1 p.2) f)) : sProp 𝕄) := by
    rw [pr_prR, pr_prA]
    iintro ⟨Ha, Hb⟩
    isplitl [Ha]
    · iexists f; iexact Ha
    · iexists g; iexact Hb
  exact h

/-- What the three partners hand over, copy by copy. -/
theorem take3 (c : Dev nD) : (iprop(barPay c 0 ∗ barPay c 1 ∗ barPay c 2) : sProp 𝕄) = given c := by
  have e := greet c (fun m p => (iprop(∃ f, slotPt (pr c m) p.1 p.2 f) : sProp 𝕄))
    (fun m p => iprop(∃ f, outPt (pr c m) p.1 (cA c p.1 p.2) f))
  rw [bigSep_univ_eq_bigSepL [0, 1, 2] (by decide) (by decide), bigSepL_cons_cons, bigSepL_cons_cons, bigSepL_singleton] at e
  exact e

/-- Greeting the partner along an axis. -/
theorem greet_step (c : Dev nD) (d : Fin 3) (n : Dev nD) (hn : n = pr c (ax d)) (O : CellTallies nD τ sig Unit) (W : Waits sig Unit)
    {P : Prog (TpuEff nD τ sig (Elt F) Λ₀ Proc.tc) PUnit} {Q : PUnit → sProp 𝕄} :
    iprop(ctx I K ∗ owes (c : Thread nD τ) (O + tallyAt (kc (pr c (ax d)) none) () 1) W ∗ dutyTok ER (kc (pr c (ax d)) none) 0 d
        ∗ barPay (pr c (ax d)) d)
      ⊢ iprop((owes (c : Thread nD τ) O W -∗ Wp c P Q)
        -∗ Wp c (.op (.semSignal (Dev.tc n) barS (1#32 : BitVec 32).toInt) fun _ => P) Q) := by
  subst hn
  iintro ⟨#Hc, HO, Ht, Hp⟩
  iintro Hk
  ihave #Hi := (ctx_inv I K (pr c (ax d)) none) $$ Hc
  ihave #Hr := (ctx_reached I K (pr c (ax d)) none) $$ Hc
  iapply (Rounds.wp_signal 𝒱₀ ER (Rd I) (c : Thread nD τ) none (dst := ((pr c (ax d) : Dev nD) : Thread nD τ)) (κ := K (pr c (ax d), none))
      (d := d) ((duties_eq I (pr c (ax d)) none).symm ▸ Finset.mem_univ d) ((amount_eq I (pr c (ax d)) none d).trans (by decide)) () O rfl)
    $$ [HO Ht Hp]
  · isplitr; · iexact Hi
    isplitl [HO]; · iexact HO
    isplitl [Ht]; · iexact Ht
    isplitl [Hp]
    · have e : barPay (pr c (ax d)) d = (Rd I).payload (((pr c (ax d) : Dev nD) : Thread nD τ), SemLoc.reg barS) 0 d := (payload_eq I (pr c (ax d)) none d).symm
      iapply (Entails.of_eq e) $$ Hp
    iexact Hr
  iexact Hk

/-- Waiting for the three partners. -/
theorem wait_bar (c : Dev nD) (O : CellTallies nD τ sig Unit) (hO : Above 1 O) (W : Waits sig Unit)
    {P : Prog (TpuEff nD τ sig (Elt F) Λ₀ Proc.tc) PUnit} {Q : PUnit → sProp 𝕄} :
    iprop(ctx I K ∗ cred (tallyAt (kc c none) () 3) ∗ atPos ER (kc c none) 0 ∅ 0 ∗ owes (c : Thread nD τ) O W)
      ⊢ iprop((((∃ W', owes (c : Thread nD τ) O W') ∗ semVal (kc c none) 0 ∗ given c) -∗ Wp c P Q)
        -∗ Wp c (.op (.semWait barS (3#32 : BitVec 32).toInt) fun _ => P) Q) := by
  iintro ⟨#Hc, Hcr, Hat, HO⟩
  iintro Hk
  ihave #Hi := (ctx_inv I K c none) $$ Hc
  iapply (Rounds.wp_wait_rest_token 𝒱₀ ER (Rd I) (c : Thread nD τ) none (κ := K (c, none))
      (wpE_semWait_eq 𝒱₀ (c : Thread nD τ) none Set.univ) (Set.mem_univ _) () (O := O) (W := W) (R := 0) (m := 0) (T := ∅)
      (by rw [show ((c : Thread nD τ), SemLoc.reg barS) = kc c none from rfl, expect_bar]; decide)) $$ [Hcr HO Hat]
  · isplitr; · iexact Hi
    isplitl [Hcr]; · iexact Hcr
    isplitl [HO]; · iexact HO
    isplitr
    · iapply (mayWait c (locK none) 1 (fun u => (lv_kc c none u).le) O hO)
      iapply (ctx_lev I K); iexact Hc
    iexact Hat
  iintro ⟨HO, Hat, -, Hpay⟩
  have er : bigSep ((Rd I).duties ((c : Thread nD τ), SemLoc.reg barS) 0 \ ∅)
      (fun d => (Rd I).payload ((c : Thread nD τ), SemLoc.reg barS) 0 d) = given c := (rest_bar I c).trans (take3 c)
  ihave Hp := (Entails.of_eq er) $$ Hpay
  imod (Rounds.cell_close ER (Rd I) (Set.mem_univ (K (c, none))) (fun h => h) (R := 0 + 1) (duties_later I (kc c none))) $$ [Hat] with Hz
  · isplitr; · iexact Hi
    iexact Hat
  iapply Hk
  isplitl [HO]; · iexists _; iexact HO
  isplitl [Hz]; · iexact Hz
  iexact Hp

/-! ## The gated copies -/

abbrev xwL (c : Dev nD) : Loc nD τ sig := (c : Thread nD τ).loc cc0_scratch1
abbrev ewL (c : Dev nD) : Loc nD τ sig := (c : Thread nD τ).loc cc0_stg3_0

/-- The element of a gated copy at `y`. -/
theorem xw_emb (k : Fin 4) (y : S1x2048x512.Idx) : (rXw k).emb y = (fun | 0 => k | 1 => y 1 | 2 => y 2 : S4x2048x512.Idx) := by
  have h0 : (y 0).val < 1 := (y 0).isLt
  funext a
  refine Fin.ext ?_
  rw [Rect.emb_apply]
  fin_cases a
  · show k.val + 1 * (y 0).val = k.val
    omega
  · show 0 + 1 * (y 1).val = (y 1).val
    omega
  · show 0 + 1 * (y 2).val = (y 2).val
    omega

/-- The gated copy an element is in. -/
def ixK (i : S4x2048x512.Idx) : Fin 4 := i 0

/-- The place of an element within its gated copy. -/
def ixW (i : S4x2048x512.Idx) : S1x2048x512.Idx := fun | 0 => (0 : Fin 1) | 1 => i 1 | 2 => i 2

theorem ixW_emb (i : S4x2048x512.Idx) : (rXw (ixK i)).emb (ixW i) = i := by
  rw [xw_emb]
  funext a
  fin_cases a <;> rfl

theorem xw_ixK (k : Fin 4) (y : S1x2048x512.Idx) : ixK ((rXw k).emb y) = k := by
  rw [xw_emb]
  rfl

theorem write_xw (k : Fin 4) (f : Vec F S4x2048x512 .bf16) (w : Vec F S1x2048x512 .bf16) (i : S4x2048x512.Idx) :
    (xwM.access (rXw k)).write (Elt F) f w Finset.univ i = if ixK i = k then w (ixW i) else f i := by
  by_cases h : ixK i = k
  · subst h
    rw [if_pos rfl]
    have e : (xwM.access (rXw (ixK i))).emb (ixW i) = i := ixW_emb i
    have := View.write_emb_of_mem (v := xwM.access (rXw (ixK i))) (Val := Elt F) f w (Finset.mem_univ (ixW i))
    rw [e] at this
    exact this
  · rw [if_neg h]
    have hn : i ∉ (xwM.access (rXw k)).setOn Finset.univ := fun hi => by
      obtain ⟨x, -, hx⟩ := Finset.mem_map.mp hi
      exact h ((congrArg ixK hx).symm.trans (xw_ixK k x))
    have := View.write_of_not_mem (v := xwM.access (rXw k)) (Val := Elt F) f w Finset.univ hn
    exact this

theorem read_xw (c : Dev nD) (k : Fin 4) : xwM.view.readAt (Elt F) (rXw k).toLoadRect (xwBuf I c) = ldX I c k := by
  rw [View.readAt_rect]
  funext y
  have e : ((xwM.view.slice (rXw k)).read (Elt F) (xwBuf I c)) y = xwBuf I c (fun | 0 => k | 1 => y 1 | 2 => y 2 : S4x2048x512.Idx) :=
    congrArg (xwBuf I c) (xw_emb k y)
  rw [e]
  unfold ldX xwBuf
  refine congrArg (gated c (I.x c) (I.rw c) (I.ix c) k) ?_
  funext a
  have h0 : (y 0).val < 1 := (y 0).isLt
  fin_cases a
  · exact Fin.ext (show 0 = (y 0).val by omega)
  · rfl
  · rfl

/-- Storing one gated copy. -/
theorem stXw_step (c : Dev nD) (k : Fin 4) (w : FVec F S1x2048x512 .bf16) (f : Vec F S4x2048x512 .bf16)
    {P : Prog (TpuEff nD τ sig (Elt F) Λ₀ Proc.tc) PUnit} {Q : PUnit → sProp 𝕄} :
    (xwL c ↦{fullShare} f) ⊢ iprop(((xwL c ↦{fullShare} (fun i : S4x2048x512.Idx => if ixK i = k then w (ixW i) else f i)) -∗ Wp c P Q) -∗ Wp c (stXw k w P) Q) := by
  unfold stXw
  iintro H
  iintro Hk
  iapply (wp_load 𝒱₀ (c : Thread nD τ) none Set.univ (m := xwM) (Finset.subset_univ _)) $$ H; iintro H
  iapply (wp_store 𝒱₀ (c : Thread nD τ) none Set.univ (m := xwM) (r := rXw k) (Mk := Finset.univ) (Finset.subset_univ _)) $$ H; iintro H
  iapply Hk
  have e : (xwM.access (rXw k)).write (Elt F) f w Finset.univ = fun i : S4x2048x512.Idx => if ixK i = k then w (ixW i) else f i :=
    funext fun i => write_xw k f w i
  rw [e]
  iexact H

/-- The gated copies stored one after the other are the whole buffer. -/
theorem xwBuf_eq (c : Dev nD) (f : Vec F S4x2048x512 .bf16) :
    (fun i : S4x2048x512.Idx => if ixK i = 3 then gated c (I.x c) (I.rw c) (I.ix c) 3 (ixW i)
      else if ixK i = 2 then gated c (I.x c) (I.rw c) (I.ix c) 2 (ixW i)
      else if ixK i = 1 then gated c (I.x c) (I.rw c) (I.ix c) 1 (ixW i)
      else if ixK i = 0 then gated c (I.x c) (I.rw c) (I.ix c) 0 (ixW i) else f i) = xwBuf I c := by
  funext i
  show _ = gated c (I.x c) (I.rw c) (I.ix c) (ixK i) (ixW i)
  have h (a : Fin 4) : a = 0 ∨ a = 1 ∨ a = 2 ∨ a = 3 := by revert a; decide
  rcases h (ixK i) with h | h | h | h <;> rw [h] <;> rfl

/-- Loading the four gated copies and the four experts. -/
theorem loads8_step (c : Dev nD)
    {P : (Fin 4 → Vec F S1x2048x512 .bf16) → (Fin 4 → Vec F S1x512x1024 .f32) → Prog (TpuEff nD τ sig (Elt F) Λ₀ Proc.tc) PUnit}
    {Q : PUnit → sProp 𝕄} :
    iprop((xwL c ↦{fullShare} xwBuf I c) ∗ (ewL c ↦{fullShare} I.ew c))
      ⊢ iprop((((xwL c ↦{fullShare} xwBuf I c) ∗ (ewL c ↦{fullShare} I.ew c)) -∗ Wp c (P (ldX I c) (ldE I c)) Q) -∗ Wp c (loads8 P) Q) := by
  have ea : (![ldX I c 0, ldX I c 1, ldX I c 2, ldX I c 3] : Fin 4 → Vec F S1x2048x512 .bf16) = ldX I c := by
    funext k; fin_cases k <;> rfl
  have eb : (![ldE I c 0, ldE I c 1, ldE I c 2, ldE I c 3] : Fin 4 → Vec F S1x512x1024 .f32) = ldE I c := by
    funext k; fin_cases k <;> rfl
  unfold loads8
  iintro ⟨Hx, He⟩
  iintro Hk
  dsimp only
  iapply (wp_load 𝒱₀ (c : Thread nD τ) none Set.univ (m := xwM) (Finset.subset_univ _)) $$ Hx; iintro Hx
  rw [read_xw I c 0]
  iapply (wp_load 𝒱₀ (c : Thread nD τ) none Set.univ (m := ewM) (Finset.subset_univ _)) $$ He; iintro He
  rw [show ewM.view.readAt (Elt F) (rEw 0).toLoadRect (I.ew c) = ldE I c 0 from rfl]
  iapply (wp_load 𝒱₀ (c : Thread nD τ) none Set.univ (m := xwM) (Finset.subset_univ _)) $$ Hx; iintro Hx
  rw [read_xw I c 1]
  iapply (wp_load 𝒱₀ (c : Thread nD τ) none Set.univ (m := ewM) (Finset.subset_univ _)) $$ He; iintro He
  rw [show ewM.view.readAt (Elt F) (rEw 1).toLoadRect (I.ew c) = ldE I c 1 from rfl]
  iapply (wp_load 𝒱₀ (c : Thread nD τ) none Set.univ (m := xwM) (Finset.subset_univ _)) $$ Hx; iintro Hx
  rw [read_xw I c 2]
  iapply (wp_load 𝒱₀ (c : Thread nD τ) none Set.univ (m := ewM) (Finset.subset_univ _)) $$ He; iintro He
  rw [show ewM.view.readAt (Elt F) (rEw 2).toLoadRect (I.ew c) = ldE I c 2 from rfl]
  iapply (wp_load 𝒱₀ (c : Thread nD τ) none Set.univ (m := xwM) (Finset.subset_univ _)) $$ Hx; iintro Hx
  rw [read_xw I c 3]
  iapply (wp_load 𝒱₀ (c : Thread nD τ) none Set.univ (m := ewM) (Finset.subset_univ _)) $$ He; iintro He
  rw [show ewM.view.readAt (Elt F) (rEw 3).toLoadRect (I.ew c) = ldE I c 3 from rfl, ea, eb]
  iapply Hk
  isplitl [Hx]; · iexact Hx
  iexact He

/-! ## The column groups -/

/-- Filling a column group of the accumulator. -/
theorem col_step (c : Dev nD) (g : Fin 3) (r : Rect S2048x1024) (w : r.shape.Idx → Elt F .bf16) (ix : S2048x1024.Idx → r.shape.Idx)
    (h : ∀ i, cj i = g → r.emb (ix i) = i) (h' : ∀ x, cj (r.emb x) = g) (hw : ∀ i, cj i = g → acc0 I c i = w (ix i))
    (f : Vec F S2048x1024 .bf16) {a1} {hx} {hm}
    {P : Prog (TpuEff nD τ sig (Elt F) Λ₀ Proc.tc) PUnit} {Q : PUnit → sProp 𝕄} :
    (accL c ↦[colS g]{fullShare} f) ⊢ iprop(((accL c ↦[colS g]{fullShare} acc0 I c) -∗ Wp c P Q)
      -∗ Wp c (.op (.load accM r.toLoadRect a1) fun _ => .op (.store accM r w Finset.univ hx hm) fun _ => P) Q) := by
  have hs : (accM.access r).set ⊆ colS g := fun i hi => by
    obtain ⟨x, -, rfl⟩ := Finset.mem_map.mp hi
    exact Finset.mem_filter.mpr ⟨Finset.mem_univ _, h' x⟩
  iintro H
  iintro Hk
  iapply (wp_load 𝒱₀ (c : Thread nD τ) none Set.univ (m := accM) (S := colS g) ((View.set_slice _ _).ge.trans hs)) $$ H; iintro H
  iapply (wp_store 𝒱₀ (c : Thread nD τ) none Set.univ (m := accM) (r := r) (S := colS g) (Mk := Finset.univ) hs) $$ H; iintro H
  iapply Hk
  have e : (accL c ↦[colS g]{fullShare} (accM.access r).write (Elt F) f w Finset.univ : sProp 𝕄) = (accL c ↦[colS g]{fullShare} acc0 I c) := by
    refine pointsTo_congr fun i hi => ?_
    have hg := (Finset.mem_filter.mp hi).2
    have e1 : (accM.access r).emb (ix i) = i := h i hg
    have := View.write_emb_of_mem (v := accM.access r) (Val := Elt F) f w (Finset.mem_univ (ix i))
    rw [e1] at this
    exact this.trans (hw i hg).symm
  iapply (Entails.of_eq e) $$ H

theorem col0 (i : S2048x1024.Idx) (h : cj i = 0) : rC0.emb (ixC 384 0 i) = i := by
  have h1 : (i 1).val < 1024 := (i 1).isLt
  have hv : (i 1).val / 384 % 3 = 0 := congrArg Fin.val h
  funext a
  refine Fin.ext ?_
  rw [Rect.emb_apply]
  fin_cases a
  · show 0 + 1 * (i 0).val = (i 0).val
    omega
  · show 0 + 1 * (((i 1).val - 0) % 384) = (i 1).val
    omega
theorem col1 (i : S2048x1024.Idx) (h : cj i = 1) : rC1.emb (ixC 384 384 i) = i := by
  have h1 : (i 1).val < 1024 := (i 1).isLt
  have hv : (i 1).val / 384 % 3 = 1 := congrArg Fin.val h
  funext a
  refine Fin.ext ?_
  rw [Rect.emb_apply]
  fin_cases a
  · show 0 + 1 * (i 0).val = (i 0).val
    omega
  · show 384 + 1 * (((i 1).val - 384) % 384) = (i 1).val
    omega
theorem col2 (i : S2048x1024.Idx) (h : cj i = 2) : rC2.emb (ixC 256 768 i) = i := by
  have h1 : (i 1).val < 1024 := (i 1).isLt
  have hv : (i 1).val / 384 % 3 = 2 := congrArg Fin.val h
  funext a
  refine Fin.ext ?_
  rw [Rect.emb_apply]
  fin_cases a
  · show 0 + 1 * (i 0).val = (i 0).val
    omega
  · show 768 + 1 * (((i 1).val - 768) % 256) = (i 1).val
    omega
theorem colc0 (x : S2048x384.Idx) : cj (rC0.emb x) = 0 := by
  have h1 : (x 1).val < 384 := (x 1).isLt
  refine Fin.ext ?_
  show (0 + 1 * (x 1).val) / 384 % 3 = 0
  omega
theorem colc1 (x : S2048x384.Idx) : cj (rC1.emb x) = 1 := by
  have h1 : (x 1).val < 384 := (x 1).isLt
  refine Fin.ext ?_
  show (384 + 1 * (x 1).val) / 384 % 3 = 1
  omega
theorem colc2 (x : S2048x256.Idx) : cj (rC2.emb x) = 2 := by
  have h1 : (x 1).val < 256 := (x 1).isLt
  refine Fin.ext ?_
  show (768 + 1 * (x 1).val) / 384 % 3 = 2
  omega

theorem accw0 (c : Dev nD) (i : S2048x1024.Idx) (h : cj i = 0) : acc0 I c i = third0 (ldX I c) (ldE I c) (ixC 384 0 i) := by
  unfold acc0; rw [if_pos h]
theorem accw1 (c : Dev nD) (i : S2048x1024.Idx) (h : cj i = 1) : acc0 I c i = third1 (ldX I c) (ldE I c) (ixC 384 384 i) := by
  unfold acc0; rw [if_neg (by rw [h]; decide), if_pos h]
theorem accw2 (c : Dev nD) (i : S2048x1024.Idx) (h : cj i = 2) : acc0 I c i = third2 (ldX I c) (ldE I c) (ixC 256 768 i) := by
  unfold acc0; rw [if_neg (by rw [h]; decide), if_neg (by rw [h]; decide)]

end Cert.Moe

end
-- ==== Proof.Same.lean ====
module

public import proofs.«01_k».proof.Proof.Prog

@[expose] public section

/-! # The printed kernel is the list of events -/

noncomputable section

namespace Cert.Moe

open Cert.KernelIdeal Cert.KernelIdeal.Gen
open Idealize.ShloMosaic Idealize.ShloMosaic.TcCoe Idealize.SL.Sem

variable {F : FTy → Type} [FloatOps F]

set_option maxRecDepth 100000

/-- The printed kernel, at the buffers it is called with, is `body`. -/
theorem body_same : cc0_body_skel (F := F) xM (Memref.isWhole_whole _) rwM (Memref.isWhole_whole _) idM (Memref.isWhole_whole _)
    ewM (Memref.isWhole_whole _) swM (Memref.isWhole_whole _) outM (Memref.isWhole_whole _) accM (Memref.isWhole_whole _)
    xwM (Memref.isWhole_whole _) rcM (Memref.isWhole_whole _) cc0_scratch3 cc0_scratch4 cc0_scratch5 cc0_scratch6 = body := by
  chain_rfl

end Cert.Moe

end
-- ==== Proof.Body.lean ====
module

public import proofs.«01_k».proof.Proof.Local
public import proofs.«01_k».proof.Proof.Same

@[expose] public section

/-! # The run of the kernel on one device -/

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Ins F) (K : Dev nD × CK → ℕ)

abbrev xL (c : Dev nD) : Loc nD τ sig := (c : Thread nD τ).loc cc0_stg0_0
abbrev rwL (c : Dev nD) : Loc nD τ sig := (c : Thread nD τ).loc cc0_stg1_0
abbrev idL (c : Dev nD) : Loc nD τ sig := (c : Thread nD τ).loc cc0_stg2_0
abbrev swL (c : Dev nD) : Loc nD τ sig := (c : Thread nD τ).loc cc0_stg4_0

/-- What a device owes: all the copies of the passes, and the greetings of its three partners. -/
def O₀ (c : Dev nD) : CellTallies nD τ sig Unit :=
  owedL c segs + tallyAt (kc (pr c (ax 2)) none) () 1 + tallyAt (kc (pr c (ax 1)) none) () 1 + tallyAt (kc (pr c (ax 0)) none) () 1

/-- The five inputs staged on a device. -/
def staged (c : Dev nD) : sProp 𝕄 :=
  iprop((xL c ↦{fullShare} I.x c) ∗ (rwL c ↦{fullShare} I.rw c) ∗ (idL c ↦{fullShare} I.ix c) ∗ (ewL c ↦{fullShare} I.ew c) ∗ (swL c ↦{fullShare} I.sw c))

/-- What a device starts from besides the knowledge of the cells. -/
def ghost (c : Dev nD) : sProp 𝕄 :=
  iprop(start c ∗ atPos ER (kc c none) 0 ∅ 0
    ∗ (dutyTok ER (kc (pr c (ax 0)) none) 0 0 ∗ dutyTok ER (kc (pr c (ax 1)) none) 0 1 ∗ dutyTok ER (kc (pr c (ax 2)) none) 0 2)
    ∗ cred (tallyAt (kc c none) () 3) ∗ creds c)

/-- The scratch buffers, whatever they hold. -/
def scratch (c : Dev nD) : sProp 𝕄 :=
  iprop((∃ f : Buf (Elt F) (accL c), accL c ↦{fullShare} f) ∗ (∃ f : Buf (Elt F) (xwL c), xwL c ↦{fullShare} f) ∗ (∃ f : Buf (Elt F) (rcL c), rcL c ↦{fullShare} f))

/-- The cells at rest. -/
def rested (c : Dev nD) : sProp 𝕄 :=
  iprop((bigSep Finset.univ fun p : Fin 4 × Fin 12 × Fin 7 => semVal (kc c (some p)) 0) ∗ semVal (kc c none) 0)

theorem hz2 : (![0, 0] : Fin 2 → Nat) = fun _ => 0 := funext fun a => by fin_cases a <;> rfl

theorem read_x (f : Vec F S2048x512 .f32) : xM.view.readAt (Elt F) rX.toLoadRect f = f := Memref.readAt_unit_zero (Elt F) cc0_stg0_0 hz2 _ f
theorem read_rw (f : Vec F S512x32 .f32) : rwM.view.readAt (Elt F) rRW.toLoadRect f = f := Memref.readAt_unit_zero (Elt F) cc0_stg1_0 hz2 _ f
theorem read_id (f : Vec F S2048x1 .i32) : idM.view.readAt (Elt F) rId.toLoadRect f = f := Memref.readAt_unit_zero (Elt F) cc0_stg2_0 hz2 _ f

theorem not_stage (e : Ev) (h : e ∈ seg0 ++ seg1 ++ seg2) : e.isStage = true → False := fun h' => by
  have := List.all_eq_true.mp no_stage e h
  rw [h'] at this
  cases this

theorem B0_eq (l : Fin 12) : (if jj l = 0 then accs ++ base else base) = B0 l := by
  unfold B0
  have h : jj l = 0 ↔ l.val < 4 := by revert l; decide
  by_cases hl : l.val < 4
  · rw [if_pos hl, if_pos (h.mpr hl)]
  · rw [if_neg hl, if_neg (mt h.mp hl)]
theorem B1_eq (c : Dev nD) (l : Fin 12) : (if jj l = 1 then accs ++ A1 c l else A1 c l) = B1 c l := by
  unfold B1
  have h : jj l = 1 ↔ 4 ≤ l.val ∧ l.val < 8 := by revert l; decide
  by_cases hl : 4 ≤ l.val ∧ l.val < 8
  · rw [if_pos hl, if_pos (h.mpr hl)]
  · rw [if_neg hl, if_neg (mt h.mp hl)]
theorem B2_eq (c : Dev nD) (l : Fin 12) : (if jj l = 2 then accs ++ A2 c l else A2 c l) = B2 c l := by
  unfold B2
  have h : jj l = 2 ↔ 8 ≤ l.val := by revert l; decide
  by_cases hl : 8 ≤ l.val
  · rw [if_pos hl, if_pos (h.mpr hl)]
  · rw [if_neg hl, if_neg (mt h.mp hl)]

theorem ok1 : okL (seg1 ++ (seg2 ++ seg3)) = true := okL_append seg0 ok_segs
theorem ok2 : okL (seg2 ++ seg3) = true := okL_append seg1 ok1
theorem ok3 : okL (seg3 ++ []) = true := by rw [List.append_nil]; exact okL_append seg2 ok2

/-- The result's buffer before the talk: the pieces each lane keeps, and those given to the partners. -/
theorem out_start (c : Dev nD) (f : Vec F S2048x1024 .bf16) :
    (outL c ↦{fullShare} f) ⊢ (iprop((bigSep Finset.univ fun l => iprop(∃ f, outPt c l (cB c) f))
      ∗ (bigSep Finset.univ fun p : Fin 12 × Fin 7 => outPt c p.1 (cA (pr c (mA p.1 p.2)) p.1 p.2) f)) : sProp 𝕄) := by
  rw [out_give, bigSep_sep', ← bigSep_univ_prod fun p : Fin 12 × Fin 7 => outPt c p.1 (cA (pr c (mA p.1 p.2)) p.1 p.2) f]
  iintro ⟨Ha, Hb⟩
  isplitl [Ha]
  · have h : (bigSep Finset.univ fun l => outPt c l (cB c) f) ⊢ (bigSep Finset.univ fun l => iprop(∃ f, outPt c l (cB c) f) : sProp 𝕄) :=
      bigSep_mono fun l _ => by
        have : outPt c l (cB c) f ⊢ (iprop(∃ f, outPt c l (cB c) f) : sProp 𝕄) := by
          iintro H
          iexists f
          iexact H
        exact this
    iapply h $$ Ha
  · iexact Hb

/-- The first half: the gated copies, the greeting, and all the lanes' holdings but the accumulator. -/
theorem head_run (c : Dev nD) (W : Waits sig Unit)
    {P : FVec F S2048x512 .f32 → Prog (TpuEff nD τ sig (Elt F) Λ₀ Proc.tc) PUnit} {Q : PUnit → sProp 𝕄} :
    iprop(ctx I K ∗ ghost c ∗ staged I c ∗ (∃ f : Buf (Elt F) (outL c), outL c ↦{fullShare} f) ∗ scratch c ∗ owes (c : Thread nD τ) (O₀ c) W)
      ⊢ iprop(((staged I c ∗ (∃ f : Buf (Elt F) (accL c), accL c ↦{fullShare} f) ∗ (xwL c ↦{fullShare} xwBuf I c)
            ∗ (∃ f : Vec F S12x7x64x384 .bf16, rcL c ↦[Finset.univ \ slotsS]{fullShare} f)
            ∗ (bigSep Finset.univ fun l => held I c l base) ∗ semVal (kc c none) 0 ∗ (∃ W', owes (c : Thread nD τ) (owedL c segs) W'))
          -∗ Wp c (P (I.x c)) Q)
        -∗ Wp c (.op (.load xM rX.toLoadRect (View.loadsAt_vmem h_S2048x512)) fun (x : Vec F S2048x512 .f32) =>
            .op (.load rwM rRW.toLoadRect (View.loadsAt_vmem h_S512x32)) fun (rw : Vec F S512x32 .f32) =>
            .op (.load idM rId.toLoadRect (View.loadsAt_vmem h_S2048x1)) fun (ix : Vec F S2048x1 .i32) =>
            stXw 0 (gated c x rw ix 0) <| stXw 1 (gated c x rw ix 1) <| stXw 2 (gated c x rw ix 2) <| stXw 3 (gated c x rw ix 3) <|
            .op (.semSignal (Dev.tc (prt c 1)) barS (1#32 : BitVec 32).toInt) fun _ =>
            .op (.semSignal (Dev.tc (prt c 2)) barS (1#32 : BitVec 32).toInt) fun _ =>
            .op (.semSignal (Dev.tc (prt c 4)) barS (1#32 : BitVec 32).toInt) fun _ =>
            .op (.semWait barS (3#32 : BitVec 32).toInt) fun _ => P x) Q) := by
  unfold ghost staged scratch O₀
  iintro ⟨#Hc, ⟨Hst, Hat, ⟨Ht0, Ht1, Ht2⟩, Hcr, Hcrs⟩, ⟨Hx, Hrw, Hid, Hew, Hsw⟩, ⟨%fo, Ho⟩, ⟨Hacc, ⟨%fx, Hxw⟩, ⟨%fr, Hrc⟩⟩, HO⟩
  iintro Hk
  iapply (wp_load 𝒱₀ (c : Thread nD τ) none Set.univ (m := xM) (Finset.subset_univ _)) $$ Hx; iintro Hx
  rw [read_x]
  iapply (wp_load 𝒱₀ (c : Thread nD τ) none Set.univ (m := rwM) (Finset.subset_univ _)) $$ Hrw; iintro Hrw
  rw [read_rw]
  iapply (wp_load 𝒱₀ (c : Thread nD τ) none Set.univ (m := idM) (Finset.subset_univ _)) $$ Hid; iintro Hid
  rw [read_id]
  iapply (stXw_step c 0 (gated c (I.x c) (I.rw c) (I.ix c) 0) fx) $$ Hxw; iintro Hxw
  iapply (stXw_step c 1 (gated c (I.x c) (I.rw c) (I.ix c) 1) _) $$ Hxw; iintro Hxw
  iapply (stXw_step c 2 (gated c (I.x c) (I.rw c) (I.ix c) 2) _) $$ Hxw; iintro Hxw
  iapply (stXw_step c 3 (gated c (I.x c) (I.rw c) (I.ix c) 3) _) $$ Hxw; iintro Hxw
  rw [xwBuf_eq]
  ihave Hrc' := (rc_split c fr) $$ Hrc
  icases Hrc' with ⟨Hsl, Hrest⟩
  ihave Ho' := (out_start c fo) $$ Ho
  icases Ho' with ⟨Hown, Hgive⟩
  ihave Hg := (give c fr fo) $$ [Hsl Hgive]
  · isplitl [Hsl]; · iexact Hsl
    iexact Hgive
  icases Hg with ⟨Hp0, Hp1, Hp2⟩
  iapply (greet_step I K c 0 (prt c 1) (prt_eq c 0) _ W) $$ [HO Ht0 Hp0]
  · isplitr; · iexact Hc
    isplitl [HO]; · iexact HO
    isplitl [Ht0]; · iexact Ht0
    iexact Hp0
  iintro HO
  iapply (greet_step I K c 1 (prt c 2) (prt_eq c 1) _ W) $$ [HO Ht1 Hp1]
  · isplitr; · iexact Hc
    isplitl [HO]; · iexact HO
    isplitl [Ht1]; · iexact Ht1
    iexact Hp1
  iintro HO
  iapply (greet_step I K c 2 (prt c 4) (prt_eq c 2) _ W) $$ [HO Ht2 Hp2]
  · isplitr; · iexact Hc
    isplitl [HO]; · iexact HO
    isplitl [Ht2]; · iexact Ht2
    iexact Hp2
  iintro HO
  iapply (wait_bar I K c (owedL c segs) (above_owedL c 1 segs min_segs) W) $$ [HO Hcr Hat]
  · isplitr; · iexact Hc
    isplitl [Hcr]; · iexact Hcr
    isplitl [Hat]; · iexact Hat
    iexact HO
  iintro ⟨HO, Hz, Hgiven⟩
  iapply Hk
  isplitl [Hx Hrw Hid Hew Hsw]
  · isplitl [Hx]; · iexact Hx
    isplitl [Hrw]; · iexact Hrw
    isplitl [Hid]; · iexact Hid
    isplitl [Hew]; · iexact Hew
    iexact Hsw
  isplitl [Hacc]; · iexact Hacc
  isplitl [Hxw]; · iexact Hxw
  isplitl [Hrest]; · iexists fr; iexact Hrest
  isplitl [Hst Hcrs Hgiven Hown]
  · iapply (gather I c)
    isplitl [Hst]; · iexact Hst
    isplitl [Hcrs]; · iexact Hcrs
    isplitl [Hgiven]; · iexact Hgiven
    iexact Hown
  isplitl [Hz]; · iexact Hz
  iexact HO

/-- The run of the whole kernel on a device. -/
theorem body_run (c : Dev nD) (W : Waits sig Unit) {Q : PUnit → sProp 𝕄} :
    iprop(ctx I K ∗ ghost c ∗ staged I c ∗ (∃ f : Buf (Elt F) (outL c), outL c ↦{fullShare} f) ∗ scratch c ∗ owes (c : Thread nD τ) (O₀ c) W)
      ⊢ iprop(((staged I c ∗ (outL c ↦{fullShare} outV I) ∗ scratch c ∗ rested c ∗ (∃ W', owes (c : Thread nD τ) 0 W')) -∗ Q ⟨⟩)
        -∗ Wp c body Q) := by
  unfold body Wp
  simp only [wp_deviceId]
  iintro ⟨#Hc, H⟩
  iintro Hk
  iapply (head_run I K c W) $$ [H]
  · isplitr; · iexact Hc
    iexact H
  iintro ⟨Hstg, ⟨%fa, Hacc⟩, Hxw, ⟨%fr, Hrest⟩, HL, Hz, HO⟩
  unfold staged
  icases Hstg with ⟨Hx, Hrw, Hid, Hew, Hsw⟩
  ihave Hacc' := (Entails.of_eq (acc_cols c fa)) $$ Hacc
  icases Hacc' with ⟨Ha0, Ha1, Ha2⟩
  -- the first column group
  iapply (loads8_step I c) $$ [Hxw Hew]
  · isplitl [Hxw]; · iexact Hxw
    iexact Hew
  iintro ⟨Hxw, Hew⟩
  iapply (col_step I c 0 rC0 (third0 (ldX I c) (ldE I c)) (ixC 384 0) col0 colc0 (accw0 I c) fa) $$ Ha0; iintro Ha0
  ihave HL := (add_col I c 0 fun _ => base) $$ [HL Ha0]
  · isplitl [HL]; · iexact HL
    iexact Ha0
  simp only [B0_eq]
  iapply (run_list c _ (seg1 ++ (seg2 ++ seg3)) (A1 c) seg0 B0 (fun l => (chk_run c l).1) ok_segs
    (fun e he h => (not_stage e (List.mem_append_left _ (List.mem_append_left _ he)) h).elim)) $$ [HL HO]
  · isplitr; · iexact Hc
    isplitl [HL]; · iexact HL
    iexact HO
  iintro ⟨HL, HO⟩
  -- the second
  iapply (loads8_step I c) $$ [Hxw Hew]
  · isplitl [Hxw]; · iexact Hxw
    iexact Hew
  iintro ⟨Hxw, Hew⟩
  iapply (col_step I c 1 rC1 (third1 (ldX I c) (ldE I c)) (ixC 384 384) col1 colc1 (accw1 I c) fa) $$ Ha1; iintro Ha1
  ihave HL := (add_col I c 1 (A1 c)) $$ [HL Ha1]
  · isplitl [HL]; · iexact HL
    iexact Ha1
  simp only [B1_eq]
  iapply (run_list c _ (seg2 ++ seg3) (A2 c) seg1 (B1 c) (fun l => (chk_run c l).2.1) ok1
    (fun e he h => (not_stage e (List.mem_append_left _ (List.mem_append_right _ he)) h).elim)) $$ [HL HO]
  · isplitr; · iexact Hc
    isplitl [HL]; · iexact HL
    iexact HO
  iintro ⟨HL, HO⟩
  -- the third
  iapply (loads8_step I c) $$ [Hxw Hew]
  · isplitl [Hxw]; · iexact Hxw
    iexact Hew
  iintro ⟨Hxw, Hew⟩
  iapply (col_step I c 2 rC2 (third2 (ldX I c) (ldE I c)) (ixC 256 768) col2 colc2 (accw2 I c) fa) $$ Ha2; iintro Ha2
  ihave HL := (add_col I c 2 (A2 c)) $$ [HL Ha2]
  · isplitl [HL]; · iexact HL
    iexact Ha2
  simp only [B2_eq]
  iapply (run_list c _ seg3 (A3 c) seg2 (B2 c) (fun l => (chk_run c l).2.2.1) ok2
    (fun e he h => (not_stage e (List.mem_append_right _ he) h).elim)) $$ [HL HO]
  · isplitr; · iexact Hc
    isplitl [HL]; · iexact HL
    iexact HO
  iintro ⟨HL, HO⟩
  -- the shared rows, and the remaining passes
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hsw; iintro Hsw
  iapply (run_list c _ [] (A4 c) seg3 (A3 c) (fun l => (chk_run c l).2.2.2.1) ok3 (fun e he h => rfl)) $$ [HL HO]
  · isplitr; · iexact Hc
    isplitl [HL]; · iexact HL
    rw [List.append_nil]
    iexact HO
  iintro ⟨HL, HO⟩
  unfold Wp
  rw [wp_ret]; imodintro
  ihave Hf := (finish I c fr) $$ [HL Hrest]
  · isplitl [HL]; · iexact HL
    iexact Hrest
  icases Hf with ⟨Hout, Hacc, Hrc, Hcells⟩
  iapply Hk
  unfold scratch rested
  isplitl [Hx Hrw Hid Hew Hsw]
  · isplitl [Hx]; · iexact Hx
    isplitl [Hrw]; · iexact Hrw
    isplitl [Hid]; · iexact Hid
    isplitl [Hew]; · iexact Hew
    iexact Hsw
  isplitl [Hout]; · iexact Hout
  isplitl [Hacc Hxw Hrc]
  · isplitl [Hacc]; · iexact Hacc
    isplitl [Hxw]; · iexists _; iexact Hxw
    iexact Hrc
  isplitl [Hcells Hz]
  · isplitl [Hcells]; · iexact Hcells
    iexact Hz
  iexact HO

end Cert.Moe

end
-- ==== Proof.Deal.lean ====
module

public import proofs.«01_k».proof.Proof.Body

@[expose] public section

/-! # What the launch deals: the cells, the tokens of their duties, the credits -/

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Ins F)

/-- The cells of the copies. -/
abbrev Cp : Type := Fin 4 × Fin 12 × Fin 7

/-- The semaphores of the copies, which the kernel brings along. -/
abbrev osem (p : Cp) : SemLoc sig := locK (some p)

theorem osem_scoped : ∀ p : Cp, (osem p).isScoped .tc = true := by decide +kernel

theorem ownSemFacts : Pipeline.OwnSemFacts cfg0.spec osem where
  isScoped := osem_scoped
  inj := fun p q h => Option.some.inj (loc_inj h)
  disj := by decide +kernel

theorem kc_inj : Function.Injective fun q : Dev nD × CK => kc q.1 q.2 := by
  rintro ⟨c, y⟩ ⟨c', y'⟩ h
  have h1 : c = c' := congrArg (fun g : GSem nD τ sig => g.1.1) h
  have h2 : locK y = locK y' := congrArg Prod.snd h
  rw [h1, loc_inj h2]

theorem kc_eq_iff (a b : Dev nD) (y y' : CK) : kc a y = kc b y' ↔ a = b ∧ y = y' :=
  ⟨fun h => by have := kc_inj (a₁ := (a, y)) (a₂ := (b, y')) h; exact ⟨congrArg Prod.fst this, congrArg Prod.snd this⟩,
    fun ⟨h, h'⟩ => by rw [h, h']⟩

def allCells : Finset (GSem nD τ sig) := Finset.univ.map ⟨fun q : Dev nD × CK => kc q.1 q.2, kc_inj⟩

/-- The token of a duty as it is made: the three greetings of a device's barrier, and a copy's. -/
def tokAt (q : Dev nD × (Fin 3 ⊕ Cp)) : GSem nD τ sig × ℕ × Fin 3 :=
  Sum.elim (fun d => (kc q.1 none, 0, d)) (fun p => (kc q.1 (some p), 0, 0)) q.2

theorem tokAt_inj : Function.Injective tokAt := by
  rintro ⟨c, j⟩ ⟨c', j'⟩ h
  rcases j with d | p <;> rcases j' with d' | p'
  · have h1 := (kc_eq_iff c c' none none).mp (congrArg Prod.fst h)
    have h2 : d = d' := congrArg (fun t : GSem nD τ sig × ℕ × Fin 3 => t.2.2) h
    rw [h1.1, h2]
  · exact absurd ((kc_eq_iff c c' none (some p')).mp (congrArg Prod.fst h)).2 (by simp)
  · exact absurd ((kc_eq_iff c c' (some p) none).mp (congrArg Prod.fst h)).2 (by simp)
  · have h1 := (kc_eq_iff c c' (some p) (some p')).mp (congrArg Prod.fst h)
    rw [h1.1, Option.some.inj h1.2]

def allToks : Finset (GSem nD τ sig × ℕ × Fin 3) := Finset.univ.map ⟨tokAt, tokAt_inj⟩

/-- The tokens of the duties of a device's own cells. -/
def toks (c : Dev nD) : sProp 𝕄 :=
  iprop((bigSep Finset.univ fun d : Fin 3 => dutyTok ER (kc c none) 0 d) ∗ bigSep Finset.univ fun p : Cp => dutyTok ER (kc c (some p)) 0 0)

/-- The tokens of the duties a device fulfils. -/
def dues (c : Dev nD) : sProp 𝕄 :=
  iprop((bigSep Finset.univ fun d : Fin 3 => dutyTok ER (kc (pr c (ax d)) none) 0 d) ∗ bigSep Finset.univ fun p : Cp => dutyTok ER (kc (tgt c p) (some p)) 0 0)

def places (c : Dev nD) : sProp 𝕄 := bigSep Finset.univ fun y : CK => atPos ER (kc c y) 0 ∅ 0

/-- What the first element gives a device. -/
def G (c : Dev nD) : sProp 𝕄 :=
  iprop((bigSep Finset.univ fun y : CK => roundState ER (Rd I) (kc c y) 0)
    ∗ (places c ∗ bigSep Finset.univ fun y : CK => reached ER (kc c y) 0) ∗ toks c)

theorem cells_eq (Φ : GSem nD τ sig → sProp 𝕄) :
    bigSep allCells Φ = bigSep Finset.univ fun c : Dev nD => bigSep Finset.univ fun y : CK => Φ (kc c y) := by
  unfold allCells; rw [bigSep_map, bigSep_univ_prod]; rfl

theorem toks_eq : bigSep allToks (fun t => (dutyTok ER t.1 t.2.1 t.2.2 : sProp 𝕄)) = bigSep Finset.univ fun c : Dev nD => toks c := by
  unfold allToks; rw [bigSep_map, bigSep_univ_prod]
  exact bigSep_congr fun c _ => by rw [bigSep_univ_sum]; rfl

/-- The first element of the cells gives every device its part. -/
theorem fund : BI.own (ER (initOf allCells allToks)) ⊢ (|==> bigSep Finset.univ (G I) : sProp 𝕄) := by
  iintro HX
  imod (Rounds.fund ER (Rd I) allCells allToks) $$ HX with ⟨Hst, Hr, Hat, Htok⟩
  imodintro
  ihave Hst' := (BIBase.Entails.of_eq (cells_eq fun g => roundState ER (Rd I) g 0)) $$ Hst
  ihave Hat' := (BIBase.Entails.of_eq (cells_eq fun g => atPos ER g 0 ∅ 0)) $$ Hat
  ihave Hr' := (BIBase.Entails.of_eq (cells_eq fun g => reached ER g 0)) $$ Hr
  ihave Htok' := (BIBase.Entails.of_eq toks_eq) $$ Htok
  unfold G places; simp only [bigSep_sep']
  isplitl [Hst']; · iexact Hst'
  isplitl [Hat' Hr']
  · isplitl [Hat'] <;> iassumption
  iexact Htok'

/-- A product along a device's cells: its barrier's and its copies'. -/
theorem cells_split (Φ : CK → sProp 𝕄) : bigSep Finset.univ Φ = iprop(Φ none ∗ bigSep Finset.univ fun p : Cp => Φ (some p)) := by
  rw [bigSep_univ_equiv (Equiv.optionEquivSumPUnit Cp).symm Φ, bigSep_univ_sum,
    show (bigSep Finset.univ fun b : PUnit.{1} => Φ ((Equiv.optionEquivSumPUnit Cp).symm (Sum.inr b))) = Φ none from
      bigSep_univ_eq_bigSepL ([PUnit.unit] : List PUnit.{1}) (by decide) (by decide) _]
  exact BI.equiv_iff.mp ⟨BI.sep_comm, BI.sep_comm⟩

theorem barrier_sems (c : Dev nD) : (unscopedSems0 c : sProp 𝕄) = semVal (kc c none) 0 := by
  unfold unscopedSems0; rw [bigSep_eq_bigSepL_of_eq [locK none] (by decide +kernel) (by decide)]; rfl

theorem own_sems (c : Dev nD) : (Pipeline.ownSems0 (Ix := Unit) (Name := ℕ) (U := UU) (Lvl := ℕ) (Val := Elt F) (τ := τ) osem c : sProp 𝕄)
    = bigSep Finset.univ fun p : Cp => semVal (kc c (some p)) 0 := rfl

/-- A device's semaphores become its cells. -/
theorem core_cells (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun y : CK => iprop(∃ κ : ℕ, cellInv ER (Rd I) κ (kc c y)))
          ∗ (places c ∗ bigSep Finset.univ fun y : CK => reached ER (kc c y) 0) ∗ toks c) := by
  have hinv : iprop((bigSep Finset.univ fun y : CK => semVal (kc c y) 0) ∗ bigSep Finset.univ fun y : CK => roundState ER (Rd I) (kc c y) 0)
      ⊢ (|={Set.univ}=> bigSep Finset.univ fun y : CK => iprop(∃ κ : ℕ, cellInv ER (Rd I) κ (kc c y)) : sProp 𝕄) := by
    rw [← bigSep_sep']
    exact (bigSep_mono fun y _ => (Rounds.body_intro ER (Rd I) (kc c y)).trans inv_alloc).trans (bigSep_fupd _ _)
  rw [own_sems, barrier_sems]
  unfold G
  iintro ⟨Hos, Hus, Hst, Hat, Htok⟩
  ihave Hv := (BIBase.Entails.of_eq (cells_split (F := F) fun y => semVal (kc c y) 0).symm) $$ [Hos Hus]
  · isplitl [Hus] <;> iassumption
  imod hinv $$ [Hv Hst] with Hinv
  · isplitl [Hv] <;> iassumption
  imodintro
  isplitl [Hinv]; · iexact Hinv
  isplitl [Hat]; · iexact Hat
  iexact Htok

/-- What everyone knows of the cells. -/
def known (K : Dev nD × CK → ℕ) : sProp 𝕄 :=
  iprop((bigSep Finset.univ fun q : Dev nD × CK => cellInv ER (Rd I) (K q) (kc q.1 q.2)) ∗ bigSep Finset.univ fun q : Dev nD × CK => reached ER (kc q.1 q.2) 0)

instance known_persistent (K : Dev nD × CK → ℕ) : BI.Persistent (known I K) := by unfold known; infer_instance

/-- A device's part after the cells are set up. -/
def G' (c : Dev nD) : sProp 𝕄 := iprop(∃ K, known I K ∗ places c ∗ dues c)

theorem tgt_tgt : ∀ (p : Cp) (c : Dev nD), tgt (tgt c p) p = c := by decide +kernel

def eqTgt (p : Cp) : Dev nD ≃ Dev nD := ⟨fun c => tgt c p, fun c => tgt c p, tgt_tgt p, tgt_tgt p⟩
def eqAx (d : Fin 3) : Dev nD ≃ Dev nD := ⟨fun c => pr c (ax d), fun c => pr c (ax d), fun c => pr_ax c d, fun c => pr_ax c d⟩

/-- The tokens go to the devices that fulfil the duties. -/
theorem toks_dues : (bigSep Finset.univ fun c : Dev nD => (toks c : sProp 𝕄)) = bigSep Finset.univ fun c : Dev nD => dues c := by
  unfold toks dues
  rw [bigSep_sep', bigSep_sep', bigSep_univ_comm, bigSep_univ_comm (fun (c : Dev nD) (p : Cp) => (dutyTok ER (kc c (some p)) 0 0 : sProp 𝕄)),
    bigSep_univ_comm (fun (c : Dev nD) (d : Fin 3) => (dutyTok ER (kc (pr c (ax d)) none) 0 d : sProp 𝕄)),
    bigSep_univ_comm (fun (c : Dev nD) (p : Cp) => (dutyTok ER (kc (tgt c p) (some p)) 0 0 : sProp 𝕄)),
    bigSep_congr (s := Finset.univ) (fun (d : Fin 3) _ => bigSep_univ_equiv (eqAx d) (fun c : Dev nD => (dutyTok ER (kc c none) 0 d : sProp 𝕄))),
    bigSep_congr (s := Finset.univ) (fun (p : Cp) _ => bigSep_univ_equiv (eqTgt p) (fun c : Dev nD => (dutyTok ER (kc c (some p)) 0 0 : sProp 𝕄)))]
  rfl

theorem deal_one (K : Dev nD × CK → ℕ) (c : Dev nD) : iprop(known I K ∗ places c ∗ dues c) ⊢ G' I c := by
  unfold G'
  iintro H
  iexists K
  iexact H

theorem regroup :
    (bigSep Finset.univ fun c : Dev nD => iprop((bigSep Finset.univ fun y : CK => iprop(∃ κ : ℕ, cellInv ER (Rd I) κ (kc c y)))
          ∗ (places c ∗ bigSep Finset.univ fun y : CK => reached ER (kc c y) 0) ∗ toks c) : sProp 𝕄)
      ⊢ bigSep Finset.univ (G' I) := by
  have hd : ∀ K : Dev nD × CK → ℕ, iprop(known I K ∗ bigSep Finset.univ fun c : Dev nD => iprop(places c ∗ dues c)) ⊢ bigSep Finset.univ (G' I) := fun K =>
    (sep_mono_left (BI.bigSep_of_persistent Finset.univ (known I K))).trans (by rw [← bigSep_sep']; exact bigSep_mono fun c _ => deal_one I K c)
  rw [bigSep_sep', bigSep_sep', bigSep_sep', ← bigSep_univ_prod (fun q : Dev nD × CK => iprop(∃ κ : ℕ, cellInv ER (Rd I) κ (kc q.1 q.2))),
    ← bigSep_univ_prod (fun q : Dev nD × CK => (reached ER (kc q.1 q.2) 0 : sProp 𝕄)), toks_dues]
  iintro ⟨HI, ⟨Hat, #HR⟩, Htok⟩
  ihave HK := (BI.bigSep_exists_pi Finset.univ (fun (q : Dev nD × CK) (κ : ℕ) => (cellInv ER (Rd I) κ (kc q.1 q.2) : sProp 𝕄))) $$ HI
  icases HK with ⟨%K, #HI⟩
  iapply (hd K)
  isplitr
  · unfold known; isplitl; · iexact HI
    iexact HR
  · iapply (BIBase.Entails.of_eq (bigSep_sep' Finset.univ (fun c : Dev nD => (places c : sProp 𝕄)) dues).symm)
    isplitl [Hat]; · iexact Hat
    iexact Htok

/-- All devices' semaphores become cells, known to all. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_cells I c).trans (bigSep_fupd _ _)).trans (BI.fupd_mono (regroup I))

/-! ## The credits -/

/-- The cell a start of a copy pays, if any. -/
def Ev.pays : Ev → Option Cp
  | .enqR l k => some (1, l, k)
  | .enqA l x => some (3, l, x)
  | _ => none

theorem tally_kc (a b : Dev nD) (y y' : CK) (n : ℕ) :
    (tallyAt (kc a y) () n : CellTallies nD τ sig Unit) (kc b y') () = if a = b ∧ y = y' then n else 0 := by
  rw [tallyAt_apply]
  by_cases h : a = b ∧ y = y'
  · rw [if_pos h, if_pos ⟨by rw [h.1, h.2], rfl⟩]
  · rw [if_neg h, if_neg fun h' => h ((kc_eq_iff a b y y').mp h'.1.symm)]

theorem owedE_cell (d c : Dev nD) (p : Cp) (e : Ev) :
    owedE d e (kc c (some p)) () = (if e.pays = some p then 1 else 0) * if d = tgt c p then amt p.2.1 else 0 := by
  have key : ∀ (a : Dev nD) (p' : Cp), a = tgt d p' → p'.1 = 1 ∨ p'.1 = 3 →
      (tallyAt (kc a (some p')) () (amt p'.2.1) : CellTallies nD τ sig Unit) (kc c (some p)) ()
        = (if some p' = some p then 1 else 0) * if d = tgt c p then amt p.2.1 else 0 := by
    rintro a p' rfl -
    rw [tally_kc]
    by_cases hp : p' = p
    · subst hp
      rw [if_pos rfl, Nat.one_mul]
      by_cases hd : d = tgt c p'
      · rw [if_pos hd, if_pos ⟨by rw [hd, tgt_tgt], rfl⟩]
      · rw [if_neg hd, if_neg fun h => hd (by rw [← h.1, tgt_tgt])]
    · rw [if_neg fun h => hp (Option.some.inj h), Nat.zero_mul, if_neg fun h => hp (Option.some.inj h.2)]
  cases e with
  | enqR l k => exact key _ (1, l, k) rfl (Or.inl rfl)
  | enqA l x => exact key _ (3, l, x) rfl (Or.inr rfl)
  | _ => exact (Nat.zero_mul _).symm

theorem owedE_bar (d c : Dev nD) (e : Ev) : owedE d e (kc c none) () = 0 := by
  cases e with
  | enqR l k => exact (tally_kc _ _ _ _ _).trans (if_neg fun h => by simp at h)
  | enqA l x => exact (tally_kc _ _ _ _ _).trans (if_neg fun h => by simp at h)
  | _ => rfl

theorem owedL_cell (d c : Dev nD) (p : Cp) : ∀ es : List Ev,
    owedL d es (kc c (some p)) () = (es.countP fun e => e.pays = some p) * if d = tgt c p then amt p.2.1 else 0
  | [] => (Nat.zero_mul _).symm
  | e :: es => by
    rw [show owedL d (e :: es) = owedL d es + owedE d e from rfl, Pi.add_apply, Finsupp.add_apply, owedL_cell d c p es, owedE_cell, List.countP_cons,
      Nat.add_mul]
    simp only [decide_eq_true_eq]

theorem owedL_bar (d c : Dev nD) : ∀ es : List Ev, owedL d es (kc c none) () = 0
  | [] => rfl
  | e :: es => by
    rw [show owedL d (e :: es) = owedL d es + owedE d e from rfl, Pi.add_apply, Finsupp.add_apply, owedL_bar d c es, owedE_bar]

/-- Every copy is started once. -/
theorem once : ∀ (p : Cp), p.1 = 1 ∨ p.1 = 3 → (segs.countP fun e => e.pays = some p) = 1 := by decide +kernel

theorem owed_cell (d c : Dev nD) (p : Cp) (hp : p.1 = 1 ∨ p.1 = 3) : O₀ d (kc c (some p)) () = if d = tgt c p then amt p.2.1 else 0 := by
  unfold O₀
  simp only [Pi.add_apply, Finsupp.add_apply]
  have none_ne : ∀ a : Dev nD, ¬(a = c ∧ (none : CK) = some p) := fun a h => by simp at h
  rw [owedL_cell, once p hp, Nat.one_mul, tally_kc, tally_kc, tally_kc, if_neg (none_ne _), if_neg (none_ne _), if_neg (none_ne _)]
  rfl

theorem owed_bar (d c : Dev nD) : O₀ d (kc c none) () = (if d = pr c (ax 2) then 1 else 0) + (if d = pr c (ax 1) then 1 else 0) + (if d = pr c (ax 0) then 1 else 0) := by
  have one : ∀ t : Fin 3, (if pr d (ax t) = c ∧ (none : CK) = none then 1 else 0) = if d = pr c (ax t) then 1 else 0 := fun t => by
    by_cases h : d = pr c (ax t)
    · rw [if_pos h, if_pos ⟨by rw [h, pr_ax], rfl⟩]
    · rw [if_neg h, if_neg fun h' => h (by rw [← h'.1, pr_ax])]
  unfold O₀
  simp only [Pi.add_apply, Finsupp.add_apply]
  rw [owedL_bar, tally_kc, tally_kc, tally_kc, one, one, one, Nat.zero_add]

theorem launch_cell (c : Dev nD) (p : Cp) (hp : p.1 = 1 ∨ p.1 = 3) :
    tallyOn (kc c (some p)) (launchCredit (Pipeline.owing O₀) 0 (kc c (some p))) = (tallyAt (kc c (some p)) () (amt p.2.1) : CellTallies nD τ sig Unit) := by
  unfold tallyAt; refine congrArg _ (Finsupp.ext fun u => ?_); cases u
  rw [Pipeline.launchCredit_owing, Finsupp.single_eq_same, Finset.sum_congr rfl fun d _ => owed_cell d c p hp,
    Finset.sum_ite_eq' Finset.univ (tgt c p) fun _ => amt p.2.1, if_pos (Finset.mem_univ _)]

theorem launch_bar (c : Dev nD) :
    tallyOn (kc c none) (launchCredit (Pipeline.owing O₀) 0 (kc c none)) = (tallyAt (kc c none) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pr c (ax 2)) fun _ => 1, Finset.sum_ite_eq' Finset.univ (pr c (ax 1)) fun _ => 1, Finset.sum_ite_eq' Finset.univ (pr c (ax 0)) fun _ => 1,
    if_pos (Finset.mem_univ _), if_pos (Finset.mem_univ _), if_pos (Finset.mem_univ _)]

theorem pick_two (P Q R S : sProp 𝕄) : iprop(P ∗ Q ∗ R ∗ S) ⊢ iprop(Q ∗ S) := by
  iintro ⟨-, H1, -, H3⟩
  isplitl [H1] <;> iassumption

/-- The credits the launch gives a device. -/
theorem deal_creds (c : Dev nD) : (Pipeline.launchCred O₀ c : sProp 𝕄) ⊢ iprop(cred (tallyAt (kc c none) () 3) ∗ creds c) := by
  have hsub : (Pipeline.launchCred O₀ c : sProp 𝕄)
      ⊢ bigSep (Finset.univ.map ⟨locK, loc_inj⟩) fun sm => cred (tallyOn ((c : Thread nD τ), sm) (launchCredit (Pipeline.owing O₀) 0 ((c : Thread nD τ), sm))) := by
    unfold Pipeline.launchCred
    exact bigSep_subset (Finset.subset_univ _)
  refine hsub.trans ?_
  rw [bigSep_map]
  have hkc : ∀ Φ : GSem nD τ sig → sProp 𝕄, (bigSep Finset.univ fun y : CK => Φ ((c : Thread nD τ), locK y))
      ⊢ iprop(Φ (kc c none) ∗ bigSep Finset.univ fun p : Fin 12 × Fin 7 =>
        iprop(Φ (kc c (some (0, p))) ∗ Φ (kc c (some (1, p))) ∗ Φ (kc c (some (2, p))) ∗ Φ (kc c (some (3, p))))) := fun Φ =>
    BIBase.Entails.of_eq (by rw [cells_split, four])
  refine (hkc fun g => cred (tallyOn g (launchCredit (Pipeline.owing O₀) 0 g))).trans ?_
  rw [launch_bar]
  refine sep_mono_right ?_
  unfold creds
  refine bigSep_mono fun p _ => ?_
  rw [launch_cell c (1, p) (Or.inl rfl), launch_cell c (3, p) (Or.inr rfl)]
  exact pick_two _ _ _ _

end Cert.Moe

end
-- ==== Proof.Launch.lean ====
module

public import proofs.«01_k».proof.Proof.Deal
public import proofs.«01_k».proof.Proof.Gen.KernelIdeal.Points
public import Idealize.ShloMosaic.Lib.Pipeline.CollectiveSegs

@[expose] public section

/-! # The run of the whole program -/

noncomputable section

namespace Cert.Moe

open Cert.KernelIdeal Cert.KernelIdeal.Gen
open Idealize.ShloMosaic Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-- The arguments of every device, as its windows stage them. -/
def ins : Ins F where
  x c := (win0_0.blk t0_0).view.read (Elt F) (m ((c : Thread nD τ).loc main_arg0))
  rw c := (win0_1.blk t0_0).view.read (Elt F) (m ((c : Thread nD τ).loc main_arg1))
  ix c := (win0_2.blk t0_0).view.read (Elt F) (m ((c : Thread nD τ).loc main_arg2))
  ew c := (win0_3.blk t0_0).view.read (Elt F) (m ((c : Thread nD τ).loc main_arg3))
  sw c := (win0_4.blk t0_0).view.read (Elt F) (m ((c : Thread nD τ).loc main_arg4))

/-- What a device starts from. -/
def Φ₀ (c : Dev nD) : sProp 𝕄 := iprop((∃ K, ctx (ins m) K ∗ ghost c) ∗ scratch c)
/-- What it ends with. -/
def Φ₁ (c : Dev nD) : sProp 𝕄 := iprop(scratch c ∗ rested c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).rw c
    | ⟨2, _⟩ => (ins m).ix c
    | ⟨3, _⟩ => (ins m).ew c
    | ⟨4, _⟩ => (ins m).sw c
    | ⟨5, _⟩ => outV (ins m)
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer of a device holding a value. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ
    ∗ stg c cc0_stg0_0 ((ins m).x c) ∗ stg c cc0_stg1_0 ((ins m).rw c) ∗ stg c cc0_stg2_0 ((ins m).ix c) ∗ stg c cc0_stg3_0 ((ins m).ew c)
    ∗ stg c cc0_stg4_0 ((ins m).sw c) ∗ stg c cc0_stg5_0 (outV (ins m)))

theorem before_0 (c : Dev nD) (d) : (dats m ρ 0 c).before (0 : Fin 6) t0_0 d = (ins m).x c := by
  unfold Dat.before; rw [if_pos (fetch0_0 t0_0)]; rfl
theorem before_1 (c : Dev nD) (d) : (dats m ρ 0 c).before (1 : Fin 6) t0_0 d = (ins m).rw c := by
  unfold Dat.before; rw [if_pos (fetch0_1 t0_0)]; rfl
theorem before_2 (c : Dev nD) (d) : (dats m ρ 0 c).before (2 : Fin 6) t0_0 d = (ins m).ix c := by
  unfold Dat.before; rw [if_pos (fetch0_2 t0_0)]; rfl
theorem before_3 (c : Dev nD) (d) : (dats m ρ 0 c).before (3 : Fin 6) t0_0 d = (ins m).ew c := by
  unfold Dat.before; rw [if_pos (fetch0_3 t0_0)]; rfl
theorem before_4 (c : Dev nD) (d) : (dats m ρ 0 c).before (4 : Fin 6) t0_0 d = (ins m).sw c := by
  unfold Dat.before; rw [if_pos (fetch0_4 t0_0)]; rfl

/-- The body on a device, between what the pipeline gives it and what it asks for. -/
theorem body_step (c : Dev nD) : bodyPre m ρ c ⊢ Wp c body fun _ => bodyPost m ρ c := by
  unfold bodyPre Φ₀ Dat.owesAt Pipeline.owesWithin
  rw [show (dats m ρ 0 c).owed t0_0.castSucc = O₀ c from rfl]
  iintro ⟨⟨⟨%K, Hctx, Hg⟩, Hs⟩, ⟨%W, %hW, HO⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩⟩
  rw [e0.trans (before_0 m ρ c d0), e1.trans (before_1 m ρ c d1), e2.trans (before_2 m ρ c d2), e3.trans (before_3 m ρ c d3), e4.trans (before_4 m ρ c d4)]
  iapply (body_run (ins m) K c W (Q := fun _ => bodyPost m ρ c)) $$ [Hctx Hg Hs HO H0 H1 H2 H3 H4 H5]
  · isplitl [Hctx]; · iexact Hctx
    isplitl [Hg]; · iexact Hg
    isplitl [H0 H1 H2 H3 H4]
    · unfold staged
      isplitl [H0]; · iexact H0
      isplitl [H1]; · iexact H1
      isplitl [H2]; · iexact H2
      isplitl [H3]; · iexact H3
      iexact H4
    isplitl [H5]; · iexists g5; iexact H5
    isplitl [Hs]; · iexact Hs
    iexact HO
  unfold staged
  iintro ⟨⟨H0, H1, H2, H3, H4⟩, H5, Hs, Hr, ⟨%W', HO⟩⟩
  unfold bodyPost Φ₁ Dat.owesAt Pipeline.owesWithin
  rw [show (dats m ρ 0 c).owed t0_0.succ = 0 from rfl]
  isplitl [Hs Hr]
  · isplitl [Hs] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

theorem windows (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem point (t : Fin cfg0.N) : t = t0_0 := fin_N0 t

theorem body_same' : cc0_body (F := F) xM (Memref.isWhole_whole _) rwM (Memref.isWhole_whole _) idM (Memref.isWhole_whole _)
    ewM (Memref.isWhole_whole _) swM (Memref.isWhole_whole _) outM (Memref.isWhole_whole _) accM (Memref.isWhole_whole _)
    xwM (Memref.isWhole_whole _) rcM (Memref.isWhole_whole _) cc0_scratch3 cc0_scratch4 cc0_scratch5 cc0_scratch6 = body := by
  rw [cc0_body_eq_skeleton, body_same]

set_option maxRecDepth 200000 in
theorem body_obligation (c : Dev nD) : BodyObligation (dats (F := F) m ρ 0 c) (defs₀ (F := F)) 𝒱₀ () Set.univ := fun t => by
  rw [point t, windows, windows]
  simp only [owns_stg]
  show bodyPre m ρ c ⊢ wp frame (wpE (defs₀ (F := F)) 𝒱₀ c none) Set.univ
    (cc0_body (F := F) xM (Memref.isWhole_whole _) rwM (Memref.isWhole_whole _) idM (Memref.isWhole_whole _)
      ewM (Memref.isWhole_whole _) swM (Memref.isWhole_whole _) outM (Memref.isWhole_whole _) accM (Memref.isWhole_whole _)
      xwM (Memref.isWhole_whole _) rcM (Memref.isWhole_whole _) cc0_scratch3 cc0_scratch4 cc0_scratch5 cc0_scratch6) (fun _ => bodyPost m ρ c)
  rw [body_same']
  exact body_step m ρ c

/-! ## The launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

/-- What a device starts from, before its buffers. -/
def begin (c : Dev nD) : sProp 𝕄 := iprop(∃ K, ctx (ins m) K ∗ ghost c)

theorem three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(begin m c ∗ emp) := by
  have hp : (places c : sProp 𝕄) ⊢ iprop(atPos ER (kc c none) 0 ∅ 0 ∗ bigSep Finset.univ fun p : Cp => atPos ER (kc c (some p)) 0 ∅ 0) := by
    unfold places; rw [cells_split]
  have hd : (dues c : sProp 𝕄) ⊢ iprop((dutyTok ER (kc (pr c (ax 0)) none) 0 0 ∗ dutyTok ER (kc (pr c (ax 1)) none) 0 1 ∗ dutyTok ER (kc (pr c (ax 2)) none) 0 2)
      ∗ bigSep Finset.univ fun p : Cp => dutyTok ER (kc (tgt c p) (some p)) 0 0) := by
    unfold dues; rw [three]
  iintro ⟨-, Hlev, Hcr, -, HG⟩
  ihave Hc := (deal_creds (F := F) c) $$ Hcr
  icases Hc with ⟨Hb, Hc⟩
  unfold G' known
  icases HG with ⟨%K, ⟨HI, HR⟩, Hp, Hd⟩
  ihave Hp' := hp $$ Hp
  icases Hp' with ⟨Hp0, Hp1⟩
  ihave Hd' := hd $$ Hd
  icases Hd' with ⟨Hd0, Hd1⟩
  imodintro
  unfold begin
  isplitl
  · iexists K
    isplitl [HI HR Hlev]
    · unfold ctx
      isplitl [HI]; · iexact HI
      isplitl [HR]; · iexact HR
      iexact Hlev
    unfold ghost start
    isplitl [Hp1 Hd1]
    · isplitl [Hp1] <;> iassumption
    isplitl [Hp0]; · iexact Hp0
    isplitl [Hd0]; · iexact Hd0
    isplitl [Hb] <;> iassumption
  · iempintro

theorem phi0_intro (c : Dev nD) :
    iprop(begin m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ begin scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_sems, barrier_sems]
  unfold Φ₁ scratch rested
  iintro ⟨Hr, Hz, HzB⟩
  isplitl [HzB]; · iexact HzB
  isplitl [Hz]; · iexact Hz
  iexact Hr

theorem above_O₀ (c : Dev nD) : Above 0 (O₀ c) :=
  above_add (above_add (above_add (above_owedL c 0 segs (by decide +kernel)) (above_tally 0 _ none 1 (by decide))) (above_tally 0 _ none 1 (by decide)))
    (above_tally 0 _ none 1 (by decide))

theorem lv_stage : ∀ (w : Fin 6) (s : Fin (spec0 w).nbuf) (c : Dev nD) (u : Unit), lv ((c : Thread nD τ), SemLoc.dma ((spec0 w).sem s)) u ≤ 0 := by
  decide +kernel

theorem waits (c : Dev nD) : (levAts L lv : sProp 𝕄) ⊢ Pipeline.cellsWaits cfgs (dats m ρ) () 0 c :=
  Pipeline.cellsWaits_intro cfgs (dats m ρ) () 0 c fun w s t =>
    mayWait c _ 0 (lv_stage w s c) _ (by
      rcases t with ⟨_ | _, ht⟩
      · exact above_O₀ c
      · exact above_zero 0)

/-- The contents of a window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- From any memory with counters at zero, every fair run of the program on the eight devices ends, with every window's array at
    the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund (ins m)) $$ HX with HG
      imodintro
      isplitl [HP] <;> iassumption)
    (hglob := glob (ins m))
    (hA := fun _ _ => rfl) (hpf := fun _ k => k.elim0)
    (X := begin m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem final_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

theorem final_out (c : Dev nD) : finalA m ρ c (5 : Fin 6) = outV (ins m) := by
  have h : (win0_5.blk t0_0).view.read (Elt F) (finalA m ρ c (5 : Fin 6)) = outV (ins m) := by
    unfold finalA
    rw [show cfg0.N = (t0_0 : Fin cfg0.N).val + 1 from rfl, (dats m ρ 0 c).arrAt_succ (5 : Fin 6) t0_0]
    rw [show (cfg0.win (5 : Fin 6)).flush t0_0 = true from flush0_5 t0_0, if_pos rfl]
    exact View.read_write_univ _ _
  have hz : (fun a => (win0_5.index t0_0) a * main_v1.ty.shape.size a) = fun _ => 0 := funext fun a => by fin_cases a <;> decide
  have hr := fun f => Memref.read_access_unit_zero (Elt F) main_v1 hz (fun a => by fin_cases a <;> decide) f
  exact (hr _).symm.trans h

theorem ins_x (c : Dev nD) : (ins m).x c = m ((c : Thread nD τ).loc main_arg0) := by
  have hz : (fun a => (win0_0.index t0_0) a * main_arg0.ty.shape.size a) = fun _ => 0 := funext fun a => by fin_cases a <;> decide
  have hr := fun f => Memref.read_access_unit_zero (Elt F) main_arg0 hz (fun a => by fin_cases a <;> decide) f
  exact hr _
theorem ins_rw (c : Dev nD) : (ins m).rw c = m ((c : Thread nD τ).loc main_arg1) := by
  have hz : (fun a => (win0_1.index t0_0) a * main_arg1.ty.shape.size a) = fun _ => 0 := funext fun a => by fin_cases a <;> decide
  have hr := fun f => Memref.read_access_unit_zero (Elt F) main_arg1 hz (fun a => by fin_cases a <;> decide) f
  exact hr _
theorem ins_ix (c : Dev nD) : (ins m).ix c = m ((c : Thread nD τ).loc main_arg2) := by
  have hz : (fun a => (win0_2.index t0_0) a * main_arg2.ty.shape.size a) = fun _ => 0 := funext fun a => by fin_cases a <;> decide
  have hr := fun f => Memref.read_access_unit_zero (Elt F) main_arg2 hz (fun a => by fin_cases a <;> decide) f
  exact hr _
theorem ins_ew (c : Dev nD) : (ins m).ew c = m ((c : Thread nD τ).loc main_arg3) := by
  have hz : (fun a => (win0_3.index t0_0) a * main_arg3.ty.shape.size a) = fun _ => 0 := funext fun a => by fin_cases a <;> decide
  have hr := fun f => Memref.read_access_unit_zero (Elt F) main_arg3 hz (fun a => by fin_cases a <;> decide) f
  exact hr _
theorem ins_sw (c : Dev nD) : (ins m).sw c = m ((c : Thread nD τ).loc main_arg4) := by
  have hz : (fun a => (win0_4.index t0_0) a * main_arg4.ty.shape.size a) = fun _ => 0 := funext fun a => by fin_cases a <;> decide
  have hr := fun f => Memref.read_access_unit_zero (Elt F) main_arg4 hz (fun a => by fin_cases a <;> decide) f
  exact hr _

/-- The run, read at the arguments and the result: the arguments are as they were, the result is the computed one, the counters are at zero. -/
theorem run_read : θ_run defs (onTc (τ := τ) (main (F := F))) (s₀ m ρ) (fun r =>
    (∀ c : Dev nD, (r.2.mem ((c.tc : Thread nD τ).loc main_v1) = outV (ins m))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c (5 : Fin 6)).trans (final_out m ρ c),
    (h.1 c (0 : Fin 6)).trans (final_in m ρ c (0 : Fin 6) rfl), (h.1 c (1 : Fin 6)).trans (final_in m ρ c (1 : Fin 6) rfl),
    (h.1 c (2 : Fin 6)).trans (final_in m ρ c (2 : Fin 6) rfl), (h.1 c (3 : Fin 6)).trans (final_in m ρ c (3 : Fin 6) rfl),
    (h.1 c (4 : Fin 6)).trans (final_in m ρ c (4 : Fin 6) rfl)⟩, h.2⟩) (run_main m ρ)

end Cert.Moe

end
-- ==== Proof.Frames.lean ====
module

public import proofs.«01_k».proof.Defs
public import proofs.«01_k».proof.Proof.Launch
public import proofs.«01_k».proof.Proof.Gen.Kernel
public import proofs.«01_k».proof.Proof.Gen.ReferenceIdeal.Run

@[expose] public section

/-! # The frames of the kernel at ideal and at machine numbers -/

noncomputable section

namespace Cert.Moe

open Idealize.ShloMosaic Idealize.SL.Sem

/-- The kernel at ideal numbers runs to the end, leaves its arguments and brings every counter back to zero. -/
theorem frame_kernelIdeal : Cert.quiescent_KernelIdeal := fun m ρ _ =>
  (θ_run Cert.KernelIdeal.defs _ _).mono (fun _ h => ⟨fun c => (h.1 c).2, h.2⟩) (run_read (F := Ideal) m ρ)

/-- The frame of the same text at machine numbers. -/
def frameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem frame_bits : frameBits := fun m ρ _ =>
  (θ_run Cert.KernelIdeal.defs _ _).mono (fun _ h => ⟨fun c => (h.1 c).2, h.2⟩) (run_read (F := Bits) m ρ)

set_option maxRecDepth 100000 in
/-- The two programs have the same text. -/
theorem same_text : Cert.quiescent_Kernel = frameBits := by
  chain_rfl

/-- The kernel at machine numbers runs to the end, leaves its arguments and brings every counter back to zero. -/
theorem frame_kernel : Cert.quiescent_Kernel := same_text.mpr frame_bits

/-- The reference runs to the end and leaves its arguments; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Scalars.lean ====
module

public import proofs.«01_k».proof.Proof.Data
public import Idealize.ShloMosaic.Lib.Pointwise

@[expose] public section

/-! # Facts about extended reals, words and the eight devices

What the value of the kernel's result rests on: products with a nonnegative real distribute over sums of extended
reals, a softmax of real scores is real and nonnegative, and three stages of pairwise sums along the three axes are
the sum over all devices. -/

noncomputable section

namespace Cert.MoeVal

open Cert.KernelIdeal Cert.KernelIdeal.Gen
open Cert.Moe hiding ix2
open Idealize.ShloMosaic Idealize.ShloMosaic.TcCoe

/-- An extended real that is a real. -/
def Real' (y : EReal) : Prop := ∃ t : ℝ, y = (t : EReal)

theorem Real'.of_ne {y : EReal} (h1 : y ≠ ⊤) (h2 : y ≠ ⊥) : Real' y := ⟨y.toReal, (EReal.coe_toReal h1 h2).symm⟩

/-- A sum of products of reals is a real. -/
theorem real_dot {n : ℕ} (f g : Fin n → EReal) (hf : ∀ k, Real' (f k)) (hg : ∀ k, Real' (g k)) : Real' (∑ k, f k * g k) := by
  refine Finset.sum_induction _ Real' ?_ ⟨0, by simp⟩ fun k _ => ?_
  · rintro _ _ ⟨a, rfl⟩ ⟨b, rfl⟩; exact ⟨a + b, by simp⟩
  · obtain ⟨a, ha⟩ := hf k; obtain ⟨b, hb⟩ := hg k; exact ⟨a * b, by rw [ha, hb]; simp⟩

/-- A sum of reals, as an extended real. -/
theorem coe_sum {n : ℕ} (g : Fin n → ℝ) : ((∑ k, g k : ℝ) : EReal) = ∑ k, (g k : EReal) := by
  have h : ∀ s : Finset (Fin n), ((∑ k ∈ s, g k : ℝ) : EReal) = ∑ k ∈ s, (g k : EReal) := fun s => by
    induction s using Finset.induction with
    | empty => simp
    | insert a s ha ih => rw [Finset.sum_insert ha, Finset.sum_insert ha, EReal.coe_add, ih]
  exact h _

/-- The greatest of finitely many reals, taken from minus infinity, is a real. -/
theorem real_max {n : ℕ} (c : EReal) (hc : c ≠ ⊤) (f : Fin (n + 1) → EReal) (hf : ∀ k, Real' (f k)) :
    Real' (Finset.univ.fold max c f) := by
  refine Real'.of_ne (ne_of_lt ?_) (ne_of_gt ?_)
  · refine (Finset.fold_max_lt _).2 ⟨lt_of_le_of_ne le_top hc, fun k _ => ?_⟩
    obtain ⟨a, ha⟩ := hf k; rw [ha]; exact EReal.coe_lt_top a
  · obtain ⟨a, ha⟩ := hf 0
    exact lt_of_lt_of_le (EReal.bot_lt_coe a) (ha ▸ (Finset.le_fold_max _).2 (Or.inr ⟨0, Finset.mem_univ _, le_rfl⟩))

/-- The weight of one of finitely many real scores is a nonnegative real. -/
theorem real_soft {n : ℕ} (c : EReal) (hc : c ≠ ⊤) (f : Fin (n + 1) → EReal) (hf : ∀ k, Real' (f k)) (e : Fin (n + 1)) :
    ∃ p : ℝ, 0 ≤ p ∧ Ideal.div (Ideal.exp (f e - Finset.univ.fold max c f))
      (∑ k, Ideal.exp (f k - Finset.univ.fold max c f)) = (p : EReal) := by
  obtain ⟨t, ht⟩ := real_max c hc f hf
  choose g hg using hf
  have he : ∀ k, Ideal.exp (f k - Finset.univ.fold max c f) = (Real.exp (g k - t) : EReal) := fun k => by
    rw [ht, hg k, ← EReal.coe_sub]; rfl
  have hs : (∑ k, Ideal.exp (f k - Finset.univ.fold max c f)) = ((∑ k, Real.exp (g k - t) : ℝ) : EReal) := by
    rw [coe_sum]; exact Finset.sum_congr rfl fun k _ => he k
  have hp : 0 < ∑ k, Real.exp (g k - t) := Finset.sum_pos (fun k _ => Real.exp_pos _) ⟨0, Finset.mem_univ _⟩
  refine ⟨Real.exp (g e - t) * (∑ k, Real.exp (g k - t))⁻¹, by positivity, ?_⟩
  rw [hs, he e, Ideal.div, if_neg (by exact_mod_cast hp.ne'), ← EReal.coe_inv, ← EReal.coe_mul]

/-- A nonnegative real factor may be taken out of a sum of products. -/
theorem mul_dot {n : ℕ} (p : ℝ) (hp : 0 ≤ p) (f g : Fin n → EReal) :
    ∑ k, ((p : EReal) * f k) * g k = (p : EReal) * ∑ k, f k * g k := by
  have h : ∀ s : Finset (Fin n), ∑ k ∈ s, ((p : EReal) * f k) * g k = (p : EReal) * ∑ k ∈ s, f k * g k := fun s => by
    induction s using Finset.induction with
    | empty => simp
    | insert a s ha ih =>
      rw [Finset.sum_insert ha, Finset.sum_insert ha, ih,
        EReal.left_distrib_of_nonneg_of_ne_top (by exact_mod_cast hp) (EReal.coe_ne_top p), mul_assoc]
  exact h _

/-- A choice by the equality of two words. -/
theorem select_eq {α : Type} {n : ℕ} (a b : BitVec n) (u v : α) :
    Scalar.select (IntOp.cmpi .eq a b) u v = if a = b then u else v := by
  by_cases h : a = b
  · simp [Scalar.select, IntOp.cmpi, h]
  · have hb : (a == b) = false := by simpa using h
    simp [Scalar.select, IntOp.cmpi, h, hb]

/-- The word of an expert's number, as a device computes it. -/
theorem word_expert : ∀ (d : Dev nD) (k : Fin 4),
    Scalar.addi (Scalar.muli (wordD d) 4#32) (BitVec.ofNat 32 k.val) = BitVec.ofNat 32 (4 * d.val + k.val) := by
  decide +kernel

/-- The expert's number on the whole mesh of a device's `k`-th expert. -/
def gid (d : Dev nD) (k : Fin 4) : Fin 32 := ⟨4 * d.val + k.val, by have := d.isLt; have := k.isLt; simp only [nD] at *; omega⟩

/-- Expert numbers below 32 are told apart by their words. -/
theorem ofNat_inj32 (a b : Fin 32) : BitVec.ofNat 32 a.val = BitVec.ofNat 32 b.val ↔ a = b := by
  revert a b; decide +kernel

/-- The sum over the devices of the sums over their experts is the sum over the experts. -/
theorem sum_experts {M : Type} [AddCommMonoid M] (f : Fin 32 → M) : ∑ d : Dev nD, ∑ k : Fin 4, f (gid d k) = ∑ e, f e := by
  rw [← Fintype.sum_prod_type' (f := fun (d : Fin 8) (k : Fin 4) => f (gid d k))]
  refine Fintype.sum_equiv (finProdFinEquiv (m := 8) (n := 4)) _ _ fun p => ?_
  refine congrArg f (Fin.ext ?_)
  simp [gid, finProdFinEquiv]; omega

/-- The devices whose blocks meet at device `d` in three stages. -/
def meet (c : Fin 3) (d : Dev nD) : List (Dev nD) :=
  let a := fun s d => pr d (ordT c s)
  [d, a 0 d, a 1 d, a 0 (a 1 d), a 2 d, a 0 (a 2 d), a 1 (a 2 d), a 0 (a 1 (a 2 d))]

/-- They are all devices, each once. -/
theorem meet_perm : ∀ (c : Fin 3) (d : Dev nD), (meet c d).Perm (List.finRange 8) := by decide +kernel

/-- Three stages of pairwise sums, along the three axes in any of the orders, are the sum over all devices. -/
theorem three_stages {M : Type} [AddCommMonoid M] (c : Fin 3) (f0 f1 f2 f3 : Dev nD → M)
    (h1 : ∀ d, f1 d = f0 d + f0 (pr d (ordT c 0))) (h2 : ∀ d, f2 d = f1 d + f1 (pr d (ordT c 1)))
    (h3 : ∀ d, f3 d = f2 d + f2 (pr d (ordT c 2))) (d : Dev nD) : f3 d = ∑ d', f0 d' := by
  have h : ((meet c d).map f0).sum = ∑ d', f0 d' := ((meet_perm c d).map f0).sum_eq.trans (Fin.sum_univ_def (n := 8) f0).symm
  rw [← h, h3, h2, h2, h1, h1, h1, h1]
  simp [meet, add_assoc]

/-- The word of minus infinity is no plus infinity. -/
theorem ninf_ne_top : Ideal.ofBits .f32 0xFF800000#32 ≠ ⊤ := by
  simp [Ideal.ofBits, Ideal.ieee]

end Cert.MoeVal

end
-- ==== Proof.Value.lean ====
module

public import proofs.«01_k».proof.Proof.Scalars

@[expose] public section

/-! # The kernel's result over the extended reals

Every entry of what the kernel leaves is the entry of the shared product plus, over all experts, the chosen one's
weight times its product. -/

noncomputable section

namespace Cert.MoeVal

open Cert.KernelIdeal Cert.KernelIdeal.Gen
open Cert.Moe hiding ix2
open Idealize.ShloMosaic Idealize.ShloMosaic.TcCoe

set_option maxRecDepth 16384

variable (x : FVec Ideal S2048x512 .f32) (rw : FVec Ideal S512x32 .f32) (ix : IVec S2048x1 32)

/-- The score of an expert at a row. -/
def score (r : Fin 2048) (e : Fin 32) : EReal := ∑ h : Fin 512, x (ix2 r h) * rw (ix2 h e)

/-- The weight of an expert at a row: the softmax of the row's scores. -/
def weight (r : Fin 2048) (e : Fin 32) : EReal :=
  Ideal.div (Ideal.exp (score x rw r e - Finset.univ.fold max (Ideal.ofBits .f32 0xFF800000#32) (score x rw r)))
    (∑ e', Ideal.exp (score x rw r e' - Finset.univ.fold max (Ideal.ofBits .f32 0xFF800000#32) (score x rw r)))

/-- What expert `e`, with matrix `W`, adds to an entry of the result. -/
def share (W : Fin 512 → Fin 1024 → EReal) (r : Fin 2048) (q : Fin 1024) (e : Fin 32) : EReal :=
  if ix (ix2 r 0) = BitVec.ofNat 32 e.val then weight x rw r e * ∑ h : Fin 512, x (ix2 r h) * W h q else 0

/-- The kernel's selected weight at a row: the sum over the experts of the weight where the expert is the row's. -/
theorem pay3_apply (r : Fin 2048) (q : Fin 1) : k0_pay3 (F := Ideal) x rw ix (ix2 r q)
    = ∑ e : Fin 32, if BitVec.ofNat 32 e.val = ix (ix2 r 0) then weight x rw r e else 0 := by
  pointwise [k0_pay3, k0_pay1, k0_pay2]
  exact Finset.sum_congr rfl fun e _ => select_eq _ _ _ _

/-- It is the weight of the row's expert. -/
theorem pay3_of (r : Fin 2048) (q : Fin 1) (e : Fin 32) (h : ix (ix2 r 0) = BitVec.ofNat 32 e.val) :
    k0_pay3 (F := Ideal) x rw ix (ix2 r q) = weight x rw r e := by
  rw [pay3_apply, Finset.sum_eq_single e (fun e' _ hne => if_neg fun he => hne ((ofNat_inj32 _ _).1 (he.trans h)))
    (fun hn => absurd (Finset.mem_univ _) hn), if_pos h.symm]

/-- A device's gated copies of `x`: `x` times the row's weight where the row's expert is the copy's. -/
theorem gated_apply (d : Dev nD) (k : Fin 4) (q : Fin 1) (r : Fin 2048) (h : Fin 512) : gated d x rw ix k (ix3 q r h)
    = if ix (ix2 r 0) = BitVec.ofNat 32 (gid d k).val then k0_pay3 (F := Ideal) x rw ix (ix2 r 0) * x (ix2 r h) else 0 := by
  have hw := word_expert d k
  have hs := fun u v : EReal => select_eq (ix (ix2 r 0)) (BitVec.ofNat 32 (gid d k).val) u v
  rw [← hs, show (gid d k).val = 4 * d.val + k.val from rfl, ← hw]
  clear hs hw
  fin_cases k
  · show k0_pay6 _ _ (ix3 q r h) = _
    pointwise [wordD, k0_pay6, k0_pay5, k0_pay4, k0_pay2, k0_pay1]
  · show k0_pay7 _ _ _ _ (ix3 q r h) = _
    pointwise [wordD, k0_pay7, k0_pay4, k0_pay2, k0_pay1]
  · show k0_pay8 _ _ _ _ (ix3 q r h) = _
    pointwise [wordD, k0_pay8, k0_pay4, k0_pay2, k0_pay1]
  · show k0_pay10 (k0_pay9 _ _ _ _) (ix3 q r h) = _
    pointwise [wordD, k0_pay10, k0_pay9, k0_pay4, k0_pay2, k0_pay1]

section Thirds
variable (a : Fin 4 → FVec Ideal S1x2048x512 .bf16) (b : Fin 4 → FVec Ideal S1x512x1024 .f32)

/-- The three column groups of a device's own sums: four products, added. -/
theorem third0_apply (r : Fin 2048) (q : Fin 384) (q' : Fin 1024) (hq : q'.val = q.val) :
    third0 a b (ix2 r q) = ∑ k : Fin 4, ∑ h : Fin 512, a k (ix3 0 r h) * b k (ix3 0 h q') := by
  rw [Fin.sum_univ_four, show q' = ⟨q.val, by omega⟩ from Fin.ext hq]
  pointwise [third0, k0_pay11, k0_pay12, k0_pay13]

theorem third1_apply (r : Fin 2048) (q : Fin 384) (q' : Fin 1024) (hq : q'.val = 384 + q.val) :
    third1 a b (ix2 r q) = ∑ k : Fin 4, ∑ h : Fin 512, a k (ix3 0 r h) * b k (ix3 0 h q') := by
  rw [Fin.sum_univ_four, show q' = ⟨384 + q.val, by omega⟩ from Fin.ext hq]
  pointwise [third1, k0_pay14, k0_pay15, k0_pay16]

theorem third2_apply (r : Fin 2048) (q : Fin 256) (q' : Fin 1024) (hq : q'.val = 768 + q.val) :
    third2 a b (ix2 r q) = ∑ k : Fin 4, ∑ h : Fin 512, a k (ix3 0 r h) * b k (ix3 0 h q') := by
  rw [Fin.sum_univ_four, show q' = ⟨768 + q.val, by omega⟩ from Fin.ext hq]
  pointwise [third2, k0_pay17, k0_pay18]

end Thirds

/-- The shared rows: one product. -/
theorem sh_apply (a : FVec Ideal S256x512 .f32) (b : FVec Ideal S512x1024 .f32) (r : Fin 256) (q : Fin 1024) :
    k0_pay74 (F := Ideal) a b (ix2 r q) = ∑ h : Fin 512, a (ix2 r h) * b (ix2 h q) := by
  pointwise [k0_pay74]

/-! ## The buffers -/

section Buffers
variable (I : Ins Ideal)

/-- A load of one expert's matrix. -/
theorem ldE_apply (d : Dev nD) (k : Fin 4) (h : Fin 512) (q : Fin 1024) : ldE I d k (ix3 0 h q) = I.ew d (ix3 k h q) := by
  show I.ew d ((rEw k).toLoadRect.idx (ix3 0 h q)) = _
  refine congrArg (I.ew d) (funext fun a => Fin.ext ?_)
  fin_cases a <;> simp [rEw, LoadRect.idx, Rect.toLoadRect, Rect.unit]

/-- The accumulator's first contents. -/
theorem acc0_apply (d : Dev nD) (r : Fin 2048) (q : Fin 1024) :
    acc0 I d (ix2 r q) = ∑ k : Fin 4, ∑ h : Fin 512, ldX I d k (ix3 0 r h) * I.ew d (ix3 k h q) := by
  have hE : ∀ k : Fin 4, ∀ h : Fin 512, I.ew d (ix3 k h q) = ldE I d k (ix3 0 h q) := fun k h => (ldE_apply I d k h q).symm
  simp only [hE]
  have hq := q.isLt
  have hc : (cj (ix2 r q)).val = q.val / 384 % 3 := rfl
  unfold acc0
  split_ifs with h0 h1
  · have : q.val < 384 := by have := congrArg Fin.val h0; rw [hc] at this; simp at this; omega
    rw [← third0_apply (ldX I d) (ldE I d) r ⟨q.val, this⟩ q rfl]
    refine congrArg _ (funext fun a => Fin.ext ?_)
    fin_cases a
    · rfl
    · show (q.val - 0) % 384 = q.val; omega
  · have : q.val - 384 < 384 ∧ 384 ≤ q.val := by have := congrArg Fin.val h1; rw [hc] at this; simp at this; omega
    rw [← third1_apply (ldX I d) (ldE I d) r ⟨q.val - 384, this.1⟩ q (by simp; omega)]
    refine congrArg _ (funext fun a => Fin.ext ?_)
    fin_cases a
    · rfl
    · show (q.val - 384) % 384 = q.val - 384; omega
  · have : q.val - 768 < 256 ∧ 768 ≤ q.val := by
      have h0' : (cj (ix2 r q)).val ≠ 0 := fun h => h0 (Fin.ext h)
      have h1' : (cj (ix2 r q)).val ≠ 1 := fun h => h1 (Fin.ext h)
      rw [hc] at h0' h1'; omega
    rw [← third2_apply (ldX I d) (ldE I d) r ⟨q.val - 768, this.1⟩ q (by simp; omega)]
    refine congrArg _ (funext fun a => Fin.ext ?_)
    fin_cases a
    · rfl
    · show (q.val - 768) % 256 = q.val - 768; omega

/-- The accumulator after the reduce-scatter: the sum over all devices. -/
theorem accV_apply (d : Dev nD) (i : S2048x1024.Idx) : accV I 3 d i = ∑ d', acc0 I d' i :=
  three_stages (M := EReal) (cj i) (fun d => accV I 0 d i) (fun d => accV I 1 d i) (fun d => accV I 2 d i) (fun d => accV I 3 d i)
    (fun d => rfl) (fun d => rfl) (fun d => rfl) d

/-- The shared rows of the device that has a row's chunk. -/
theorem shV_apply (r : Fin 2048) (q : Fin 1024) : shV I (ownD (ix2 r q)) (ixR (ix2 r q))
    = ∑ h : Fin 512, I.x (ownD (ix2 r q)) (ix2 r h) * I.sw (ownD (ix2 r q)) (ix2 h q) := by
  have hr : ixR (ix2 r q) = ix2 (⟨r.val % 256, Nat.mod_lt _ (by decide)⟩ : Fin 256) q := funext fun a => Fin.ext (by fin_cases a <;> rfl)
  have ho : ∀ c : Fin 8, k0_off7 (Fin.ofNat 8 (lm c.val)) 0 = 256 * c.val ∧ k0_off7 (Fin.ofNat 8 (lm c.val)) 1 = 0 := by decide +kernel
  have h8 : r.val / 256 < 8 := by have := r.isLt; omega
  have ho' := ho ⟨r.val / 256, h8⟩
  have hd : ownD (ix2 r q) = Fin.ofNat 8 (lm (r.val / 256)) := rfl
  rw [hr]
  unfold shV
  rw [sh_apply]
  refine Finset.sum_congr rfl fun h _ => congrArg₂ (· * ·) ?_ ?_
  · show I.x _ ((rXB _).toLoadRect.idx _) = _
    refine congrArg (I.x _) (funext fun a => Fin.ext ?_)
    fin_cases a
    · refine Eq.trans (b := k0_off7 (ownD (ix2 r q)) 0 + r.val % 256) (by simp [LoadRect.idx, Rect.toLoadRect, Rect.unit]) ?_
      rw [hd, ho'.1]
      show 256 * (r.val / 256) + r.val % 256 = r.val
      omega
    · refine Eq.trans (b := k0_off7 (ownD (ix2 r q)) 1 + h.val) (by simp [LoadRect.idx, Rect.toLoadRect, Rect.unit]) ?_
      rw [hd, ho'.2]
      exact Nat.zero_add _
  · show I.sw _ (rSW.toLoadRect.idx _) = _
    refine congrArg (I.sw _) (funext fun a => Fin.ext ?_)
    fin_cases a <;> simp [LoadRect.idx, Rect.toLoadRect, Rect.unit]

variable {x rw ix}

/-- A device's part of an entry is the sum of its experts' shares. -/
theorem acc0_share (W : FVec Ideal ⟨3, ![32, 512, 1024]⟩ .f32) (hx : ∀ r h, Real' (x (ix2 r h))) (hrw : ∀ h e, Real' (rw (ix2 h e)))
    (d : Dev nD) (hIx : I.x d = x) (hIrw : I.rw d = rw) (hIix : I.ix d = ix)
    (hew : ∀ k h q, I.ew d (ix3 k h q) = W (ix3 (gid d k) h q)) (r : Fin 2048) (q : Fin 1024) :
    acc0 I d (ix2 r q) = ∑ k : Fin 4, share x rw ix (fun h q => W (ix3 (gid d k) h q)) r q (gid d k) := by
  rw [acc0_apply]
  refine Finset.sum_congr rfl fun k _ => ?_
  unfold ldX share
  rw [hIx, hIrw, hIix]
  simp only [gated_apply, hew]
  by_cases hc : ix (ix2 r 0) = BitVec.ofNat 32 (gid d k).val
  · obtain ⟨p, hp, hpe⟩ := real_soft (n := 31) _ ninf_ne_top (score x rw r) (fun e => real_dot _ _ (hx r) fun h => hrw h e) (gid d k)
    have hw : weight x rw r (gid d k) = (p : EReal) := hpe
    simp only [if_pos hc, pay3_of x rw ix r 0 _ hc, hw]
    exact mul_dot p hp _ _
  · simp only [if_neg hc, zero_mul, Finset.sum_const_zero]

/-- The result's entry: all experts' shares, and the shared product. -/
theorem outV_apply (W : FVec Ideal ⟨3, ![32, 512, 1024]⟩ .f32) (sw : FVec Ideal S512x1024 .f32)
    (hx : ∀ r h, Real' (x (ix2 r h))) (hrw : ∀ h e, Real' (rw (ix2 h e)))
    (hIx : ∀ d, I.x d = x) (hIrw : ∀ d, I.rw d = rw) (hIix : ∀ d, I.ix d = ix) (hIsw : ∀ d, I.sw d = sw)
    (hew : ∀ d k h q, I.ew d (ix3 k h q) = W (ix3 (gid d k) h q)) (r : Fin 2048) (q : Fin 1024) :
    outV I (ix2 r q) = (∑ e, share x rw ix (fun h q => W (ix3 e h q)) r q e) + ∑ h : Fin 512, x (ix2 r h) * sw (ix2 h q) := by
  show accV I 3 (ownD (ix2 r q)) (ix2 r q) + shV I (ownD (ix2 r q)) (ixR (ix2 r q)) = _
  rw [accV_apply, shV_apply, hIx, hIsw, ← sum_experts fun e => share x rw ix (fun h q => W (ix3 e h q)) r q e]
  exact congrArg (· + _) (Finset.sum_congr rfl fun d _ => acc0_share I W hx hrw d (hIx d) (hIrw d) (hIix d) (hew d) r q)

end Buffers

end Cert.MoeVal

end
-- ==== Proof.Ref.lean ====
module

public import proofs.«01_k».proof.Proof.Value
public import proofs.«01_k».proof.Proof.Gen.ReferenceIdeal

@[expose] public section

/-! # The reference's result over the extended reals -/

noncomputable section

namespace Cert.MoeVal

open Idealize.ShloMosaic

section Reference
open Cert.ReferenceIdeal
open Cert.ReferenceIdeal.Facts₀ Cert.ReferenceIdeal.Facts

/-- The reference's scores. -/
def refS (x : FVec Ideal S2048x512 .f32) (rw : FVec Ideal S512x32 .f32) : FVec Ideal S2048x32 .f32 :=
  Host.dotGeneral dot_S2048x512_S512x32_S2048x32_1_0_0_1_n_n none x rw

/-- Its exponentials of the scores less the row's greatest. -/
def refE (s : FVec Ideal S2048x32 .f32) : FVec Ideal S2048x32 .f32 :=
  Host.exp (subf s (broadcastInDim S2048x32 ![0, 1] bcast_S2048x1_S2048x32_0_1 (broadcastInDim S2048x1 ![0] bcast_S2048_S2048x1_0 (Host.reduce FloatOps.maximumf s (constant S_ .f32 0xFF800000#32) reducesTo_S2048x32_S2048_d1 h_S_))))

/-- Its weights. -/
def refW (e : FVec Ideal S2048x32 .f32) : FVec Ideal S2048x32 .f32 :=
  Host.divf e (broadcastInDim S2048x32 ![0, 1] bcast_S2048x1_S2048x32_0_1 (broadcastInDim S2048x1 ![0] bcast_S2048_S2048x1_0 (Host.reduceAdd e (constant S_ .f32 0x00000000#32) reducesTo_S2048x32_S2048_d1 h_S_)))

/-- Its sum over the experts of the chosen ones' weighted products. -/
def refP (p : FVec Ideal S2048x32 .f32) (x : FVec Ideal S2048x512 .f32) (ix : IVec S2048x1 32) (W : FVec Ideal S32x512x1024 .f32) : FVec Ideal S2048x1024 .f32 :=
  Host.reduceAdd (select (broadcastInDim S2048x32x1024 ![0, 1, 2] bcast_S2048x32x1_S2048x32x1024_0_1_2 (broadcastInDim S2048x32x1 ![0, 1] bcast_S2048x32_S2048x32x1_0_1 (cmpi .eq (broadcastInDim S2048x32 ![0, 1] bcast_S2048x1_S2048x32_0_1 ix) (broadcastInDim S2048x32 ![0, 1] bcast_S1x32_S2048x32_0_1 (broadcastInDim S1x32 ![1] bcast_S32_S1x32_1 (iotaInDim S32 32 0)))))) (mulf (broadcastInDim S2048x32x1024 ![0, 1, 2] bcast_S2048x32x1_S2048x32x1024_0_1_2 (broadcastInDim S2048x32x1 ![0, 1] bcast_S2048x32_S2048x32x1_0_1 p)) (Host.dotGeneral dot_S2048x512_S32x512x1024_S2048x32x1024_1_1_0_02_n_n none x W)) (broadcastInDim S2048x32x1024 ![] bcast_S_S2048x32x1024 (id (constant S_ .f32 0x00000000#32)))) (constant S_ .f32 0x00000000#32) reducesTo_S2048x32x1024_S2048x1024_d1 h_S_

/-- Its result, as its operations compose it. -/
def refV (x : FVec Ideal S2048x512 .f32) (rw : FVec Ideal S512x32 .f32) (ix : IVec S2048x1 32) (W : FVec Ideal S32x512x1024 .f32)
    (sw : FVec Ideal S512x1024 .f32) : FVec Ideal S2048x1024 .bf16 :=
  truncf .bf16 (addf (Host.dotGeneral dot_S2048x512_S512x1024_S2048x1024_1_0_0_1_n_n none x sw) (refP (refW (refE (refS x rw))) x ix W)) bitsLt_bf16_f32

theorem refS_apply (x : FVec Ideal S2048x512 .f32) (rw : FVec Ideal S512x32 .f32) (r : Fin 2048) (e : Fin 32) :
    refS x rw (ix2 r e) = score x rw r e := by
  pointwise [refS]
  rfl

theorem refE_apply (s : FVec Ideal S2048x32 .f32) (r : Fin 2048) (e : Fin 32) : refE s (ix2 r e)
    = Ideal.exp (s (ix2 r e) - Finset.univ.fold max (Ideal.ofBits .f32 0xFF800000#32) fun e' => s (ix2 r e')) := by
  pointwise [refE]

theorem refW_apply (s : FVec Ideal S2048x32 .f32) (r : Fin 2048) (e : Fin 32) :
    refW s (ix2 r e) = Ideal.div (s (ix2 r e)) (∑ e', s (ix2 r e')) := by
  pointwise [refW]

theorem refP_apply (p : FVec Ideal S2048x32 .f32) (x : FVec Ideal S2048x512 .f32) (ix : IVec S2048x1 32) (W : FVec Ideal S32x512x1024 .f32)
    (r : Fin 2048) (q : Fin 1024) : refP p x ix W (ix2 r q)
    = ∑ e : Fin 32, if ix (ix2 r 0) = BitVec.ofNat 32 e.val then p (ix2 r e) * ∑ h : Fin 512, x (ix2 r h) * W (ix3 e h q) else 0 := by
  pointwise [refP]
  rw [show id (constant (F := Ideal) S_ .f32 0x00000000#32) ix0 = (0 : EReal) from Ideal.ofBits_zero_f32]
  exact Finset.sum_congr rfl fun e _ => select_eq _ _ _ _

/-- An entry of the reference's result: the shared product and all experts' shares. -/
theorem refV_apply (x : FVec Ideal S2048x512 .f32) (rw : FVec Ideal S512x32 .f32) (ix : IVec S2048x1 32) (W : FVec Ideal S32x512x1024 .f32)
    (sw : FVec Ideal S512x1024 .f32) (r : Fin 2048) (q : Fin 1024) :
    refV x rw ix W sw (ix2 r q) = (∑ e, share x rw ix (fun h q => W (ix3 e h q)) r q e) + ∑ h : Fin 512, x (ix2 r h) * sw (ix2 h q) := by
  rw [add_comm]
  pointwise [refV]
  rw [refP_apply]
  simp only [refW_apply, refE_apply, refS_apply]
  rfl

end Reference

end Cert.MoeVal

end
-- ==== Proof.Pre.lean ====
module

public import proofs.«01_k».proof.Defs
public import proofs.«01_k».proof.Proof.Scalars
public import Idealize.ShloMosaic.Lib.ReduceAll

@[expose] public section

/-! # What the precondition says -/

noncomputable section

namespace Cert.MoeVal

open Idealize.ShloMosaic

/-- The shape facts of the precondition. -/
instance preKernel : Cert.Pre_finite_router_KernelIdeal.Facts where
  bcast_S_S2048x512 := by decide
  reducesTo_S2048x512_S_d0_1 := by decide
  h_S_ := by decide
  bcast_S_S512x32 := by decide
  reducesTo_S512x32_S_d0_1 := by decide

instance preReference : Cert.Pre_finite_router_ReferenceIdeal.Facts where
  bcast_S_S2048x512 := by decide
  reducesTo_S2048x512_S_d0_1 := by decide
  h_S_ := by decide
  bcast_S_S512x32 := by decide
  reducesTo_S512x32_S_d0_1 := by decide

/-- A value whose magnitude is below some bound is a real. -/
theorem real_of_abs (y c : EReal) (h : Ideal.cmp .olt (max y (-y)) c = 1#1) : Real' y := by
  have hlt : max y (-y) < c := by
    by_contra hn
    simp [Ideal.cmp, hn] at h
  refine Real'.of_ne (fun e => ?_) (fun e => ?_) <;> subst e
  · exact absurd (lt_of_lt_of_le hlt le_top) (by simp)
  · exact absurd (lt_of_lt_of_le hlt le_top) (by simp)

/-- The precondition says that `x` and the router matrix hold reals. -/
theorem real_of_pre (a0 a1 a2 a3 a4) (h : Cert.Pre_finite_router_KernelIdeal.fn (F := Ideal) a0 a1 a2 a3 a4 = fun _ => 1#1) :
    (∀ i, Real' (a0 i)) ∧ ∀ i, Real' (a1 i) := by
  have h0 := congrFun h (fun a => a.elim0)
  dsimp only [Cert.Pre_finite_router_KernelIdeal.fn] at h0
  have h1 : ∀ a b : BitVec 1, IntOp.andi a b = 1#1 → a = 1#1 ∧ b = 1#1 := by decide
  obtain ⟨hx, hw⟩ := h1 _ _ h0
  have : Subsingleton Cert.Pre_finite_router_KernelIdeal.S_.Idx := ⟨fun a b => funext fun k => k.elim0⟩
  exact ⟨fun i => real_of_abs _ _ (Host.reduce_andi_all _ _ _ _ _ hx i), fun i => real_of_abs _ _ (Host.reduce_andi_all _ _ _ _ _ hw i)⟩

end Cert.MoeVal

end
-- ==== Proof.Algebraic.lean ====
module

public import proofs.«01_k».proof.Defs
public import proofs.«01_k».proof.Proof.Frames
public import proofs.«01_k».proof.Proof.Ref
public import proofs.«01_k».proof.Proof.Pre

@[expose] public section

/-! # The kernel's result is the reference's

Over the extended reals, from finite `x` and router matrix: entry by entry, what every device of the kernel leaves is what
the reference leaves. -/

noncomputable section

namespace Cert.MoeVal

open Idealize.ShloMosaic Idealize.SL.Sem
open Cert.Moe (outV ins run_read ins_x ins_rw ins_ix ins_ew ins_sw)

/-- The reference's result from a memory of the reference. -/
def refOf (m' : (ℓ : Loc Cert.ReferenceIdeal.nD Cert.ReferenceIdeal.τ Cert.ReferenceIdeal.sig) → Buf (Elt Ideal) ℓ) :
    FVec Ideal Cert.ReferenceIdeal.S2048x1024 .bf16 :=
  refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))

/-- From finite `x` and router matrix, every device of the kernel leaves the reference's result. -/
theorem algebraic : Cert.algebraic_KernelIdeal_ReferenceIdeal_pre_finite_router_KernelIdeal := fun m g m' g' hpre hag => by
  obtain ⟨hx, hrw⟩ := real_of_pre _ _ _ _ _ (hpre 0)
  refine ⟨refOf m', (θ_run Cert.KernelIdeal.defs _ _).mono (fun _ h c => ⟨(h.1 c).1.trans ?_, (h.1 c).2⟩) (run_read (F := Ideal) m g),
    (θ_run Cert.ReferenceIdeal.defs _ _).mono (fun _ h => h 0) (Cert.ReferenceIdeal.Value.run (F := Ideal) m' g')⟩
  rw [(hag 0).1] at hx
  rw [(hag 0).2.1] at hrw
  funext i
  obtain ⟨r, q, rfl⟩ : ∃ (r : Fin 2048) (q : Fin 1024), i = ix2 r q := ⟨i 0, i 1, eq_ix2 i⟩
  refine Eq.trans ?_ (refV_apply _ _ _ _ _ r q).symm
  refine outV_apply (ins m) _ _ (fun r h => hx _) (fun h e => hrw _) (fun d => (ins_x m d).trans (hag d).1) (fun d => (ins_rw m d).trans (hag d).2.1)
    (fun d => (ins_ix m d).trans (hag d).2.2.1) (fun d => (ins_sw m d).trans (hag d).2.2.2.2) (fun d k h q => ?_) r q
  rw [(ins_ew m d).trans (hag d).2.2.2.1]
  show m' _ _ = m' _ _
  refine congrArg (m' _) (funext fun a => Fin.ext ?_)
  rw [Layout.Tiles.idx_val]
  fin_cases a
  · show d.val * 4 + k.val = 4 * d.val + k.val
    omega
  · rfl
  · rfl

end Cert.MoeVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Every claim about the kernel. -/
theorem claim : Cert.Claim := ⟨Cert.Kernel.Gen.facts, Cert.KernelIdeal.Gen.facts, Cert.ReferenceIdeal.Gen.facts,
  Cert.MoeVal.preKernel, Cert.MoeVal.preReference,
  Cert.Moe.frame_kernel, Cert.Moe.frame_kernelIdeal, fun m g _ => Cert.Moe.frame_kernelIdeal m g trivial,
  Cert.Moe.frame_reference, fun m g _ => Cert.Moe.frame_reference m g trivial, trivial, Cert.MoeVal.algebraic⟩

end Cert.Proof

end
